-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v81_0)) (v1 : (c : Dev Cert.Kernel2Ideal.nD) → Buf (Elt Ideal) ((c.tc : Thread Cert.Kernel2Ideal.nD Cert.Kernel2Ideal.τ).loc Cert.Kernel2Ideal.main_v81_1)) (v2 : (c : Dev Cert.Kernel2Ideal.nD) → Buf (Elt Ideal) ((c.tc : Thread Cert.Kernel2Ideal.nD Cert.Kernel2Ideal.τ).loc Cert.Kernel2Ideal.main_v81_2)) (v3 : (c : Dev Cert.Kernel2Ideal.nD) → Buf (Elt Ideal) ((c.tc : Thread Cert.Kernel2Ideal.nD Cert.Kernel2Ideal.τ).loc Cert.Kernel2Ideal.main_v81_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v81_0) = v0 c
          ∧ r.2.mem ((c.tc : Thread Cert.Kernel2Ideal.nD Cert.Kernel2Ideal.τ).loc Cert.Kernel2Ideal.main_v81_1) = v1 c
          ∧ r.2.mem ((c.tc : Thread Cert.Kernel2Ideal.nD Cert.Kernel2Ideal.τ).loc Cert.Kernel2Ideal.main_v81_2) = v2 c
          ∧ r.2.mem ((c.tc : Thread Cert.Kernel2Ideal.nD Cert.Kernel2Ideal.τ).loc Cert.Kernel2Ideal.main_v81_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v163) = v0 c
          ∧ r.2.mem ((c.tc : Thread Cert.Reference2Ideal.nD Cert.Reference2Ideal.τ).loc Cert.Reference2Ideal.main_v164) = v1 c
          ∧ r.2.mem ((c.tc : Thread Cert.Reference2Ideal.nD Cert.Reference2Ideal.τ).loc Cert.Reference2Ideal.main_v165) = v2 c
          ∧ r.2.mem ((c.tc : Thread Cert.Reference2Ideal.nD Cert.Reference2Ideal.τ).loc Cert.Reference2Ideal.main_v166) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v14_0)) (v1 : (c : Dev Cert.Kernel3Ideal.nD) → Buf (Elt Ideal) ((c.tc : Thread Cert.Kernel3Ideal.nD Cert.Kernel3Ideal.τ).loc Cert.Kernel3Ideal.main_v14_1)) (v2 : (c : Dev Cert.Kernel3Ideal.nD) → Buf (Elt Ideal) ((c.tc : Thread Cert.Kernel3Ideal.nD Cert.Kernel3Ideal.τ).loc Cert.Kernel3Ideal.main_v14_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14_0) = v0 c
          ∧ r.2.mem ((c.tc : Thread Cert.Kernel3Ideal.nD Cert.Kernel3Ideal.τ).loc Cert.Kernel3Ideal.main_v14_1) = v1 c
          ∧ r.2.mem ((c.tc : Thread Cert.Kernel3Ideal.nD Cert.Kernel3Ideal.τ).loc Cert.Kernel3Ideal.main_v14_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v78) = v0 c
          ∧ r.2.mem ((c.tc : Thread Cert.Reference3Ideal.nD Cert.Reference3Ideal.τ).loc Cert.Reference3Ideal.main_v79) = v1 c
          ∧ r.2.mem ((c.tc : Thread Cert.Reference3Ideal.nD Cert.Reference3Ideal.τ).loc Cert.Reference3Ideal.main_v83) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S65536x1024 : Shape := ⟨2, ![65536, 1024]⟩
abbrev S512x65536 : Shape := ⟨2, ![512, 65536]⟩
abbrev S512x1 : Shape := ⟨2, ![512, 1]⟩
abbrev S65536x512 : Shape := ⟨2, ![65536, 512]⟩
abbrev S512x256 : Shape := ⟨2, ![512, 256]⟩
abbrev S4096x256 : Shape := ⟨2, ![4096, 256]⟩
abbrev S128x4096 : Shape := ⟨2, ![128, 4096]⟩
abbrev S128x1 : Shape := ⟨2, ![128, 1]⟩
abbrev S512x128 : Shape := ⟨2, ![512, 128]⟩
abbrev S2x4096x512 : Shape := ⟨3, ![2, 4096, 512]⟩
abbrev S2x1x512 : Shape := ⟨3, ![2, 1, 512]⟩
abbrev S16x4096 : Shape := ⟨2, ![16, 4096]⟩
abbrev S1x4096x512 : Shape := ⟨3, ![1, 4096, 512]⟩
abbrev S4096x512 : Shape := ⟨2, ![4096, 512]⟩
abbrev S1x1x512 : Shape := ⟨3, ![1, 1, 512]⟩
abbrev S1x512 : Shape := ⟨2, ![1, 512]⟩
abbrev S64x4096 : Shape := ⟨2, ![64, 4096]⟩
abbrev S80x4096 : Shape := ⟨2, ![80, 4096]⟩
abbrev S80x512 : Shape := ⟨2, ![80, 512]⟩
abbrev S64x512 : Shape := ⟨2, ![64, 512]⟩
abbrev S512 : Shape := ⟨1, ![512]⟩
abbrev S64x1 : Shape := ⟨2, ![64, 1]⟩
abbrev S128x512 : Shape := ⟨2, ![128, 512]⟩
abbrev S4096x128 : Shape := ⟨2, ![4096, 128]⟩

abbrev nBuf : Space → Nat
  | .hbm => 5
  | .vmem => 14
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .bf16⟩
  | .hbm, ⟨2, _⟩ => ⟨S512x65536, .bf16⟩
  | .hbm, ⟨3, _⟩ => ⟨S512x1, .f32⟩
  | .hbm, ⟨4, _⟩ => ⟨S65536x512, .bf16⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S128x4096, .bf16⟩
  | .local _ .vmem, ⟨5, _⟩ => ⟨S128x4096, .bf16⟩
  | .local _ .vmem, ⟨6, _⟩ => ⟨S128x1, .f32⟩
  | .local _ .vmem, ⟨7, _⟩ => ⟨S128x1, .f32⟩
  | .local _ .vmem, ⟨8, _⟩ => ⟨S512x128, .bf16⟩
  | .local _ .vmem, ⟨9, _⟩ => ⟨S512x128, .bf16⟩
  | .local _ .vmem, ⟨10, _⟩ => ⟨S2x4096x512, .f32⟩
  | .local _ .vmem, ⟨11, _⟩ => ⟨S2x1x512, .f32⟩
  | .local _ .vmem, ⟨12, _⟩ => ⟨S2x4096x512, .f32⟩
  | .local _ .vmem, ⟨13, _⟩ => ⟨S2x1x512, .f32⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![513], ![false]⟩

def k0_cond2 (i : grid0.Coords) : BitVec 1 :=
  let arg0 : BitVec 32 := BitVec.ofNat 32 (i 0).val
  let c512_i32 : BitVec 32 := 512#32
  let v3 : BitVec 1 := Scalar.cmpi .slt arg0 c512_i32
  let c2_i32 : BitVec 32 := 2#32
  let c0_i32_1 : BitVec 32 := 0#32
  let v4 : BitVec 1 := Scalar.cmpi .eq c2_i32 c0_i32_1
  let c1_i32 : BitVec 32 := 1#32
  let v5 : BitVec 32 := Scalar.select v4 c1_i32 c2_i32
  let v6 : BitVec 32 := Scalar.remsi arg0 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c0_i32_5 : BitVec 32 := 0#32
  let v14 : BitVec 1 := Scalar.cmpi .eq v13 c0_i32_5
  let v15 : BitVec 1 := Scalar.andi v3 v14
  let v16 : BitVec 32 := Scalar.extui v15
  let c0_i32_6 : BitVec 32 := 0#32
  let v17 : BitVec 1 := Scalar.cmpi .ne v16 c0_i32_6
  v17

def k0_cond3 (i : grid0.Coords) : BitVec 1 :=
  let arg0 : BitVec 32 := BitVec.ofNat 32 (i 0).val
  let c512_i32_7 : BitVec 32 := 512#32
  let v18 : BitVec 1 := Scalar.cmpi .slt arg0 c512_i32_7
  let c2_i32_8 : BitVec 32 := 2#32
  let c0_i32_9 : BitVec 32 := 0#32
  let v19 : BitVec 1 := Scalar.cmpi .eq c2_i32_8 c0_i32_9
  let c1_i32_10 : BitVec 32 := 1#32
  let v20 : BitVec 32 := Scalar.select v19 c1_i32_10 c2_i32_8
  let v21 : BitVec 32 := Scalar.remsi arg0 v20
  let c0_i32_12 : BitVec 32 := 0#32
  let v23 : BitVec 1 := Scalar.cmpi .slt v21 c0_i32_12
  let c0_i32_13 : BitVec 32 := 0#32
  let v24 : BitVec 1 := Scalar.cmpi .slt v20 c0_i32_13
  let v25 : BitVec 1 := Scalar.xori v23 v24
  let c0_i32_11 : BitVec 32 := 0#32
  let v22 : BitVec 1 := Scalar.cmpi .ne v21 c0_i32_11
  let v26 : BitVec 1 := Scalar.andi v25 v22
  let v27 : BitVec 32 := Scalar.addi v21 v20
  let v28 : BitVec 32 := Scalar.select v26 v27 v21
  let c1_i32_14 : BitVec 32 := 1#32
  let v29 : BitVec 1 := Scalar.cmpi .eq v28 c1_i32_14
  let v30 : BitVec 1 := Scalar.andi v18 v29
  let v31 : BitVec 32 := Scalar.extui v30
  let c0_i32_15 : BitVec 32 := 0#32
  let v32 : BitVec 1 := Scalar.cmpi .ne v31 c0_i32_15
  v32

def k0_cond4 (i : grid0.Coords) : BitVec 1 :=
  let arg0 : BitVec 32 := BitVec.ofNat 32 (i 0).val
  let c512_i32_16 : BitVec 32 := 512#32
  let v33 : BitVec 1 := Scalar.cmpi .eq arg0 c512_i32_16
  let v34 : BitVec 32 := Scalar.extui v33
  let c0_i32_17 : BitVec 32 := 0#32
  let v35 : BitVec 1 := Scalar.cmpi .ne v34 c0_i32_17
  v35

def cc0_transform_0 (i : grid0.Coords) : Fin 2 → Nat :=
  let arg0 : BitVec 32 := BitVec.ofNat 32 (i 0).val
  let c0_i32 : BitVec 32 := 0#32
  let c511_i32 : BitVec 32 := 511#32
  let v0 : BitVec 32 := Scalar.maxsi c0_i32 arg0
  let v1 : BitVec 32 := Scalar.minsi c511_i32 v0
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32 : BitVec 32 := 8#32
  let v19 : BitVec 32 := Scalar.divsi v1 c8_i32
  let c0_i32_5 : BitVec 32 := 0#32
  let v20 : BitVec 1 := Scalar.cmpi .sgt v1 c0_i32_5
  let v21 : BitVec 32 := Scalar.extui v20
  let c0_i32_6 : BitVec 32 := 0#32
  let v22 : BitVec 1 := Scalar.cmpi .slt v1 c0_i32_6
  let v23 : BitVec 32 := Scalar.extui v22
  let v24 : BitVec 32 := Scalar.subi v21 v23
  let c0_i32_7 : BitVec 32 := 0#32
  let v25 : BitVec 1 := Scalar.cmpi .sgt c8_i32 c0_i32_7
  let v26 : BitVec 32 := Scalar.extui v25
  let c0_i32_8 : BitVec 32 := 0#32
  let v27 : BitVec 1 := Scalar.cmpi .slt c8_i32 c0_i32_8
  let v28 : BitVec 32 := Scalar.extui v27
  let v29 : BitVec 32 := Scalar.subi v26 v28
  let v30 : BitVec 1 := Scalar.cmpi .ne v24 v29
  let v31 : BitVec 32 := Scalar.remsi v1 c8_i32
  let c0_i32_9 : BitVec 32 := 0#32
  let v32 : BitVec 1 := Scalar.cmpi .ne v31 c0_i32_9
  let v33 : BitVec 1 := Scalar.andi v30 v32
  let c1_i32_10 : BitVec 32 := 1#32
  let v34 : BitVec 32 := Scalar.subi v19 c1_i32_10
  let v35 : BitVec 32 := Scalar.select v33 v34 v19
  let c4_i32 : BitVec 32 := 4#32
  let c0_i32_11 : BitVec 32 := 0#32
  let v36 : BitVec 1 := Scalar.cmpi .eq c4_i32 c0_i32_11
  let c1_i32_12 : BitVec 32 := 1#32
  let v37 : BitVec 32 := Scalar.select v36 c1_i32_12 c4_i32
  let v38 : BitVec 32 := Scalar.remsi v35 v37
  let c0_i32_13 : BitVec 32 := 0#32
  let v39 : BitVec 1 := Scalar.cmpi .ne v38 c0_i32_13
  let c0_i32_14 : BitVec 32 := 0#32
  let v40 : BitVec 1 := Scalar.cmpi .slt v38 c0_i32_14
  let c0_i32_15 : BitVec 32 := 0#32
  let v41 : BitVec 1 := Scalar.cmpi .slt v37 c0_i32_15
  let v42 : BitVec 1 := Scalar.xori v40 v41
  let v43 : BitVec 1 := Scalar.andi v42 v39
  let v44 : BitVec 32 := Scalar.addi v38 v37
  let v45 : BitVec 32 := Scalar.select v43 v44 v38
  let c8_i32_16 : BitVec 32 := 8#32
  let c0_i32_17 : BitVec 32 := 0#32
  let v46 : BitVec 1 := Scalar.cmpi .eq c8_i32_16 c0_i32_17
  let c1_i32_18 : BitVec 32 := 1#32
  let v47 : BitVec 32 := Scalar.select v46 c1_i32_18 c8_i32_16
  let v48 : BitVec 32 := Scalar.remsi v1 v47
  let c0_i32_19 : BitVec 32 := 0#32
  let v49 : BitVec 1 := Scalar.cmpi .ne v48 c0_i32_19
  let c0_i32_20 : BitVec 32 := 0#32
  let v50 : BitVec 1 := Scalar.cmpi .slt v48 c0_i32_20
  let c0_i32_21 : BitVec 32 := 0#32
  let v51 : BitVec 1 := Scalar.cmpi .slt v47 c0_i32_21
  let v52 : BitVec 1 := Scalar.xori v50 v51
  let v53 : BitVec 1 := Scalar.andi v52 v49
  let v54 : BitVec 32 := Scalar.addi v48 v47
  let v55 : BitVec 32 := Scalar.select v53 v54 v48
  let c8_i32_22 : BitVec 32 := 8#32
  let v56 : BitVec 32 := Scalar.muli v18 c8_i32_22
  let v57 : BitVec 32 := Scalar.addi v56 v55
  let c0_i32_23 : BitVec 32 := 0#32
  ![v57.toNat, v45.toNat]

def cc0_transform_1 (i : grid0.Coords) : Fin 2 → Nat :=
  let arg0 : BitVec 32 := BitVec.ofNat 32 (i 0).val
  let c0_i32 : BitVec 32 := 0#32
  let c511_i32 : BitVec 32 := 511#32
  let v0 : BitVec 32 := Scalar.maxsi c0_i32 arg0
  let v1 : BitVec 32 := Scalar.minsi c511_i32 v0
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32 : BitVec 32 := 8#32
  let v19 : BitVec 32 := Scalar.divsi v1 c8_i32
  let c0_i32_5 : BitVec 32 := 0#32
  let v20 : BitVec 1 := Scalar.cmpi .sgt v1 c0_i32_5
  let v21 : BitVec 32 := Scalar.extui v20
  let c0_i32_6 : BitVec 32 := 0#32
  let v22 : BitVec 1 := Scalar.cmpi .slt v1 c0_i32_6
  let v23 : BitVec 32 := Scalar.extui v22
  let v24 : BitVec 32 := Scalar.subi v21 v23
  let c0_i32_7 : BitVec 32 := 0#32
  let v25 : BitVec 1 := Scalar.cmpi .sgt c8_i32 c0_i32_7
  let v26 : BitVec 32 := Scalar.extui v25
  let c0_i32_8 : BitVec 32 := 0#32
  let v27 : BitVec 1 := Scalar.cmpi .slt c8_i32 c0_i32_8
  let v28 : BitVec 32 := Scalar.extui v27
  let v29 : BitVec 32 := Scalar.subi v26 v28
  let v30 : BitVec 1 := Scalar.cmpi .ne v24 v29
  let v31 : BitVec 32 := Scalar.remsi v1 c8_i32
  let c0_i32_9 : BitVec 32 := 0#32
  let v32 : BitVec 1 := Scalar.cmpi .ne v31 c0_i32_9
  let v33 : BitVec 1 := Scalar.andi v30 v32
  let c1_i32_10 : BitVec 32 := 1#32
  let v34 : BitVec 32 := Scalar.subi v19 c1_i32_10
  let v35 : BitVec 32 := Scalar.select v33 v34 v19
  let c4_i32 : BitVec 32 := 4#32
  let c0_i32_11 : BitVec 32 := 0#32
  let v36 : BitVec 1 := Scalar.cmpi .eq c4_i32 c0_i32_11
  let c1_i32_12 : BitVec 32 := 1#32
  let v37 : BitVec 32 := Scalar.select v36 c1_i32_12 c4_i32
  let v38 : BitVec 32 := Scalar.remsi v35 v37
  let c0_i32_13 : BitVec 32 := 0#32
  let v39 : BitVec 1 := Scalar.cmpi .ne v38 c0_i32_13
  let c0_i32_14 : BitVec 32 := 0#32
  let v40 : BitVec 1 := Scalar.cmpi .slt v38 c0_i32_14
  let c0_i32_15 : BitVec 32 := 0#32
  let v41 : BitVec 1 := Scalar.cmpi .slt v37 c0_i32_15
  let v42 : BitVec 1 := Scalar.xori v40 v41
  let v43 : BitVec 1 := Scalar.andi v42 v39
  let v44 : BitVec 32 := Scalar.addi v38 v37
  let v45 : BitVec 32 := Scalar.select v43 v44 v38
  let c8_i32_16 : BitVec 32 := 8#32
  let c0_i32_17 : BitVec 32 := 0#32
  let v46 : BitVec 1 := Scalar.cmpi .eq c8_i32_16 c0_i32_17
  let c1_i32_18 : BitVec 32 := 1#32
  let v47 : BitVec 32 := Scalar.select v46 c1_i32_18 c8_i32_16
  let v48 : BitVec 32 := Scalar.remsi v1 v47
  let c0_i32_19 : BitVec 32 := 0#32
  let v49 : BitVec 1 := Scalar.cmpi .ne v48 c0_i32_19
  let c0_i32_20 : BitVec 32 := 0#32
  let v50 : BitVec 1 := Scalar.cmpi .slt v48 c0_i32_20
  let c0_i32_21 : BitVec 32 := 0#32
  let v51 : BitVec 1 := Scalar.cmpi .slt v47 c0_i32_21
  let v52 : BitVec 1 := Scalar.xori v50 v51
  let v53 : BitVec 1 := Scalar.andi v52 v49
  let v54 : BitVec 32 := Scalar.addi v48 v47
  let v55 : BitVec 32 := Scalar.select v53 v54 v48
  let c0_i32_22 : BitVec 32 := 0#32
  ![v18.toNat, v45.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c511_i32 : BitVec 32 := 511#32
  let v1 : BitVec 32 := Scalar.maxsi c0_i32 v0
  let v2 : BitVec 32 := Scalar.minsi c511_i32 v1
  let c32_i32 : BitVec 32 := 32#32
  let v3 : BitVec 32 := Scalar.divsi v2 c32_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c32_i32 c0_i32_2
  let v10 : BitVec 32 := Scalar.extui v9
  let c0_i32_3 : BitVec 32 := 0#32
  let v11 : BitVec 1 := Scalar.cmpi .slt c32_i32 c0_i32_3
  let v12 : BitVec 32 := Scalar.extui v11
  let v13 : BitVec 32 := Scalar.subi v10 v12
  let v14 : BitVec 1 := Scalar.cmpi .ne v8 v13
  let v15 : BitVec 32 := Scalar.remsi v2 c32_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c8_i32 : BitVec 32 := 8#32
  let v20 : BitVec 32 := Scalar.divsi v2 c8_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c0_i32_8 : BitVec 32 := 0#32
  let v26 : BitVec 1 := Scalar.cmpi .sgt c8_i32 c0_i32_8
  let v27 : BitVec 32 := Scalar.extui v26
  let c0_i32_9 : BitVec 32 := 0#32
  let v28 : BitVec 1 := Scalar.cmpi .slt c8_i32 c0_i32_9
  let v29 : BitVec 32 := Scalar.extui v28
  let v30 : BitVec 32 := Scalar.subi v27 v29
  let v31 : BitVec 1 := Scalar.cmpi .ne v25 v30
  let v32 : BitVec 32 := Scalar.remsi v2 c8_i32
  let c0_i32_10 : BitVec 32 := 0#32
  let v33 : BitVec 1 := Scalar.cmpi .ne v32 c0_i32_10
  let v34 : BitVec 1 := Scalar.andi v31 v33
  let c1_i32_11 : BitVec 32 := 1#32
  let v35 : BitVec 32 := Scalar.subi v20 c1_i32_11
  let v36 : BitVec 32 := Scalar.select v34 v35 v20
  let c4_i32 : BitVec 32 := 4#32
  let c0_i32_12 : BitVec 32 := 0#32
  let v37 : BitVec 1 := Scalar.cmpi .eq c4_i32 c0_i32_12
  let c1_i32_13 : BitVec 32 := 1#32
  let v38 : BitVec 32 := Scalar.select v37 c1_i32_13 c4_i32
  let v39 : BitVec 32 := Scalar.remsi v36 v38
  let c0_i32_14 : BitVec 32 := 0#32
  let v40 : BitVec 1 := Scalar.cmpi .ne v39 c0_i32_14
  let c0_i32_15 : BitVec 32 := 0#32
  let v41 : BitVec 1 := Scalar.cmpi .slt v39 c0_i32_15
  let c0_i32_16 : BitVec 32 := 0#32
  let v42 : BitVec 1 := Scalar.cmpi .slt v38 c0_i32_16
  let v43 : BitVec 1 := Scalar.xori v41 v42
  let v44 : BitVec 1 := Scalar.andi v43 v40
  let v45 : BitVec 32 := Scalar.addi v39 v38
  let v46 : BitVec 32 := Scalar.select v44 v45 v39
  let c8_i32_17 : BitVec 32 := 8#32
  let c0_i32_18 : BitVec 32 := 0#32
  let v47 : BitVec 1 := Scalar.cmpi .eq c8_i32_17 c0_i32_18
  let c1_i32_19 : BitVec 32 := 1#32
  let v48 : BitVec 32 := Scalar.select v47 c1_i32_19 c8_i32_17
  let v49 : BitVec 32 := Scalar.remsi v2 v48
  let c0_i32_20 : BitVec 32 := 0#32
  let v50 : BitVec 1 := Scalar.cmpi .ne v49 c0_i32_20
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let v54 : BitVec 1 := Scalar.andi v53 v50
  let v55 : BitVec 32 := Scalar.addi v49 v48
  let v56 : BitVec 32 := Scalar.select v54 v55 v49
  let c0_i32_23 : BitVec 32 := 0#32
  ![v46.toNat, v19.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c511_i32 : BitVec 32 := 511#32
  let v1 : BitVec 32 := Scalar.maxsi c0_i32 v0
  let v2 : BitVec 32 := Scalar.minsi c511_i32 v1
  let c32_i32 : BitVec 32 := 32#32
  let v3 : BitVec 32 := Scalar.divsi v2 c32_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c32_i32 c0_i32_2
  let v10 : BitVec 32 := Scalar.extui v9
  let c0_i32_3 : BitVec 32 := 0#32
  let v11 : BitVec 1 := Scalar.cmpi .slt c32_i32 c0_i32_3
  let v12 : BitVec 32 := Scalar.extui v11
  let v13 : BitVec 32 := Scalar.subi v10 v12
  let v14 : BitVec 1 := Scalar.cmpi .ne v8 v13
  let v15 : BitVec 32 := Scalar.remsi v2 c32_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c8_i32 : BitVec 32 := 8#32
  let v20 : BitVec 32 := Scalar.divsi v2 c8_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c0_i32_8 : BitVec 32 := 0#32
  let v26 : BitVec 1 := Scalar.cmpi .sgt c8_i32 c0_i32_8
  let v27 : BitVec 32 := Scalar.extui v26
  let c0_i32_9 : BitVec 32 := 0#32
  let v28 : BitVec 1 := Scalar.cmpi .slt c8_i32 c0_i32_9
  let v29 : BitVec 32 := Scalar.extui v28
  let v30 : BitVec 32 := Scalar.subi v27 v29
  let v31 : BitVec 1 := Scalar.cmpi .ne v25 v30
  let v32 : BitVec 32 := Scalar.remsi v2 c8_i32
  let c0_i32_10 : BitVec 32 := 0#32
  let v33 : BitVec 1 := Scalar.cmpi .ne v32 c0_i32_10
  let v34 : BitVec 1 := Scalar.andi v31 v33
  let c1_i32_11 : BitVec 32 := 1#32
  let v35 : BitVec 32 := Scalar.subi v20 c1_i32_11
  let v36 : BitVec 32 := Scalar.select v34 v35 v20
  let c4_i32 : BitVec 32 := 4#32
  let c0_i32_12 : BitVec 32 := 0#32
  let v37 : BitVec 1 := Scalar.cmpi .eq c4_i32 c0_i32_12
  let c1_i32_13 : BitVec 32 := 1#32
  let v38 : BitVec 32 := Scalar.select v37 c1_i32_13 c4_i32
  let v39 : BitVec 32 := Scalar.remsi v36 v38
  let c0_i32_14 : BitVec 32 := 0#32
  let v40 : BitVec 1 := Scalar.cmpi .ne v39 c0_i32_14
  let c0_i32_15 : BitVec 32 := 0#32
  let v41 : BitVec 1 := Scalar.cmpi .slt v39 c0_i32_15
  let c0_i32_16 : BitVec 32 := 0#32
  let v42 : BitVec 1 := Scalar.cmpi .slt v38 c0_i32_16
  let v43 : BitVec 1 := Scalar.xori v41 v42
  let v44 : BitVec 1 := Scalar.andi v43 v40
  let v45 : BitVec 32 := Scalar.addi v39 v38
  let v46 : BitVec 32 := Scalar.select v44 v45 v39
  let c8_i32_17 : BitVec 32 := 8#32
  let c0_i32_18 : BitVec 32 := 0#32
  let v47 : BitVec 1 := Scalar.cmpi .eq c8_i32_17 c0_i32_18
  let c1_i32_19 : BitVec 32 := 1#32
  let v48 : BitVec 32 := Scalar.select v47 c1_i32_19 c8_i32_17
  let v49 : BitVec 32 := Scalar.remsi v2 v48
  let c0_i32_20 : BitVec 32 := 0#32
  let v50 : BitVec 1 := Scalar.cmpi .ne v49 c0_i32_20
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let v54 : BitVec 1 := Scalar.andi v53 v50
  let v55 : BitVec 32 := Scalar.addi v49 v48
  let v56 : BitVec 32 := Scalar.select v54 v55 v49
  let c0_i32_23 : BitVec 32 := 0#32
  let c0_i32_24 : BitVec 32 := 0#32
  ![v46.toNat, c0_i32_23.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c511_i32 : BitVec 32 := 511#32
  let v1 : BitVec 32 := Scalar.maxsi c0_i32 v0
  let v2 : BitVec 32 := Scalar.minsi c511_i32 v1
  let c32_i32 : BitVec 32 := 32#32
  let v3 : BitVec 32 := Scalar.divsi v2 c32_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c32_i32 c0_i32_2
  let v10 : BitVec 32 := Scalar.extui v9
  let c0_i32_3 : BitVec 32 := 0#32
  let v11 : BitVec 1 := Scalar.cmpi .slt c32_i32 c0_i32_3
  let v12 : BitVec 32 := Scalar.extui v11
  let v13 : BitVec 32 := Scalar.subi v10 v12
  let v14 : BitVec 1 := Scalar.cmpi .ne v8 v13
  let v15 : BitVec 32 := Scalar.remsi v2 c32_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c8_i32 : BitVec 32 := 8#32
  let v20 : BitVec 32 := Scalar.divsi v2 c8_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c0_i32_8 : BitVec 32 := 0#32
  let v26 : BitVec 1 := Scalar.cmpi .sgt c8_i32 c0_i32_8
  let v27 : BitVec 32 := Scalar.extui v26
  let c0_i32_9 : BitVec 32 := 0#32
  let v28 : BitVec 1 := Scalar.cmpi .slt c8_i32 c0_i32_9
  let v29 : BitVec 32 := Scalar.extui v28
  let v30 : BitVec 32 := Scalar.subi v27 v29
  let v31 : BitVec 1 := Scalar.cmpi .ne v25 v30
  let v32 : BitVec 32 := Scalar.remsi v2 c8_i32
  let c0_i32_10 : BitVec 32 := 0#32
  let v33 : BitVec 1 := Scalar.cmpi .ne v32 c0_i32_10
  let v34 : BitVec 1 := Scalar.andi v31 v33
  let c1_i32_11 : BitVec 32 := 1#32
  let v35 : BitVec 32 := Scalar.subi v20 c1_i32_11
  let v36 : BitVec 32 := Scalar.select v34 v35 v20
  let c4_i32 : BitVec 32 := 4#32
  let c0_i32_12 : BitVec 32 := 0#32
  let v37 : BitVec 1 := Scalar.cmpi .eq c4_i32 c0_i32_12
  let c1_i32_13 : BitVec 32 := 1#32
  let v38 : BitVec 32 := Scalar.select v37 c1_i32_13 c4_i32
  let v39 : BitVec 32 := Scalar.remsi v36 v38
  let c0_i32_14 : BitVec 32 := 0#32
  let v40 : BitVec 1 := Scalar.cmpi .ne v39 c0_i32_14
  let c0_i32_15 : BitVec 32 := 0#32
  let v41 : BitVec 1 := Scalar.cmpi .slt v39 c0_i32_15
  let c0_i32_16 : BitVec 32 := 0#32
  let v42 : BitVec 1 := Scalar.cmpi .slt v38 c0_i32_16
  let v43 : BitVec 1 := Scalar.xori v41 v42
  let v44 : BitVec 1 := Scalar.andi v43 v40
  let v45 : BitVec 32 := Scalar.addi v39 v38
  let v46 : BitVec 32 := Scalar.select v44 v45 v39
  let c8_i32_17 : BitVec 32 := 8#32
  let c0_i32_18 : BitVec 32 := 0#32
  let v47 : BitVec 1 := Scalar.cmpi .eq c8_i32_17 c0_i32_18
  let c1_i32_19 : BitVec 32 := 1#32
  let v48 : BitVec 32 := Scalar.select v47 c1_i32_19 c8_i32_17
  let v49 : BitVec 32 := Scalar.remsi v2 v48
  let c0_i32_20 : BitVec 32 := 0#32
  let v50 : BitVec 1 := Scalar.cmpi .ne v49 c0_i32_20
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let v54 : BitVec 1 := Scalar.andi v53 v50
  let v55 : BitVec 32 := Scalar.addi v49 v48
  let v56 : BitVec 32 := Scalar.select v54 v55 v49
  let c8_i32_23 : BitVec 32 := 8#32
  let v57 : BitVec 32 := Scalar.muli v19 c8_i32_23
  let v58 : BitVec 32 := Scalar.addi v57 v56
  let c0_i32_24 : BitVec 32 := 0#32
  ![v58.toNat, v46.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S65536x1024 : Shape := ⟨2, ![65536, 1024]⟩
abbrev S512x65536 : Shape := ⟨2, ![512, 65536]⟩
abbrev S512x1 : Shape := ⟨2, ![512, 1]⟩
abbrev S16x4096x8x128 : Shape := ⟨4, ![16, 4096, 8, 128]⟩
abbrev S65536x512 : Shape := ⟨2, ![65536, 512]⟩
abbrev S16x4096x8x64 : Shape := ⟨4, ![16, 4096, 8, 64]⟩
abbrev S16x8x4096x4096 : Shape := ⟨4, ![16, 8, 4096, 4096]⟩
abbrev S_ : Shape := ⟨0, ![]⟩
abbrev S16x8x4096 : Shape := ⟨3, ![16, 8, 4096]⟩
abbrev S16x8x4096x1 : Shape := ⟨4, ![16, 8, 4096, 1]⟩
abbrev S16x8x64x4096 : Shape := ⟨4, ![16, 8, 64, 4096]⟩
abbrev S16x4096x8 : Shape := ⟨3, ![16, 4096, 8]⟩
abbrev S16x4096x8x1 : Shape := ⟨4, ![16, 4096, 8, 1]⟩
abbrev S8x64 : Shape := ⟨2, ![8, 64]⟩
abbrev S1x1x8x64 : Shape := ⟨4, ![1, 1, 8, 64]⟩

abbrev nBuf : Space → Nat
  | .hbm => 51
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .bf16⟩
  | .hbm, ⟨2, _⟩ => ⟨S512x65536, .bf16⟩
  | .hbm, ⟨3, _⟩ => ⟨S512x1, .f32⟩
  | .hbm, ⟨4, _⟩ => ⟨S16x4096x8x128, .bf16⟩
  | .hbm, ⟨5, _⟩ => ⟨S16x4096x8x128, .bf16⟩
  | .hbm, ⟨6, _⟩ => ⟨S65536x512, .bf16⟩
  | .hbm, ⟨7, _⟩ => ⟨S16x4096x8x64, .bf16⟩
  | .hbm, ⟨8, _⟩ => ⟨S16x8x4096x4096, .f32⟩
  | .hbm, ⟨9, _⟩ => ⟨S_, .f32⟩
  | .hbm, ⟨10, _⟩ => ⟨S_, .f32⟩
  | .hbm, ⟨11, _⟩ => ⟨S16x8x4096x4096, .f32⟩
  | .hbm, ⟨12, _⟩ => ⟨S16x8x4096x4096, .f32⟩
  | .hbm, ⟨13, _⟩ => ⟨S_, .f32⟩
  | .hbm, ⟨14, _⟩ => ⟨S16x8x4096, .f32⟩
  | .hbm, ⟨15, _⟩ => ⟨S_, .f32⟩
  | .hbm, ⟨16, _⟩ => ⟨S16x8x4096, .f32⟩
  | .hbm, ⟨17, _⟩ => ⟨S16x8x4096, .f32⟩
  | .hbm, ⟨18, _⟩ => ⟨S16x8x4096x1, .f32⟩
  | .hbm, ⟨19, _⟩ => ⟨S16x8x4096x4096, .f32⟩
  | .hbm, ⟨20, _⟩ => ⟨S16x8x4096x4096, .f32⟩
  | .hbm, ⟨21, _⟩ => ⟨S16x8x4096x4096, .f32⟩
  | .hbm, ⟨22, _⟩ => ⟨S_, .f32⟩
  | .hbm, ⟨23, _⟩ => ⟨S16x8x4096, .f32⟩
  | .hbm, ⟨24, _⟩ => ⟨S16x8x4096x1, .f32⟩
  | .hbm, ⟨25, _⟩ => ⟨S16x8x4096x4096, .f32⟩
  | .hbm, ⟨26, _⟩ => ⟨S16x8x4096x4096, .f32⟩
  | .hbm, ⟨27, _⟩ => ⟨S16x8x4096x4096, .bf16⟩
  | .hbm, ⟨28, _⟩ => ⟨S16x8x64x4096, .f32⟩
  | .hbm, ⟨29, _⟩ => ⟨S16x4096x8x64, .f32⟩
  | .hbm, ⟨30, _⟩ => ⟨S16x4096x8x64, .bf16⟩
  | .hbm, ⟨31, _⟩ => ⟨S16x4096x8x64, .f32⟩
  | .hbm, ⟨32, _⟩ => ⟨S16x4096x8x64, .f32⟩
  | .hbm, ⟨33, _⟩ => ⟨S_, .f32⟩
  | .hbm, ⟨34, _⟩ => ⟨S16x4096x8, .f32⟩
  | .hbm, ⟨35, _⟩ => ⟨S16x4096x8x1, .f32⟩
  | .hbm, ⟨36, _⟩ => ⟨S_, .f32⟩
  | .hbm, ⟨37, _⟩ => ⟨S16x4096x8x1, .f32⟩
  | .hbm, ⟨38, _⟩ => ⟨S16x4096x8x1, .f32⟩
  | .hbm, ⟨39, _⟩ => ⟨S_, .f32⟩
  | .hbm, ⟨40, _⟩ => ⟨S16x4096x8x1, .f32⟩
  | .hbm, ⟨41, _⟩ => ⟨S16x4096x8x1, .f32⟩
  | .hbm, ⟨42, _⟩ => ⟨S16x4096x8x1, .f32⟩
  | .hbm, ⟨43, _⟩ => ⟨S16x4096x8x64, .f32⟩
  | .hbm, ⟨44, _⟩ => ⟨S16x4096x8x64, .f32⟩
  | .hbm, ⟨45, _⟩ => ⟨S8x64, .f32⟩
  | .hbm, ⟨46, _⟩ => ⟨S1x1x8x64, .f32⟩
  | .hbm, ⟨47, _⟩ => ⟨S16x4096x8x64, .f32⟩
  | .hbm, ⟨48, _⟩ => ⟨S16x4096x8x64, .f32⟩
  | .hbm, ⟨49, _⟩ => ⟨S65536x512, .f32⟩
  | .hbm, ⟨50, _⟩ => ⟨S65536x512, .bf16⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Kernel2.lean ====
abbrev S16x4096x1024 : Shape := ⟨3, ![16, 4096, 1024]⟩
abbrev S1024 : Shape := ⟨1, ![1024]⟩
abbrev S1x1024x1952 : Shape := ⟨3, ![1, 1024, 1952]⟩
abbrev S1x256 : Shape := ⟨2, ![1, 256]⟩
abbrev S1x256x768 : Shape := ⟨3, ![1, 256, 768]⟩
abbrev S1x128 : Shape := ⟨2, ![1, 128]⟩
abbrev S1x128x1024 : Shape := ⟨3, ![1, 128, 1024]⟩
abbrev S1x3x1536 : Shape := ⟨3, ![1, 3, 1536]⟩
abbrev S1x1536 : Shape := ⟨2, ![1, 1536]⟩
abbrev S65536x1024 : Shape := ⟨2, ![65536, 1024]⟩
abbrev S1x1024 : Shape := ⟨2, ![1, 1024]⟩
abbrev S1024x1952 : Shape := ⟨2, ![1024, 1952]⟩
abbrev S1024x32 : Shape := ⟨2, ![1024, 32]⟩
abbrev S1024x384 : Shape := ⟨2, ![1024, 384]⟩
abbrev S_ : Shape := ⟨0, ![]⟩
abbrev S1024x128 : Shape := ⟨2, ![1024, 128]⟩
abbrev S1024x16 : Shape := ⟨2, ![1024, 16]⟩
abbrev S1024x1536 : Shape := ⟨2, ![1024, 1536]⟩
abbrev S1024x2176 : Shape := ⟨2, ![1024, 2176]⟩
abbrev S256x768 : Shape := ⟨2, ![256, 768]⟩
abbrev S256x8x96 : Shape := ⟨3, ![256, 8, 96]⟩
abbrev S256x8x128 : Shape := ⟨3, ![256, 8, 128]⟩
abbrev S256x1024 : Shape := ⟨2, ![256, 1024]⟩
abbrev S256x8x32 : Shape := ⟨3, ![256, 8, 32]⟩
abbrev S256x8x16 : Shape := ⟨3, ![256, 8, 16]⟩
abbrev S128x1024 : Shape := ⟨2, ![128, 1024]⟩
abbrev S128x8x128 : Shape := ⟨3, ![128, 8, 128]⟩
abbrev S128x8x64 : Shape := ⟨3, ![128, 8, 64]⟩
abbrev S128x512 : Shape := ⟨2, ![128, 512]⟩
abbrev S512x128 : Shape := ⟨2, ![512, 128]⟩
abbrev S16 : Shape := ⟨1, ![16]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S4096x64 : Shape := ⟨2, ![4096, 64]⟩
abbrev S4096x128 : Shape := ⟨2, ![4096, 128]⟩
abbrev S256 : Shape := ⟨1, ![256]⟩
abbrev S128 : Shape := ⟨1, ![128]⟩
abbrev S3x1536 : Shape := ⟨2, ![3, 1536]⟩
abbrev S1536 : Shape := ⟨1, ![1536]⟩
abbrev S512x65536 : Shape := ⟨2, ![512, 65536]⟩
abbrev S1536x65536 : Shape := ⟨2, ![1536, 65536]⟩
abbrev S8x1024 : Shape := ⟨2, ![8, 1024]⟩
abbrev S256x128 : Shape := ⟨2, ![256, 128]⟩
abbrev S512x256 : Shape := ⟨2, ![512, 256]⟩
abbrev S1536x256 : Shape := ⟨2, ![1536, 256]⟩
abbrev S256x1 : Shape := ⟨2, ![256, 1]⟩
abbrev S256x2176 : Shape := ⟨2, ![256, 2176]⟩
abbrev S256x256 : Shape := ⟨2, ![256, 256]⟩
abbrev S256x1536 : Shape := ⟨2, ![256, 1536]⟩
abbrev S16x1024 : Shape := ⟨2, ![16, 1024]⟩
abbrev S16x1 : Shape := ⟨2, ![16, 1]⟩
abbrev S16x1536 : Shape := ⟨2, ![16, 1536]⟩

abbrev nBuf : Space → Nat
  | .hbm => 120
  | .vmem => 33
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024, .f32⟩
  | .hbm, ⟨3, _⟩ => ⟨S1x1024x1952, .f32⟩
  | .hbm, ⟨4, _⟩ => ⟨S1x256, .f32⟩
  | .hbm, ⟨5, _⟩ => ⟨S1x256x768, .f32⟩
  | .hbm, ⟨6, _⟩ => ⟨S1x128, .f32⟩
  | .hbm, ⟨7, _⟩ => ⟨S1x128x1024, .f32⟩
  | .hbm, ⟨8, _⟩ => ⟨S1x3x1536, .f32⟩
  | .hbm, ⟨9, _⟩ => ⟨S1x1536, .f32⟩
  | .hbm, ⟨10, _⟩ => ⟨S65536x1024, .f32⟩
  | .hbm, ⟨11, _⟩ => ⟨S1x1024, .f32⟩
  | .hbm, ⟨12, _⟩ => ⟨S1x1024, .f32⟩
  | .hbm, ⟨13, _⟩ => ⟨S1024x1952, .f32⟩
  | .hbm, ⟨14, _⟩ => ⟨S1024x32, .f32⟩
  | .hbm, ⟨15, _⟩ => ⟨S1024x384, .f32⟩
  | .hbm, ⟨16, _⟩ => ⟨S_, .i32⟩
  | .hbm, ⟨17, _⟩ => ⟨S_, .f32⟩
  | .hbm, ⟨18, _⟩ => ⟨S1024x128, .f32⟩
  | .hbm, ⟨19, _⟩ => ⟨S1024x16, .f32⟩
  | .hbm, ⟨20, _⟩ => ⟨S1024x16, .f32⟩
  | .hbm, ⟨21, _⟩ => ⟨S1024x32, .f32⟩
  | .hbm, ⟨22, _⟩ => ⟨S_, .i32⟩
  | .hbm, ⟨23, _⟩ => ⟨S_, .f32⟩
  | .hbm, ⟨24, _⟩ => ⟨S1024x128, .f32⟩
  | .hbm, ⟨25, _⟩ => ⟨S1024x1536, .f32⟩
  | .hbm, ⟨26, _⟩ => ⟨S1024x2176, .f32⟩
  | .hbm, ⟨27, _⟩ => ⟨S1024x2176, .bf16⟩
  | .hbm, ⟨28, _⟩ => ⟨S256x768, .f32⟩
  | .hbm, ⟨29, _⟩ => ⟨S256x8x96, .f32⟩
  | .hbm, ⟨30, _⟩ => ⟨S_, .i32⟩
  | .hbm, ⟨31, _⟩ => ⟨S_, .f32⟩
  | .hbm, ⟨32, _⟩ => ⟨S256x8x128, .f32⟩
  | .hbm, ⟨33, _⟩ => ⟨S256x1024, .f32⟩
  | .hbm, ⟨34, _⟩ => ⟨S256x1024, .bf16⟩
  | .hbm, ⟨35, _⟩ => ⟨S256x8x32, .f32⟩
  | .hbm, ⟨36, _⟩ => ⟨S256x8x16, .f32⟩
  | .hbm, ⟨37, _⟩ => ⟨S256x8x16, .f32⟩
  | .hbm, ⟨38, _⟩ => ⟨S256x8x32, .f32⟩
  | .hbm, ⟨39, _⟩ => ⟨S_, .i32⟩
  | .hbm, ⟨40, _⟩ => ⟨S_, .f32⟩
  | .hbm, ⟨41, _⟩ => ⟨S256x8x128, .f32⟩
  | .hbm, ⟨42, _⟩ => ⟨S256x1024, .f32⟩
  | .hbm, ⟨43, _⟩ => ⟨S256x1024, .bf16⟩
  | .hbm, ⟨44, _⟩ => ⟨S128x1024, .f32⟩
  | .hbm, ⟨45, _⟩ => ⟨S128x8x128, .f32⟩
  | .hbm, ⟨46, _⟩ => ⟨S128x8x64, .f32⟩
  | .hbm, ⟨47, _⟩ => ⟨S_, .i32⟩
  | .hbm, ⟨48, _⟩ => ⟨S_, .f32⟩
  | .hbm, ⟨49, _⟩ => ⟨S128x8x128, .f32⟩
  | .hbm, ⟨50, _⟩ => ⟨S128x1024, .f32⟩
  | .hbm, ⟨51, _⟩ => ⟨S128x1024, .bf16⟩
  | .hbm, ⟨52, _⟩ => ⟨S128x8x64, .f32⟩
  | .hbm, ⟨53, _⟩ => ⟨S128x512, .f32⟩
  | .hbm, ⟨54, _⟩ => ⟨S512x128, .f32⟩
  | .hbm, ⟨55, _⟩ => ⟨S512x128, .bf16⟩
  | .hbm, ⟨56, _⟩ => ⟨S16, .f32⟩
  | .hbm, ⟨57, _⟩ => ⟨S_, .f32⟩
  | .hbm, ⟨58, _⟩ => ⟨S16, .f32⟩
  | .hbm, ⟨59, _⟩ => ⟨S16, .f32⟩
  | .hbm, ⟨60, _⟩ => ⟨S_, .f32⟩
  | .hbm, ⟨61, _⟩ => ⟨S16, .f32⟩
  | .hbm, ⟨62, _⟩ => ⟨S16, .f32⟩
  | .hbm, ⟨63, _⟩ => ⟨S_, .f32⟩
  | .hbm, ⟨64, _⟩ => ⟨S16, .f32⟩
  | .hbm, ⟨65, _⟩ => ⟨S16, .f32⟩
  | .hbm, ⟨66, _⟩ => ⟨S_, .f32⟩
  | .hbm, ⟨67, _⟩ => ⟨S16, .f32⟩
  | .hbm, ⟨68, _⟩ => ⟨S16, .f32⟩
  | .hbm, ⟨69, _⟩ => ⟨S_, .f32⟩
  | .hbm, ⟨70, _⟩ => ⟨S16, .f32⟩
  | .hbm, ⟨71, _⟩ => ⟨S16, .f32⟩
  | .hbm, ⟨72, _⟩ => ⟨S4096, .f32⟩
  | .hbm, ⟨73, _⟩ => ⟨S4096x1, .f32⟩
  | .hbm, ⟨74, _⟩ => ⟨S1x16, .f32⟩
  | .hbm, ⟨75, _⟩ => ⟨S4096x16, .f32⟩
  | .hbm, ⟨76, _⟩ => ⟨S4096x16, .f32⟩
  | .hbm, ⟨77, _⟩ => ⟨S4096x16, .f32⟩
  | .hbm, ⟨78, _⟩ => ⟨S4096x16, .f32⟩
  | .hbm, ⟨79, _⟩ => ⟨S4096x16, .f32⟩
  | .hbm, ⟨80, _⟩ => ⟨S4096x32, .f32⟩
  | .hbm, ⟨81, _⟩ => ⟨S4096x16, .f32⟩
  | .hbm, ⟨82, _⟩ => ⟨S4096x32, .f32⟩
  | .hbm, ⟨83, _⟩ => ⟨S_, .f32⟩
  | .hbm, ⟨84, _⟩ => ⟨S4096x64, .f32⟩
  | .hbm, ⟨85, _⟩ => ⟨S_, .f32⟩
  | .hbm, ⟨86, _⟩ => ⟨S4096x32, .f32⟩
  | .hbm, ⟨87, _⟩ => ⟨S4096x32, .f32⟩
  | .hbm, ⟨88, _⟩ => ⟨S_, .f32⟩
  | .hbm, ⟨89, _⟩ => ⟨S4096x32, .f32⟩
  | .hbm, ⟨90, _⟩ => ⟨S4096x128, .f32⟩
  | .hbm, ⟨91, _⟩ => ⟨S_, .f32⟩
  | .hbm, ⟨92, _⟩ => ⟨S4096x64, .f32⟩
  | .hbm, ⟨93, _⟩ => ⟨S_, .f32⟩
  | .hbm, ⟨94, _⟩ => ⟨S4096x32, .f32⟩
  | .hbm, ⟨95, _⟩ => ⟨S4096x32, .f32⟩
  | .hbm, ⟨96, _⟩ => ⟨S_, .f32⟩
  | .hbm, ⟨97, _⟩ => ⟨S4096x32, .f32⟩
  | .hbm, ⟨98, _⟩ => ⟨S4096x128, .f32⟩
  | .hbm, ⟨99, _⟩ => ⟨S_, .f32⟩
  | .hbm, ⟨100, _⟩ => ⟨S4096x64, .f32⟩
  | .hbm, ⟨101, _⟩ => ⟨S_, .f32⟩
  | .hbm, ⟨102, _⟩ => ⟨S4096x32, .f32⟩
  | .hbm, ⟨103, _⟩ => ⟨S4096x128, .f32⟩
  | .hbm, ⟨104, _⟩ => ⟨S_, .f32⟩
  | .hbm, ⟨105, _⟩ => ⟨S4096x64, .f32⟩
  | .hbm, ⟨106, _⟩ => ⟨S_, .f32⟩
  | .hbm, ⟨107, _⟩ => ⟨S4096x32, .f32⟩
  | .hbm, ⟨108, _⟩ => ⟨S4096x128, .f32⟩
  | .hbm, ⟨109, _⟩ => ⟨S256, .f32⟩
  | .hbm, ⟨110, _⟩ => ⟨S1x256, .f32⟩
  | .hbm, ⟨111, _⟩ => ⟨S128, .f32⟩
  | .hbm, ⟨112, _⟩ => ⟨S1x128, .f32⟩
  | .hbm, ⟨113, _⟩ => ⟨S3x1536, .f32⟩
  | .hbm, ⟨114, _⟩ => ⟨S1536, .f32⟩
  | .hbm, ⟨115, _⟩ => ⟨S1x1536, .f32⟩
  | .hbm, ⟨116, _⟩ => ⟨S65536x1024, .bf16⟩
  | .hbm, ⟨117, _⟩ => ⟨S65536x1024, .bf16⟩
  | .hbm, ⟨118, _⟩ => ⟨S512x65536, .bf16⟩
  | .hbm, ⟨119, _⟩ => ⟨S1536x65536, .bf16⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1x1024, .f32⟩
  | .local _ .vmem, ⟨8, _⟩ => ⟨S1024x2176, .bf16⟩
  | .local _ .vmem, ⟨9, _⟩ => ⟨S1x256, .f32⟩
  | .local _ .vmem, ⟨10, _⟩ => ⟨S256x1024, .bf16⟩
  | .local _ .vmem, ⟨11, _⟩ => ⟨S256x1024, .bf16⟩
  | .local _ .vmem, ⟨12, _⟩ => ⟨S1x128, .f32⟩
  | .local _ .vmem, ⟨13, _⟩ => ⟨S128x1024, .bf16⟩
  | .local _ .vmem, ⟨14, _⟩ => ⟨S512x128, .bf16⟩
  | .local _ .vmem, ⟨15, _⟩ => ⟨S3x1536, .f32⟩
  | .local _ .vmem, ⟨16, _⟩ => ⟨S1x1536, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S256x128, .f32⟩
  | .local _ .vmem, ⟨24, _⟩ => ⟨S256x128, .f32⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S512x256, .bf16⟩
  | .local _ .vmem, ⟨30, _⟩ => ⟨S512x256, .bf16⟩
  | .local _ .vmem, ⟨31, _⟩ => ⟨S1536x256, .bf16⟩
  | .local _ .vmem, ⟨32, _⟩ => ⟨S1536x256, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_call0_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_call1_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_1 : Ref sig .tc := ⟨.hbm, 30, rfl⟩
abbrev main_call2_v0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_2 : Ref sig .tc := ⟨.hbm, 39, rfl⟩
abbrev main_call3_v0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_3 : Ref sig .tc := ⟨.hbm, 47, rfl⟩
abbrev main_call4_v0 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst : Ref sig .tc := ⟨.hbm, 57, rfl⟩
abbrev main_v37 : Ref sig .tc := ⟨.hbm, 58, rfl⟩
abbrev main_v38 : Ref sig .tc := ⟨.hbm, 59, rfl⟩
abbrev main_cst_4 : Ref sig .tc := ⟨.hbm, 60, rfl⟩
abbrev main_v39 : Ref sig .tc := ⟨.hbm, 61, rfl⟩
abbrev main_v40 : Ref sig .tc := ⟨.hbm, 62, rfl⟩
abbrev main_cst_5 : Ref sig .tc := ⟨.hbm, 63, rfl⟩
abbrev main_v41 : Ref sig .tc := ⟨.hbm, 64, rfl⟩
abbrev main_v42 : Ref sig .tc := ⟨.hbm, 65, rfl⟩
abbrev main_cst_6 : Ref sig .tc := ⟨.hbm, 66, rfl⟩
abbrev main_v43 : Ref sig .tc := ⟨.hbm, 67, rfl⟩
abbrev main_v44 : Ref sig .tc := ⟨.hbm, 68, rfl⟩
abbrev main_cst_7 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_8 : Ref sig .tc := ⟨.hbm, 83, rfl⟩
abbrev main_v58 : Ref sig .tc := ⟨.hbm, 84, rfl⟩
abbrev main_cst_9 : Ref sig .tc := ⟨.hbm, 85, rfl⟩
abbrev main_v59 : Ref sig .tc := ⟨.hbm, 86, rfl⟩
abbrev main_v60 : Ref sig .tc := ⟨.hbm, 87, rfl⟩
abbrev main_cst_10 : Ref sig .tc := ⟨.hbm, 88, rfl⟩
abbrev main_v61 : Ref sig .tc := ⟨.hbm, 89, rfl⟩
abbrev main_v62 : Ref sig .tc := ⟨.hbm, 90, rfl⟩
abbrev main_cst_11 : Ref sig .tc := ⟨.hbm, 91, rfl⟩
abbrev main_v63 : Ref sig .tc := ⟨.hbm, 92, rfl⟩
abbrev main_cst_12 : Ref sig .tc := ⟨.hbm, 93, rfl⟩
abbrev main_v64 : Ref sig .tc := ⟨.hbm, 94, rfl⟩
abbrev main_v65 : Ref sig .tc := ⟨.hbm, 95, rfl⟩
abbrev main_cst_13 : Ref sig .tc := ⟨.hbm, 96, rfl⟩
abbrev main_v66 : Ref sig .tc := ⟨.hbm, 97, rfl⟩
abbrev main_v67 : Ref sig .tc := ⟨.hbm, 98, rfl⟩
abbrev main_cst_14 : Ref sig .tc := ⟨.hbm, 99, rfl⟩
abbrev main_v68 : Ref sig .tc := ⟨.hbm, 100, rfl⟩
abbrev main_cst_15 : Ref sig .tc := ⟨.hbm, 101, rfl⟩
abbrev main_v69 : Ref sig .tc := ⟨.hbm, 102, rfl⟩
abbrev main_v70 : Ref sig .tc := ⟨.hbm, 103, rfl⟩
abbrev main_cst_16 : Ref sig .tc := ⟨.hbm, 104, rfl⟩
abbrev main_v71 : Ref sig .tc := ⟨.hbm, 105, rfl⟩
abbrev main_cst_17 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81_0 : Ref sig .tc := ⟨.hbm, 116, rfl⟩
abbrev main_v81_1 : Ref sig .tc := ⟨.hbm, 117, rfl⟩
abbrev main_v81_2 : Ref sig .tc := ⟨.hbm, 118, rfl⟩
abbrev main_v81_3 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c8191_i32 : BitVec 32 := 8191#32
  let v2 : BitVec 32 := Scalar.minsi v1 c8191_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_15 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_16 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_17 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_21 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c16_i32_3 : BitVec 32 := 16#32
  let v10 : BitVec 32 := Scalar.muli v9 c16_i32_3
  let c16_i32_4 : BitVec 32 := 16#32
  let v11 : BitVec 32 := Scalar.divsi arg0 c16_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c16_i32_4 c0_i32_7
  let v18 : BitVec 32 := Scalar.extui v17
  let c0_i32_8 : BitVec 32 := 0#32
  let v19 : BitVec 1 := Scalar.cmpi .slt c16_i32_4 c0_i32_8
  let v20 : BitVec 32 := Scalar.extui v19
  let v21 : BitVec 32 := Scalar.subi v18 v20
  let v22 : BitVec 1 := Scalar.cmpi .ne v16 v21
  let v23 : BitVec 32 := Scalar.remsi arg0 c16_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let v28 : BitVec 32 := Scalar.addi v10 v27
  let c0_i32_11 : BitVec 32 := 0#32
  let c0_i32_12 : BitVec 32 := 0#32
  ![c0_i32_11.toNat, v28.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2176 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x1536 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1536 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1536x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference2Ideal.lean ====
abbrev S16x4096x1024 : Shape := ⟨3, ![16, 4096, 1024]⟩
abbrev S1024 : Shape := ⟨1, ![1024]⟩
abbrev S1x1024x1952 : Shape := ⟨3, ![1, 1024, 1952]⟩
abbrev S1x256 : Shape := ⟨2, ![1, 256]⟩
abbrev S1x256x768 : Shape := ⟨3, ![1, 256, 768]⟩
abbrev S1x128 : Shape := ⟨2, ![1, 128]⟩
abbrev S1x128x1024 : Shape := ⟨3, ![1, 128, 1024]⟩
abbrev S1x3x1536 : Shape := ⟨3, ![1, 3, 1536]⟩
abbrev S1x1536 : Shape := ⟨2, ![1, 1536]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S1024x1952 : Shape := ⟨2, ![1024, 1952]⟩
abbrev S16x4096x1952 : Shape := ⟨3, ![16, 4096, 1952]⟩
abbrev S16x4096x256 : Shape := ⟨3, ![16, 4096, 256]⟩
abbrev S16x4096x128 : Shape := ⟨3, ![16, 4096, 128]⟩
abbrev S16x4096x32 : Shape := ⟨3, ![16, 4096, 32]⟩
abbrev S16x4096x1536 : Shape := ⟨3, ![16, 4096, 1536]⟩
abbrev S256 : Shape := ⟨1, ![256]⟩
abbrev S1x1x256 : Shape := ⟨3, ![1, 1, 256]⟩
abbrev S256x768 : Shape := ⟨2, ![256, 768]⟩
abbrev S16x4096x768 : Shape := ⟨3, ![16, 4096, 768]⟩
abbrev S16x4096x8x96 : Shape := ⟨4, ![16, 4096, 8, 96]⟩
abbrev S128 : Shape := ⟨1, ![128]⟩
abbrev S1x1x128 : Shape := ⟨3, ![1, 1, 128]⟩
abbrev S128x1024 : Shape := ⟨2, ![128, 1024]⟩
abbrev S16x4096x8x128 : Shape := ⟨4, ![16, 4096, 8, 128]⟩
abbrev S16x4096x8x64 : Shape := ⟨4, ![16, 4096, 8, 64]⟩
abbrev S16x4096x8x32 : Shape := ⟨4, ![16, 4096, 8, 32]⟩
abbrev S16 : Shape := ⟨1, ![16]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4096x1x16 : Shape := ⟨3, ![4096, 1, 16]⟩
abbrev S16x4096x8x16 : Shape := ⟨4, ![16, 4096, 8, 16]⟩
abbrev S1x4096x1x16 : Shape := ⟨4, ![1, 4096, 1, 16]⟩
abbrev S16x4096x16 : Shape := ⟨3, ![16, 4096, 16]⟩
abbrev S1x4096x16 : Shape := ⟨3, ![1, 4096, 16]⟩
abbrev S16x4098x1536 : Shape := ⟨3, ![16, 4098, 1536]⟩
abbrev S1536 : Shape := ⟨1, ![1536]⟩
abbrev S1x1x1536 : Shape := ⟨3, ![1, 1, 1536]⟩
abbrev S16x4096x1x32 : Shape := ⟨4, ![16, 4096, 1, 32]⟩
abbrev S65536x1024 : Shape := ⟨2, ![65536, 1024]⟩
abbrev S65536x512 : Shape := ⟨2, ![65536, 512]⟩
abbrev S512x65536 : Shape := ⟨2, ![512, 65536]⟩
abbrev S16x16x256x1536 : Shape := ⟨4, ![16, 16, 256, 1536]⟩
abbrev S1536x16x16x256 : Shape := ⟨4, ![1536, 16, 16, 256]⟩
abbrev S1536x65536 : Shape := ⟨2, ![1536, 65536]⟩

abbrev nBuf : Space → Nat
  | .hbm => 200
  | .vmem => 0
  | .smem => 0
  | _ => 0

abbrev hbmTy0_0 (i : Nat) : BufTy := match i % 128 with
  | 0 => ⟨S16x4096x1024, .f32⟩
  | 1 => ⟨S1024, .f32⟩
  | 2 => ⟨S1024, .f32⟩
  | 3 => ⟨S1x1024x1952, .f32⟩
  | 4 => ⟨S1x256, .f32⟩
  | 5 => ⟨S1x256x768, .f32⟩
  | 6 => ⟨S1x128, .f32⟩
  | 7 => ⟨S1x128x1024, .f32⟩
  | 8 => ⟨S1x3x1536, .f32⟩
  | 9 => ⟨S1x1536, .f32⟩
  | 10 => ⟨S_, .f32⟩
  | 11 => ⟨S16x4096, .f32⟩
  | 12 => ⟨S16x4096x1, .f32⟩
  | 13 => ⟨S_, .f32⟩
  | 14 => ⟨S16x4096x1, .f32⟩
  | 15 => ⟨S16x4096x1, .f32⟩
  | 16 => ⟨S16x4096x1024, .f32⟩
  | 17 => ⟨S16x4096x1024, .f32⟩
  | 18 => ⟨S16x4096x1024, .f32⟩
  | 19 => ⟨S_, .f32⟩
  | 20 => ⟨S16x4096, .f32⟩
  | 21 => ⟨S16x4096x1, .f32⟩
  | 22 => ⟨S_, .f32⟩
  | 23 => ⟨S16x4096x1, .f32⟩
  | 24 => ⟨S16x4096x1, .f32⟩
  | 25 => ⟨S16x4096x1024, .f32⟩
  | 26 => ⟨S16x4096x1024, .f32⟩
  | 27 => ⟨S_, .f32⟩
  | 28 => ⟨S16x4096x1, .f32⟩
  | 29 => ⟨S16x4096x1, .f32⟩
  | 30 => ⟨S16x4096x1, .f32⟩
  | 31 => ⟨S16x4096x1024, .f32⟩
  | 32 => ⟨S16x4096x1024, .f32⟩
  | 33 => ⟨S1x1x1024, .f32⟩
  | 34 => ⟨S16x4096x1024, .f32⟩
  | 35 => ⟨S16x4096x1024, .f32⟩
  | 36 => ⟨S1x1x1024, .f32⟩
  | 37 => ⟨S16x4096x1024, .f32⟩
  | 38 => ⟨S16x4096x1024, .f32⟩
  | 39 => ⟨S1024x1952, .f32⟩
  | 40 => ⟨S16x4096x1952, .f32⟩
  | 41 => ⟨S16x4096x256, .f32⟩
  | 42 => ⟨S16x4096x128, .f32⟩
  | 43 => ⟨S16x4096x32, .f32⟩
  | 44 => ⟨S16x4096x1536, .f32⟩
  | 45 => ⟨S256, .f32⟩
  | 46 => ⟨S16x4096x256, .f32⟩
  | 47 => ⟨S_, .f32⟩
  | 48 => ⟨S16x4096, .f32⟩
  | 49 => ⟨S16x4096x1, .f32⟩
  | 50 => ⟨S_, .f32⟩
  | 51 => ⟨S16x4096x1, .f32⟩
  | 52 => ⟨S16x4096x1, .f32⟩
  | 53 => ⟨S_, .f32⟩
  | 54 => ⟨S16x4096x1, .f32⟩
  | 55 => ⟨S16x4096x1, .f32⟩
  | 56 => ⟨S16x4096x1, .f32⟩
  | 57 => ⟨S16x4096x256, .f32⟩
  | 58 => ⟨S16x4096x256, .f32⟩
  | 59 => ⟨S1x1x256, .f32⟩
  | 60 => ⟨S16x4096x256, .f32⟩
  | 61 => ⟨S16x4096x256, .f32⟩
  | 62 => ⟨S256x768, .f32⟩
  | 63 => ⟨S16x4096x768, .f32⟩
  | 64 => ⟨S16x4096x8x96, .f32⟩
  | 65 => ⟨S128, .f32⟩
  | 66 => ⟨S16x4096x128, .f32⟩
  | 67 => ⟨S_, .f32⟩
  | 68 => ⟨S16x4096, .f32⟩
  | 69 => ⟨S16x4096x1, .f32⟩
  | 70 => ⟨S_, .f32⟩
  | 71 => ⟨S16x4096x1, .f32⟩
  | 72 => ⟨S16x4096x1, .f32⟩
  | 73 => ⟨S_, .f32⟩
  | 74 => ⟨S16x4096x1, .f32⟩
  | 75 => ⟨S16x4096x1, .f32⟩
  | 76 => ⟨S16x4096x1, .f32⟩
  | 77 => ⟨S16x4096x128, .f32⟩
  | 78 => ⟨S16x4096x128, .f32⟩
  | 79 => ⟨S1x1x128, .f32⟩
  | 80 => ⟨S16x4096x128, .f32⟩
  | 81 => ⟨S16x4096x128, .f32⟩
  | 82 => ⟨S128x1024, .f32⟩
  | 83 => ⟨S16x4096x1024, .f32⟩
  | 84 => ⟨S16x4096x8x128, .f32⟩
  | 85 => ⟨S16x4096x8x64, .f32⟩
  | 86 => ⟨S16x4096x8x32, .f32⟩
  | 87 => ⟨S16x4096x8x64, .f32⟩
  | 88 => ⟨S16x4096x8x64, .f32⟩
  | 89 => ⟨S16, .f32⟩
  | 90 => ⟨S_, .f32⟩
  | 91 => ⟨S16, .f32⟩
  | 92 => ⟨S16, .f32⟩
  | 93 => ⟨S_, .f32⟩
  | 94 => ⟨S16, .f32⟩
  | 95 => ⟨S16, .f32⟩
  | 96 => ⟨S_, .f32⟩
  | 97 => ⟨S16, .f32⟩
  | 98 => ⟨S16, .f32⟩
  | 99 => ⟨S_, .f32⟩
  | 100 => ⟨S16, .f32⟩
  | 101 => ⟨S16, .f32⟩
  | 102 => ⟨S_, .f32⟩
  | 103 => ⟨S16, .f32⟩
  | 104 => ⟨S16, .f32⟩
  | 105 => ⟨S4096, .f32⟩
  | 106 => ⟨S4096x1, .f32⟩
  | 107 => ⟨S1x16, .f32⟩
  | 108 => ⟨S4096x16, .f32⟩
  | 109 => ⟨S4096x16, .f32⟩
  | 110 => ⟨S4096x16, .f32⟩
  | 111 => ⟨S4096x16, .f32⟩
  | 112 => ⟨S4096x16, .f32⟩
  | 113 => ⟨S4096x1x16, .f32⟩
  | 114 => ⟨S4096x1x16, .f32⟩
  | 115 => ⟨S16x4096x8x16, .f32⟩
  | 116 => ⟨S16x4096x8x16, .f32⟩
  | 117 => ⟨S1x4096x1x16, .f32⟩
  | 118 => ⟨S16x4096x8x16, .f32⟩
  | 119 => ⟨S16x4096x8x16, .f32⟩
  | 120 => ⟨S1x4096x1x16, .f32⟩
  | 121 => ⟨S16x4096x8x16, .f32⟩
  | 122 => ⟨S16x4096x8x16, .f32⟩
  | 123 => ⟨S16x4096x8x16, .f32⟩
  | 124 => ⟨S1x4096x1x16, .f32⟩
  | 125 => ⟨S16x4096x8x16, .f32⟩
  | 126 => ⟨S16x4096x8x16, .f32⟩
  | 127 => ⟨S1x4096x1x16, .f32⟩
  | _ => ⟨S16x4096x1024, .f32⟩

abbrev hbmTy0_1 (i : Nat) : BufTy := match i % 128 with
  | 0 => ⟨S16x4096x8x16, .f32⟩
  | 1 => ⟨S16x4096x8x16, .f32⟩
  | 2 => ⟨S16x4096x8x16, .f32⟩
  | 3 => ⟨S16x4096x8x32, .f32⟩
  | 4 => ⟨S16x4096x16, .f32⟩
  | 5 => ⟨S16x4096x16, .f32⟩
  | 6 => ⟨S1x4096x16, .f32⟩
  | 7 => ⟨S16x4096x16, .f32⟩
  | 8 => ⟨S16x4096x16, .f32⟩
  | 9 => ⟨S1x4096x16, .f32⟩
  | 10 => ⟨S16x4096x16, .f32⟩
  | 11 => ⟨S16x4096x16, .f32⟩
  | 12 => ⟨S16x4096x16, .f32⟩
  | 13 => ⟨S1x4096x16, .f32⟩
  | 14 => ⟨S16x4096x16, .f32⟩
  | 15 => ⟨S16x4096x16, .f32⟩
  | 16 => ⟨S1x4096x16, .f32⟩
  | 17 => ⟨S16x4096x16, .f32⟩
  | 18 => ⟨S16x4096x16, .f32⟩
  | 19 => ⟨S16x4096x16, .f32⟩
  | 20 => ⟨S16x4096x32, .f32⟩
  | 21 => ⟨S_, .i32⟩
  | 22 => ⟨S_, .f32⟩
  | 23 => ⟨S16x4098x1536, .f32⟩
  | 24 => ⟨S1536, .f32⟩
  | 25 => ⟨S16x4096x1536, .f32⟩
  | 26 => ⟨S1x1x1536, .f32⟩
  | 27 => ⟨S1536, .f32⟩
  | 28 => ⟨S1x1x1536, .f32⟩
  | 29 => ⟨S16x4096x1536, .f32⟩
  | 30 => ⟨S16x4096x1536, .f32⟩
  | 31 => ⟨S1x1x1536, .f32⟩
  | 32 => ⟨S16x4096x1536, .f32⟩
  | 33 => ⟨S16x4096x1536, .f32⟩
  | 34 => ⟨S16x4096x1536, .f32⟩
  | 35 => ⟨S1x1x1536, .f32⟩
  | 36 => ⟨S1536, .f32⟩
  | 37 => ⟨S1x1x1536, .f32⟩
  | 38 => ⟨S16x4096x1536, .f32⟩
  | 39 => ⟨S16x4096x1536, .f32⟩
  | 40 => ⟨S16x4096x1536, .f32⟩
  | 41 => ⟨S16x4096x1536, .f32⟩
  | 42 => ⟨S1x1x1536, .f32⟩
  | 43 => ⟨S1536, .f32⟩
  | 44 => ⟨S1x1x1536, .f32⟩
  | 45 => ⟨S16x4096x1536, .f32⟩
  | 46 => ⟨S16x4096x1536, .f32⟩
  | 47 => ⟨S16x4096x1536, .f32⟩
  | 48 => ⟨S16x4096x1x32, .f32⟩
  | 49 => ⟨S16x4096x8x32, .f32⟩
  | 50 => ⟨S16x4096x8x96, .f32⟩
  | 51 => ⟨S_, .f32⟩
  | 52 => ⟨S16x4096x8x96, .f32⟩
  | 53 => ⟨S16x4096x8x96, .f32⟩
  | 54 => ⟨S_, .i32⟩
  | 55 => ⟨S_, .f32⟩
  | 56 => ⟨S16x4096x8x128, .f32⟩
  | 57 => ⟨S65536x1024, .f32⟩
  | 58 => ⟨S16x4096x8x96, .f32⟩
  | 59 => ⟨S_, .i32⟩
  | 60 => ⟨S_, .f32⟩
  | 61 => ⟨S16x4096x8x128, .f32⟩
  | 62 => ⟨S65536x1024, .f32⟩
  | 63 => ⟨S65536x512, .f32⟩
  | 64 => ⟨S512x65536, .f32⟩
  | 65 => ⟨S16x16x256x1536, .f32⟩
  | 66 => ⟨S1536x16x16x256, .f32⟩
  | 67 => ⟨S1536x65536, .f32⟩
  | 68 => ⟨S65536x1024, .bf16⟩
  | 69 => ⟨S65536x1024, .bf16⟩
  | 70 => ⟨S512x65536, .bf16⟩
  | 71 => ⟨S1536x65536, .bf16⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_7 : Ref sig .tc := ⟨.hbm, 67, rfl⟩
abbrev main_v49 : Ref sig .tc := ⟨.hbm, 68, rfl⟩
abbrev main_v50 : Ref sig .tc := ⟨.hbm, 69, rfl⟩
abbrev main_cst_8 : Ref sig .tc := ⟨.hbm, 70, rfl⟩
abbrev main_v51 : Ref sig .tc := ⟨.hbm, 71, rfl⟩
abbrev main_v52 : Ref sig .tc := ⟨.hbm, 72, rfl⟩
abbrev main_cst_9 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_10 : Ref sig .tc := ⟨.hbm, 90, rfl⟩
abbrev main_v69 : Ref sig .tc := ⟨.hbm, 91, rfl⟩
abbrev main_v70 : Ref sig .tc := ⟨.hbm, 92, rfl⟩
abbrev main_cst_11 : Ref sig .tc := ⟨.hbm, 93, rfl⟩
abbrev main_v71 : Ref sig .tc := ⟨.hbm, 94, rfl⟩
abbrev main_v72 : Ref sig .tc := ⟨.hbm, 95, rfl⟩
abbrev main_cst_12 : Ref sig .tc := ⟨.hbm, 96, rfl⟩
abbrev main_v73 : Ref sig .tc := ⟨.hbm, 97, rfl⟩
abbrev main_v74 : Ref sig .tc := ⟨.hbm, 98, rfl⟩
abbrev main_cst_13 : Ref sig .tc := ⟨.hbm, 99, rfl⟩
abbrev main_v75 : Ref sig .tc := ⟨.hbm, 100, rfl⟩
abbrev main_v76 : Ref sig .tc := ⟨.hbm, 101, rfl⟩
abbrev main_cst_14 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_c : Ref sig .tc := ⟨.hbm, 149, rfl⟩
abbrev main_call0_v0 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_cst_15 : Ref sig .tc := ⟨.hbm, 179, rfl⟩
abbrev main_v151 : Ref sig .tc := ⟨.hbm, 180, rfl⟩
abbrev main_v152 : Ref sig .tc := ⟨.hbm, 181, rfl⟩
abbrev main_c_16 : Ref sig .tc := ⟨.hbm, 182, rfl⟩
abbrev main_call1_v0 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_c_17 : Ref sig .tc := ⟨.hbm, 187, rfl⟩
abbrev main_call2_v0 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩

abbrev nD : Nat := 1
abbrev τ : Topo := Topo.v7x

variable {F : FTy → Type} [FloatOps F]
-- ==== Kernel3.lean ====
abbrev S16x4096x1024 : Shape := ⟨3, ![16, 4096, 1024]⟩
abbrev S1024 : Shape := ⟨1, ![1024]⟩
abbrev S65536x512 : Shape := ⟨2, ![65536, 512]⟩
abbrev S512x65536 : Shape := ⟨2, ![512, 65536]⟩
abbrev S1x512 : Shape := ⟨2, ![1, 512]⟩
abbrev S1x1024x1024 : Shape := ⟨3, ![1, 1024, 1024]⟩
abbrev S1x1024 : Shape := ⟨2, ![1, 1024]⟩
abbrev S65536x1024 : Shape := ⟨2, ![65536, 1024]⟩
abbrev S512 : Shape := ⟨1, ![512]⟩
abbrev S1024x1024 : Shape := ⟨2, ![1024, 1024]⟩
abbrev S1024x65536 : Shape := ⟨2, ![1024, 65536]⟩
abbrev S256x1024 : Shape := ⟨2, ![256, 1024]⟩
abbrev S256x512 : Shape := ⟨2, ![256, 512]⟩
abbrev S512x256 : Shape := ⟨2, ![512, 256]⟩
abbrev S1024x256 : Shape := ⟨2, ![1024, 256]⟩
abbrev S256x64 : Shape := ⟨2, ![256, 64]⟩
abbrev S1x64 : Shape := ⟨2, ![1, 64]⟩
abbrev S256 : Shape := ⟨1, ![256]⟩
abbrev S256x1 : Shape := ⟨2, ![256, 1]⟩

abbrev nBuf : Space → Nat
  | .hbm => 27
  | .vmem => 21
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024, .f32⟩
  | .hbm, ⟨3, _⟩ => ⟨S65536x512, .bf16⟩
  | .hbm, ⟨4, _⟩ => ⟨S512x65536, .bf16⟩
  | .hbm, ⟨5, _⟩ => ⟨S1x512, .f32⟩
  | .hbm, ⟨6, _⟩ => ⟨S1x1024x1024, .f32⟩
  | .hbm, ⟨7, _⟩ => ⟨S1x1024, .f32⟩
  | .hbm, ⟨8, _⟩ => ⟨S1x1024, .f32⟩
  | .hbm, ⟨9, _⟩ => ⟨S1x1024x1024, .f32⟩
  | .hbm, ⟨10, _⟩ => ⟨S65536x1024, .f32⟩
  | .hbm, ⟨11, _⟩ => ⟨S1x1024, .f32⟩
  | .hbm, ⟨12, _⟩ => ⟨S1x1024, .f32⟩
  | .hbm, ⟨13, _⟩ => ⟨S512, .f32⟩
  | .hbm, ⟨14, _⟩ => ⟨S1x512, .f32⟩
  | .hbm, ⟨15, _⟩ => ⟨S1024x1024, .f32⟩
  | .hbm, ⟨16, _⟩ => ⟨S1024x1024, .bf16⟩
  | .hbm, ⟨17, _⟩ => ⟨S1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S1024x1024, .f32⟩
  | .hbm, ⟨22, _⟩ => ⟨S1024x1024, .f32⟩
  | .hbm, ⟨23, _⟩ => ⟨S1024x1024, .bf16⟩
  | .hbm, ⟨24, _⟩ => ⟨S65536x1024, .f32⟩
  | .hbm, ⟨25, _⟩ => ⟨S65536x1024, .bf16⟩
  | .hbm, ⟨26, _⟩ => ⟨S1024x65536, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S256x512, .bf16⟩
  | .local _ .vmem, ⟨5, _⟩ => ⟨S256x512, .bf16⟩
  | .local _ .vmem, ⟨6, _⟩ => ⟨S512x256, .bf16⟩
  | .local _ .vmem, ⟨7, _⟩ => ⟨S512x256, .bf16⟩
  | .local _ .vmem, ⟨8, _⟩ => ⟨S1x512, .f32⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S1024x1024, .bf16⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S1024x256, .bf16⟩
  | .local _ .vmem, ⟨18, _⟩ => ⟨S1024x256, .bf16⟩
  | .local _ .vmem, ⟨19, _⟩ => ⟨S256x1024, .bf16⟩
  | .local _ .vmem, ⟨20, _⟩ => ⟨S256x1024, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v14_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![257], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c255_i32 : BitVec 32 := 255#32
  let v0 : BitVec 32 := Scalar.minsi arg0 c255_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c255_i32 : BitVec 32 := 255#32
  let v0 : BitVec 32 := Scalar.minsi arg0 c255_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c16_i32_3 : BitVec 32 := 16#32
  let v11 : BitVec 32 := Scalar.muli v10 c16_i32_3
  let c255_i32_4 : BitVec 32 := 255#32
  let v12 : BitVec 32 := Scalar.minsi arg0 c255_i32_4
  let c16_i32_5 : BitVec 32 := 16#32
  let v13 : BitVec 32 := Scalar.divsi v12 c16_i32_5
  let c0_i32_6 : BitVec 32 := 0#32
  let v14 : BitVec 1 := Scalar.cmpi .sgt v12 c0_i32_6
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c0_i32_8 : BitVec 32 := 0#32
  let v19 : BitVec 1 := Scalar.cmpi .sgt c16_i32_5 c0_i32_8
  let v20 : BitVec 32 := Scalar.extui v19
  let c0_i32_9 : BitVec 32 := 0#32
  let v21 : BitVec 1 := Scalar.cmpi .slt c16_i32_5 c0_i32_9
  let v22 : BitVec 32 := Scalar.extui v21
  let v23 : BitVec 32 := Scalar.subi v20 v22
  let v24 : BitVec 1 := Scalar.cmpi .ne v18 v23
  let v25 : BitVec 32 := Scalar.remsi v12 c16_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let v30 : BitVec 32 := Scalar.addi v11 v29
  let c0_i32_12 : BitVec 32 := 0#32
  let c0_i32_13 : BitVec 32 := 0#32
  ![c0_i32_12.toNat, v30.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S16x4096x1024 : Shape := ⟨3, ![16, 4096, 1024]⟩
abbrev S1024 : Shape := ⟨1, ![1024]⟩
abbrev S65536x512 : Shape := ⟨2, ![65536, 512]⟩
abbrev S512x65536 : Shape := ⟨2, ![512, 65536]⟩
abbrev S1x512 : Shape := ⟨2, ![1, 512]⟩
abbrev S1x1024x1024 : Shape := ⟨3, ![1, 1024, 1024]⟩
abbrev S1x1024 : Shape := ⟨2, ![1, 1024]⟩
abbrev S512x16x16x256 : Shape := ⟨4, ![512, 16, 16, 256]⟩
abbrev S16x16x256x512 : Shape := ⟨4, ![16, 16, 256, 512]⟩
abbrev S16x4096x8x64 : Shape := ⟨4, ![16, 4096, 8, 64]⟩
abbrev S512 : Shape := ⟨1, ![512]⟩
abbrev S8x64 : Shape := ⟨2, ![8, 64]⟩
abbrev S_ : Shape := ⟨0, ![]⟩
abbrev S16x4096x8 : Shape := ⟨3, ![16, 4096, 8]⟩
abbrev S16x4096x8x1 : Shape := ⟨4, ![16, 4096, 8, 1]⟩
abbrev S1x1x8x64 : Shape := ⟨4, ![1, 1, 8, 64]⟩
abbrev S16x4096x512 : Shape := ⟨3, ![16, 4096, 512]⟩
abbrev S16x4096 : Shape := ⟨2, ![16, 4096]⟩
abbrev S16x4096x1 : Shape := ⟨3, ![16, 4096, 1]⟩
abbrev S1x1x1024 : Shape := ⟨3, ![1, 1, 1024]⟩
abbrev S1024x1024 : Shape := ⟨2, ![1024, 1024]⟩
abbrev S65536x1024 : Shape := ⟨2, ![65536, 1024]⟩
abbrev S1024x65536 : Shape := ⟨2, ![1024, 65536]⟩

abbrev nBuf : Space → Nat
  | .hbm => 108
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024, .f32⟩
  | .hbm, ⟨3, _⟩ => ⟨S65536x512, .bf16⟩
  | .hbm, ⟨4, _⟩ => ⟨S512x65536, .bf16⟩
  | .hbm, ⟨5, _⟩ => ⟨S1x512, .f32⟩
  | .hbm, ⟨6, _⟩ => ⟨S1x1024x1024, .f32⟩
  | .hbm, ⟨7, _⟩ => ⟨S1x1024, .f32⟩
  | .hbm, ⟨8, _⟩ => ⟨S1x1024, .f32⟩
  | .hbm, ⟨9, _⟩ => ⟨S1x1024x1024, .f32⟩
  | .hbm, ⟨10, _⟩ => ⟨S512x65536, .f32⟩
  | .hbm, ⟨11, _⟩ => ⟨S512x16x16x256, .f32⟩
  | .hbm, ⟨12, _⟩ => ⟨S16x16x256x512, .f32⟩
  | .hbm, ⟨13, _⟩ => ⟨S16x4096x8x64, .f32⟩
  | .hbm, ⟨14, _⟩ => ⟨S512, .f32⟩
  | .hbm, ⟨15, _⟩ => ⟨S8x64, .f32⟩
  | .hbm, ⟨16, _⟩ => ⟨S16x4096x8x64, .f32⟩
  | .hbm, ⟨17, _⟩ => ⟨S_, .f32⟩
  | .hbm, ⟨18, _⟩ => ⟨S16x4096x8, .f32⟩
  | .hbm, ⟨19, _⟩ => ⟨S16x4096x8x1, .f32⟩
  | .hbm, ⟨20, _⟩ => ⟨S_, .f32⟩
  | .hbm, ⟨21, _⟩ => ⟨S16x4096x8x1, .f32⟩
  | .hbm, ⟨22, _⟩ => ⟨S16x4096x8x1, .f32⟩
  | .hbm, ⟨23, _⟩ => ⟨S_, .f32⟩
  | .hbm, ⟨24, _⟩ => ⟨S16x4096x8x1, .f32⟩
  | .hbm, ⟨25, _⟩ => ⟨S16x4096x8x1, .f32⟩
  | .hbm, ⟨26, _⟩ => ⟨S16x4096x8x1, .f32⟩
  | .hbm, ⟨27, _⟩ => ⟨S16x4096x8x64, .f32⟩
  | .hbm, ⟨28, _⟩ => ⟨S16x4096x8x64, .f32⟩
  | .hbm, ⟨29, _⟩ => ⟨S1x1x8x64, .f32⟩
  | .hbm, ⟨30, _⟩ => ⟨S16x4096x8x64, .f32⟩
  | .hbm, ⟨31, _⟩ => ⟨S16x4096x8x64, .f32⟩
  | .hbm, ⟨32, _⟩ => ⟨S16x4096x512, .f32⟩
  | .hbm, ⟨33, _⟩ => ⟨S65536x512, .f32⟩
  | .hbm, ⟨34, _⟩ => ⟨S16x4096x512, .f32⟩
  | .hbm, ⟨35, _⟩ => ⟨S_, .f32⟩
  | .hbm, ⟨36, _⟩ => ⟨S16x4096, .f32⟩
  | .hbm, ⟨37, _⟩ => ⟨S16x4096x1, .f32⟩
  | .hbm, ⟨38, _⟩ => ⟨S_, .f32⟩
  | .hbm, ⟨39, _⟩ => ⟨S16x4096x1, .f32⟩
  | .hbm, ⟨40, _⟩ => ⟨S16x4096x1, .f32⟩
  | .hbm, ⟨41, _⟩ => ⟨S16x4096x1024, .f32⟩
  | .hbm, ⟨42, _⟩ => ⟨S16x4096x1024, .f32⟩
  | .hbm, ⟨43, _⟩ => ⟨S16x4096x1024, .f32⟩
  | .hbm, ⟨44, _⟩ => ⟨S_, .f32⟩
  | .hbm, ⟨45, _⟩ => ⟨S16x4096, .f32⟩
  | .hbm, ⟨46, _⟩ => ⟨S16x4096x1, .f32⟩
  | .hbm, ⟨47, _⟩ => ⟨S_, .f32⟩
  | .hbm, ⟨48, _⟩ => ⟨S16x4096x1, .f32⟩
  | .hbm, ⟨49, _⟩ => ⟨S16x4096x1, .f32⟩
  | .hbm, ⟨50, _⟩ => ⟨S16x4096x1024, .f32⟩
  | .hbm, ⟨51, _⟩ => ⟨S16x4096x1024, .f32⟩
  | .hbm, ⟨52, _⟩ => ⟨S_, .f32⟩
  | .hbm, ⟨53, _⟩ => ⟨S16x4096x1, .f32⟩
  | .hbm, ⟨54, _⟩ => ⟨S16x4096x1, .f32⟩
  | .hbm, ⟨55, _⟩ => ⟨S16x4096x1, .f32⟩
  | .hbm, ⟨56, _⟩ => ⟨S16x4096x1024, .f32⟩
  | .hbm, ⟨57, _⟩ => ⟨S16x4096x1024, .f32⟩
  | .hbm, ⟨58, _⟩ => ⟨S1x1x1024, .f32⟩
  | .hbm, ⟨59, _⟩ => ⟨S16x4096x1024, .f32⟩
  | .hbm, ⟨60, _⟩ => ⟨S16x4096x1024, .f32⟩
  | .hbm, ⟨61, _⟩ => ⟨S1x1x1024, .f32⟩
  | .hbm, ⟨62, _⟩ => ⟨S16x4096x1024, .f32⟩
  | .hbm, ⟨63, _⟩ => ⟨S16x4096x1024, .f32⟩
  | .hbm, ⟨64, _⟩ => ⟨S16x4096x1024, .f32⟩
  | .hbm, ⟨65, _⟩ => ⟨S1024x1024, .f32⟩
  | .hbm, ⟨66, _⟩ => ⟨S16x4096x1024, .f32⟩
  | .hbm, ⟨67, _⟩ => ⟨S_, .f32⟩
  | .hbm, ⟨68, _⟩ => ⟨S16x4096x1024, .f32⟩
  | .hbm, ⟨69, _⟩ => ⟨S16x4096x1024, .f32⟩
  | .hbm, ⟨70, _⟩ => ⟨S16x4096x1024, .f32⟩
  | .hbm, ⟨71, _⟩ => ⟨S1024, .f32⟩
  | .hbm, ⟨72, _⟩ => ⟨S1024, .f32⟩
  | .hbm, ⟨73, _⟩ => ⟨S_, .f32⟩
  | .hbm, ⟨74, _⟩ => ⟨S16x4096, .f32⟩
  | .hbm, ⟨75, _⟩ => ⟨S16x4096x1, .f32⟩
  | .hbm, ⟨76, _⟩ => ⟨S_, .f32⟩
  | .hbm, ⟨77, _⟩ => ⟨S16x4096x1, .f32⟩
  | .hbm, ⟨78, _⟩ => ⟨S16x4096x1, .f32⟩
  | .hbm, ⟨79, _⟩ => ⟨S16x4096x1024, .f32⟩
  | .hbm, ⟨80, _⟩ => ⟨S16x4096x1024, .f32⟩
  | .hbm, ⟨81, _⟩ => ⟨S16x4096x1024, .f32⟩
  | .hbm, ⟨82, _⟩ => ⟨S_, .f32⟩
  | .hbm, ⟨83, _⟩ => ⟨S16x4096, .f32⟩
  | .hbm, ⟨84, _⟩ => ⟨S16x4096x1, .f32⟩
  | .hbm, ⟨85, _⟩ => ⟨S_, .f32⟩
  | .hbm, ⟨86, _⟩ => ⟨S16x4096x1, .f32⟩
  | .hbm, ⟨87, _⟩ => ⟨S16x4096x1, .f32⟩
  | .hbm, ⟨88, _⟩ => ⟨S16x4096x1024, .f32⟩
  | .hbm, ⟨89, _⟩ => ⟨S16x4096x1024, .f32⟩
  | .hbm, ⟨90, _⟩ => ⟨S_, .f32⟩
  | .hbm, ⟨91, _⟩ => ⟨S16x4096x1, .f32⟩
  | .hbm, ⟨92, _⟩ => ⟨S16x4096x1, .f32⟩
  | .hbm, ⟨93, _⟩ => ⟨S16x4096x1, .f32⟩
  | .hbm, ⟨94, _⟩ => ⟨S16x4096x1024, .f32⟩
  | .hbm, ⟨95, _⟩ => ⟨S16x4096x1024, .f32⟩
  | .hbm, ⟨96, _⟩ => ⟨S1x1x1024, .f32⟩
  | .hbm, ⟨97, _⟩ => ⟨S16x4096x1024, .f32⟩
  | .hbm, ⟨98, _⟩ => ⟨S16x4096x1024, .f32⟩
  | .hbm, ⟨99, _⟩ => ⟨S1x1x1024, .f32⟩
  | .hbm, ⟨100, _⟩ => ⟨S16x4096x1024, .f32⟩
  | .hbm, ⟨101, _⟩ => ⟨S16x4096x1024, .f32⟩
  | .hbm, ⟨102, _⟩ => ⟨S65536x1024, .f32⟩
  | .hbm, ⟨103, _⟩ => ⟨S65536x1024, .bf16⟩
  | .hbm, ⟨104, _⟩ => ⟨S1024x1024, .f32⟩
  | .hbm, ⟨105, _⟩ => ⟨S65536x1024, .f32⟩
  | .hbm, ⟨106, _⟩ => ⟨S1024x65536, .f32⟩
  | .hbm, ⟨107, _⟩ => ⟨S1024x65536, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_7 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_8 : Ref sig .tc := ⟨.hbm, 73, rfl⟩
abbrev main_v54 : Ref sig .tc := ⟨.hbm, 74, rfl⟩
abbrev main_v55 : Ref sig .tc := ⟨.hbm, 75, rfl⟩
abbrev main_cst_9 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_10 : Ref sig .tc := ⟨.hbm, 82, rfl⟩
abbrev main_v61 : Ref sig .tc := ⟨.hbm, 83, rfl⟩
abbrev main_v62 : Ref sig .tc := ⟨.hbm, 84, rfl⟩
abbrev main_cst_11 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_12 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩

abbrev nD : Nat := 1
abbrev τ : Topo := Topo.v7x

variable {F : FTy → Type} [FloatOps F]
-- ==== Proof.KernelIdeal.Run.lean ====
/- What one grid point of the attention leaves in its buffers, and the run of the body that shows it: the scores of the
   point's query tile against its keys with each query's greatest score, and the finished tile of the point before. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The contents a point leaves -/

/-- The scores of a query tile against the keys, head by head. -/
def scores (q : Vec F S512x256 .bf16) (k : Vec F S4096x256 .bf16) : Vec F S2x4096x512 .f32 :=
  View.canon [⟨Rect.unit (s := S2x4096x512) ![1, 0, 0] S1x4096x512.size inb_S2x4096x512_S1x4096x512_1_0_0,
      k0_pay25 (View.ld k (Rect.unit (s := S4096x256) ![0, 128] S4096x128.size inb_S4096x256_S4096x128_0_128))
        (View.ld q (Rect.unit (s := S512x256) ![0, 128] S512x128.size inb_S512x256_S512x128_0_128))⟩,
    ⟨Rect.unit (s := S2x4096x512) ![0, 0, 0] S1x4096x512.size inb_S2x4096x512_S1x4096x512_0_0_0,
      k0_pay14 (View.ld k (Rect.unit (s := S4096x256) ![0, 0] S4096x128.size inb_S4096x256_S4096x128_0_0))
        (View.ld q (Rect.unit (s := S512x256) ![0, 0] S512x128.size inb_S512x256_S512x128_0_0))⟩]

/-- Each query's greatest score, head by head. -/
def tops (q : Vec F S512x256 .bf16) (k : Vec F S4096x256 .bf16) : Vec F S2x1x512 .f32 :=
  View.canon [⟨Rect.unit (s := S2x1x512) ![1, 0, 0] S1x1x512.size inb_S2x1x512_S1x1x512_1_0_0,
      k0_pay26 (View.ld k (Rect.unit (s := S4096x256) ![0, 128] S4096x128.size inb_S4096x256_S4096x128_0_128))
        (View.ld q (Rect.unit (s := S512x256) ![0, 128] S512x128.size inb_S512x256_S512x128_0_128))⟩,
    ⟨Rect.unit (s := S2x1x512) ![0, 0, 0] S1x1x512.size inb_S2x1x512_S1x1x512_0_0_0,
      k0_pay15 (View.ld k (Rect.unit (s := S4096x256) ![0, 0] S4096x128.size inb_S4096x256_S4096x128_0_0))
        (View.ld q (Rect.unit (s := S512x256) ![0, 0] S512x128.size inb_S512x256_S512x128_0_0))⟩]

/-- The finished tile of a point's scores: the weighted values, normalised, transposed. -/
def finished (s : Vec F S2x4096x512 .f32) (mx : Vec F S2x1x512 .f32) (v : Vec F S128x4096 .bf16) (g : Vec F S128x1 .f32) :
    Vec F S512x128 .bf16 :=
  k0_pay12 (k0_pay9 (F := F))
    (k0_pay10 (View.ld s (Rect.unit (s := S2x4096x512) ![0, 0, 0] S1x4096x512.size inb_S2x4096x512_S1x4096x512_0_0_0))
      (View.ld mx (Rect.unit (s := S2x1x512) ![0, 0, 0] S1x1x512.size inb_S2x1x512_S1x1x512_0_0_0))
      (View.ld v (Rect.unit (s := S128x4096) ![0, 0] S64x4096.size inb_S128x4096_S64x4096_0_0))
      (View.ld g (Rect.unit (s := S128x1) ![0, 0] S64x1.size inb_S128x1_S64x1_0_0)))
    (k0_pay11 (View.ld s (Rect.unit (s := S2x4096x512) ![1, 0, 0] S1x4096x512.size inb_S2x4096x512_S1x4096x512_1_0_0))
      (View.ld mx (Rect.unit (s := S2x1x512) ![1, 0, 0] S1x1x512.size inb_S2x1x512_S1x1x512_1_0_0)))
    (View.ld v (Rect.unit (s := S128x4096) ![64, 0] S64x4096.size inb_S128x4096_S64x4096_64_0))
    (View.ld g (Rect.unit (s := S128x1) ![64, 0] S64x1.size inb_S128x1_S64x1_64_0))

theorem zero2 : (![0, 0] : Fin 2 → ℕ) = fun _ => 0 := by funext a; fin_cases a <;> rfl
theorem zero3 : (![0, 0, 0] : Fin 3 → ℕ) = fun _ => 0 := by funext a; fin_cases a <;> rfl

/-- A load of the scores' buffer after one store of the whole of it reads the stored value; -/
theorem readCov_scores (v : View sig .tc .vmem S2x4096x512 .f32) (w : Vec F S2x4096x512 .f32) (r : Rect S2x4096x512) :
    v.readCov [(⟨Rect.unit (s := S2x4096x512) ![0, 0, 0] S2x4096x512.size inb_S2x4096x512_S2x4096x512_0_0_0, w⟩ : View.Piece (Elt F) S2x4096x512 .f32)]
      r.toLoadRect = View.ld w r := by
  have h := View.canon_unit_zero (S := S2x4096x512) (Val := Elt F) (e := .f32) zero3 inb_S2x4096x512_S2x4096x512_0_0_0 w
  rw [View.readCov_eq_canon', h]

/-- and so for the greatest scores' buffer. -/
theorem readCov_tops (v : View sig .tc .vmem S2x1x512 .f32) (w : Vec F S2x1x512 .f32) (r : Rect S2x1x512) :
    v.readCov [(⟨Rect.unit (s := S2x1x512) ![0, 0, 0] S2x1x512.size inb_S2x1x512_S2x1x512_0_0_0, w⟩ : View.Piece (Elt F) S2x1x512 .f32)]
      r.toLoadRect = View.ld w r := by
  have h := View.canon_unit_zero (S := S2x1x512) (Val := Elt F) (e := .f32) zero3 inb_S2x1x512_S2x1x512_0_0_0 w
  rw [View.readCov_eq_canon', h]

/-- The condition of the body's first branch, from the grid coordinate. -/
abbrev cond1 (i : grid0.Coords) : Prop :=
  (Scalar.cmpi .ne (Scalar.extui (Scalar.cmpi .eq (BitVec.ofNat 32 (i 0).val) 0#32)) 0#32) = 1#1

set_option maxHeartbeats 1000000 in
/-- An odd point: the body reads the first pair of scratch buffers and fills the second. -/
theorem run_odd (c : Dev nD) (i : grid0.Coords) (arg1 : Memref sig .tc .vmem S512x256 .bf16) (harg1 : arg1.IsWhole)
    (arg2 : Memref sig .tc .vmem S4096x256 .bf16) (harg2 : arg2.IsWhole) (arg3 : Memref sig .tc .vmem S128x4096 .bf16) (harg3 : arg3.IsWhole)
    (arg4 : Memref sig .tc .vmem S128x1 .f32) (harg4 : arg4.IsWhole) (arg5 : Memref sig .tc .vmem S512x128 .bf16) (harg5 : arg5.IsWhole)
    (arg6 : Memref sig .tc .vmem S2x4096x512 .f32) (harg6 : arg6.IsWhole) (arg7 : Memref sig .tc .vmem S2x1x512 .f32) (harg7 : arg7.IsWhole)
    (arg8 : Memref sig .tc .vmem S2x4096x512 .f32) (harg8 : arg8.IsWhole) (arg9 : Memref sig .tc .vmem S2x1x512 .f32) (harg9 : arg9.IsWhole)
    (hc0 : ¬cond1 i) (hc1 : ¬k0_cond2 i = 1#1) (hc2 : k0_cond3 i = 1#1) (hc3 : ¬k0_cond4 i = 1#1)
    (x0 : Vec F S512x256 .bf16) (x1 : Vec F S4096x256 .bf16) (x2 : Vec F S128x4096 .bf16) (x3 : Vec F S128x1 .f32)
    (s : Vec F S2x4096x512 .f32) (mx : Vec F S2x1x512 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ owns (c : Thread nD τ) arg6 fullShare s
        ∗ owns (c : Thread nD τ) arg7 fullShare mx ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (finished s mx x2 x3)
            ∗ owns (c : Thread nD τ) arg6 fullShare s ∗ owns (c : Thread nD τ) arg7 fullShare mx
            ∗ owns (c : Thread nD τ) arg8 fullShare (scores x0 x1) ∗ owns (c : Thread nD τ) arg9 fullShare (tops x0 x1)) -∗ K ⟨⟩))
      ⊢ wp frame (wpE (defs₀ (F := F)) Variants.none c none) E
          (cc0_attention i arg1 harg1 arg2 harg2 arg3 harg3 arg4 harg4 arg5 harg5 arg6 harg6 arg7 harg7 arg8 harg8 arg9 harg9) K := by
  simp only [cc0_attention_eq_skeleton]; unfold cc0_attention_skel
  simp only [k0_part6_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%ds2, %fs2, -, HS2⟩, ⟨%ds3, %fs3, -, HS3⟩, Hk⟩
  subst hf0 hf1 hf2 hf3 hfs0 hfs1
  sl_exec (disch := first | sl_exact hc0 | sl_exact hc1 | sl_exact hc2 | sl_exact hc3)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr
    swap; · iexact H4
    ipureintro
    exact (View.read_writes_eq_canon _ _ _ (View.cover_of_tiledL _ S512x128.size (by sl_kernel_rfl))).trans
      (View.canon_unit_zero zero2 _ _)
  isplitl [HS0]
  · iexists _; isplitr; · ipureintro; rfl
    iexact HS0
  isplitl [HS1]
  · iexists _; isplitr; · ipureintro; rfl
    iexact HS1
  isplitl [HS2]
  · iexists _; isplitr
    swap; · iexact HS2
    ipureintro
    exact View.read_writes_eq_canon _ _ _ (View.cover_of_tiledL _ S1x4096x512.size (by sl_kernel_rfl))
  iexists _; isplitr
  swap; · iexact HS3
  ipureintro
  exact View.read_writes_eq_canon _ _ _ (View.cover_of_tiledL _ S1x1x512.size (by sl_kernel_rfl))

set_option maxHeartbeats 1000000 in
/-- An even point, neither the first nor the last: the body reads the second pair of scratch buffers and fills the first. -/
theorem run_even (c : Dev nD) (i : grid0.Coords) (arg1 : Memref sig .tc .vmem S512x256 .bf16) (harg1 : arg1.IsWhole)
    (arg2 : Memref sig .tc .vmem S4096x256 .bf16) (harg2 : arg2.IsWhole) (arg3 : Memref sig .tc .vmem S128x4096 .bf16) (harg3 : arg3.IsWhole)
    (arg4 : Memref sig .tc .vmem S128x1 .f32) (harg4 : arg4.IsWhole) (arg5 : Memref sig .tc .vmem S512x128 .bf16) (harg5 : arg5.IsWhole)
    (arg6 : Memref sig .tc .vmem S2x4096x512 .f32) (harg6 : arg6.IsWhole) (arg7 : Memref sig .tc .vmem S2x1x512 .f32) (harg7 : arg7.IsWhole)
    (arg8 : Memref sig .tc .vmem S2x4096x512 .f32) (harg8 : arg8.IsWhole) (arg9 : Memref sig .tc .vmem S2x1x512 .f32) (harg9 : arg9.IsWhole)
    (hc0 : ¬cond1 i) (hc1 : k0_cond2 i = 1#1) (hc2 : ¬k0_cond3 i = 1#1) (hc3 : ¬k0_cond4 i = 1#1)
    (x0 : Vec F S512x256 .bf16) (x1 : Vec F S4096x256 .bf16) (x2 : Vec F S128x4096 .bf16) (x3 : Vec F S128x1 .f32)
    (s : Vec F S2x4096x512 .f32) (mx : Vec F S2x1x512 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (∃ d, owns (c : Thread nD τ) arg7 fullShare d) ∗ owns (c : Thread nD τ) arg8 fullShare s ∗ owns (c : Thread nD τ) arg9 fullShare mx
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (finished s mx x2 x3)
            ∗ owns (c : Thread nD τ) arg6 fullShare (scores x0 x1) ∗ owns (c : Thread nD τ) arg7 fullShare (tops x0 x1)
            ∗ owns (c : Thread nD τ) arg8 fullShare s ∗ owns (c : Thread nD τ) arg9 fullShare mx) -∗ K ⟨⟩))
      ⊢ wp frame (wpE (defs₀ (F := F)) Variants.none c none) E
          (cc0_attention i arg1 harg1 arg2 harg2 arg3 harg3 arg4 harg4 arg5 harg5 arg6 harg6 arg7 harg7 arg8 harg8 arg9 harg9) K := by
  simp only [cc0_attention_eq_skeleton]; unfold cc0_attention_skel
  simp only [k0_part6_eq_skeleton, k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%fs2, %hfs2, HS2⟩, ⟨%fs3, %hfs3, HS3⟩, Hk⟩
  subst hf0 hf1 hf2 hf3 hfs2 hfs3
  sl_exec (disch := first | sl_exact hc0 | sl_exact hc1 | sl_exact hc2 | sl_exact hc3)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr
    swap; · iexact H4
    ipureintro
    exact (View.read_writes_eq_canon _ _ _ (View.cover_of_tiledL _ S512x128.size (by sl_kernel_rfl))).trans
      (View.canon_unit_zero zero2 _ _)
  isplitl [HS0]
  · iexists _; isplitr
    swap; · iexact HS0
    ipureintro
    exact View.read_writes_eq_canon _ _ _ (View.cover_of_tiledL _ S1x4096x512.size (by sl_kernel_rfl))
  isplitl [HS1]
  · iexists _; isplitr
    swap; · iexact HS1
    ipureintro
    exact View.read_writes_eq_canon _ _ _ (View.cover_of_tiledL _ S1x1x512.size (by sl_kernel_rfl))
  isplitl [HS2]
  · iexists _; isplitr; · ipureintro; rfl
    iexact HS2
  iexists _; isplitr; · ipureintro; rfl
  iexact HS3

set_option maxHeartbeats 1000000 in
/-- The last point: the body reads the second pair of scratch buffers and fills nothing. -/
theorem run_last (c : Dev nD) (i : grid0.Coords) (arg1 : Memref sig .tc .vmem S512x256 .bf16) (harg1 : arg1.IsWhole)
    (arg2 : Memref sig .tc .vmem S4096x256 .bf16) (harg2 : arg2.IsWhole) (arg3 : Memref sig .tc .vmem S128x4096 .bf16) (harg3 : arg3.IsWhole)
    (arg4 : Memref sig .tc .vmem S128x1 .f32) (harg4 : arg4.IsWhole) (arg5 : Memref sig .tc .vmem S512x128 .bf16) (harg5 : arg5.IsWhole)
    (arg6 : Memref sig .tc .vmem S2x4096x512 .f32) (harg6 : arg6.IsWhole) (arg7 : Memref sig .tc .vmem S2x1x512 .f32) (harg7 : arg7.IsWhole)
    (arg8 : Memref sig .tc .vmem S2x4096x512 .f32) (harg8 : arg8.IsWhole) (arg9 : Memref sig .tc .vmem S2x1x512 .f32) (harg9 : arg9.IsWhole)
    (hc0 : ¬cond1 i) (hc1 : ¬k0_cond2 i = 1#1) (hc2 : ¬k0_cond3 i = 1#1) (hc3 : k0_cond4 i = 1#1)
    (x0 : Vec F S512x256 .bf16) (x1 : Vec F S4096x256 .bf16) (x2 : Vec F S128x4096 .bf16) (x3 : Vec F S128x1 .f32)
    (s : Vec F S2x4096x512 .f32) (mx : Vec F S2x1x512 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (∃ d, owns (c : Thread nD τ) arg7 fullShare d) ∗ owns (c : Thread nD τ) arg8 fullShare s ∗ owns (c : Thread nD τ) arg9 fullShare mx
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (finished s mx x2 x3)
            ∗ (∃ d, owns (c : Thread nD τ) arg6 fullShare d) ∗ (∃ d, owns (c : Thread nD τ) arg7 fullShare d)
            ∗ owns (c : Thread nD τ) arg8 fullShare s ∗ owns (c : Thread nD τ) arg9 fullShare mx) -∗ K ⟨⟩))
      ⊢ wp frame (wpE (defs₀ (F := F)) Variants.none c none) E
          (cc0_attention i arg1 harg1 arg2 harg2 arg3 harg3 arg4 harg4 arg5 harg5 arg6 harg6 arg7 harg7 arg8 harg8 arg9 harg9) K := by
  simp only [cc0_attention_eq_skeleton]; unfold cc0_attention_skel
  simp only [k0_part6_eq_skeleton, k0_part5_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%fs2, %hfs2, HS2⟩, ⟨%fs3, %hfs3, HS3⟩, Hk⟩
  subst hf0 hf1 hf2 hf3 hfs2 hfs3
  sl_exec (disch := first | sl_exact hc0 | sl_exact hc1 | sl_exact hc2 | sl_exact hc3)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr
    swap; · iexact H4
    ipureintro
    exact (View.read_writes_eq_canon _ _ _ (View.cover_of_tiledL _ S512x128.size (by sl_kernel_rfl))).trans
      (View.canon_unit_zero zero2 _ _)
  isplitl [HS0]
  · iexists _, _; isplitr
    swap; · iexact HS0
    ipureintro; rfl
  isplitl [HS1]
  · iexists _, _; isplitr
    swap; · iexact HS1
    ipureintro; rfl
  isplitl [HS2]
  · iexists _; isplitr; · ipureintro; rfl
    iexact HS2
  iexists _; isplitr; · ipureintro; rfl
  iexact HS3

set_option maxHeartbeats 1000000 in
/-- The first point: the body clears the second pair of scratch buffers, reads it, and fills the first. -/
theorem run_first (c : Dev nD) (i : grid0.Coords) (arg1 : Memref sig .tc .vmem S512x256 .bf16) (harg1 : arg1.IsWhole)
    (arg2 : Memref sig .tc .vmem S4096x256 .bf16) (harg2 : arg2.IsWhole) (arg3 : Memref sig .tc .vmem S128x4096 .bf16) (harg3 : arg3.IsWhole)
    (arg4 : Memref sig .tc .vmem S128x1 .f32) (harg4 : arg4.IsWhole) (arg5 : Memref sig .tc .vmem S512x128 .bf16) (harg5 : arg5.IsWhole)
    (arg6 : Memref sig .tc .vmem S2x4096x512 .f32) (harg6 : arg6.IsWhole) (arg7 : Memref sig .tc .vmem S2x1x512 .f32) (harg7 : arg7.IsWhole)
    (arg8 : Memref sig .tc .vmem S2x4096x512 .f32) (harg8 : arg8.IsWhole) (arg9 : Memref sig .tc .vmem S2x1x512 .f32) (harg9 : arg9.IsWhole)
    (hc0 : cond1 i) (hc1 : k0_cond2 i = 1#1) (hc2 : ¬k0_cond3 i = 1#1) (hc3 : ¬k0_cond4 i = 1#1)
    (x0 : Vec F S512x256 .bf16) (x1 : Vec F S4096x256 .bf16) (x2 : Vec F S128x4096 .bf16) (x3 : Vec F S128x1 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (finished (k0_pay19 (F := F)) (k0_pay20 (F := F)) x2 x3)
            ∗ owns (c : Thread nD τ) arg6 fullShare (scores x0 x1) ∗ owns (c : Thread nD τ) arg7 fullShare (tops x0 x1)
            ∗ (∃ d, owns (c : Thread nD τ) arg8 fullShare d) ∗ (∃ d, owns (c : Thread nD τ) arg9 fullShare d)) -∗ K ⟨⟩))
      ⊢ wp frame (wpE (defs₀ (F := F)) Variants.none c none) E
          (cc0_attention i arg1 harg1 arg2 harg2 arg3 harg3 arg4 harg4 arg5 harg5 arg6 harg6 arg7 harg7 arg8 harg8 arg9 harg9) K := by
  simp only [cc0_attention_eq_skeleton]; unfold cc0_attention_skel
  simp only [k0_part6_eq_skeleton, k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, ⟨%ds3, %fs3, -, HS3⟩, Hk⟩
  subst hf0 hf1 hf2 hf3
  sl_exec (disch := first | sl_exact hc0 | sl_exact hc1 | sl_exact hc2 | sl_exact hc3)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr
    swap; · iexact H4
    ipureintro
    refine (View.read_writes_eq_canon _ _ _ (View.cover_of_tiledL _ S512x128.size (by sl_kernel_rfl))).trans
      ((View.canon_unit_zero zero2 _ _).trans ?_)
    delta run_first.sl.r run_first.sl.r_1
    delta run_first.sl.v37 run_first.sl.v39 run_first.sl.v65 run_first.sl.v67
    delta run_first.sl.HS2_1 run_first.sl.HS3_1
    rw [readCov_scores, readCov_tops, readCov_scores, readCov_tops]
    rfl
  isplitl [HS0]
  · iexists _; isplitr
    swap; · iexact HS0
    ipureintro
    exact View.read_writes_eq_canon _ _ _ (View.cover_of_tiledL _ S1x4096x512.size (by sl_kernel_rfl))
  isplitl [HS1]
  · iexists _; isplitr
    swap; · iexact HS1
    ipureintro
    exact View.read_writes_eq_canon _ _ _ (View.cover_of_tiledL _ S1x1x512.size (by sl_kernel_rfl))
  isplitl [HS2]
  · iexists _, _; isplitr
    swap; · iexact HS2
    ipureintro; rfl
  iexists _, _; isplitr
  swap; · iexact HS3
  ipureintro; rfl

end Cert.KernelIdeal.Body

end
-- ==== Proof.KernelIdeal.Frame.lean ====
/- The attention's frame: the body's run at every grid point, the scratch carried from point to point, and the launch. -/
module

public import proofs.«01_k».proof.Proof.KernelIdeal.Run
public import Idealize.ShloMosaic.Lib.Claim

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions over the points -/

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, k0_cond2 (grid0.coords t) = 1#1 ↔ t.val % 2 = 0 ∧ t.val < 512 :=
  (by decide +kernel : ∀ t : Fin grid0.N, k0_cond2 (grid0.coords t) = 1#1 ↔ t.val % 2 = 0 ∧ t.val < 512)
theorem hcond3 : ∀ t : Fin cfg0.N, k0_cond3 (grid0.coords t) = 1#1 ↔ t.val % 2 = 1 :=
  (by decide +kernel : ∀ t : Fin grid0.N, k0_cond3 (grid0.coords t) = 1#1 ↔ t.val % 2 = 1)
theorem hcond4 : ∀ t : Fin cfg0.N, k0_cond4 (grid0.coords t) = 1#1 ↔ t.val = 512 :=
  (by decide +kernel : ∀ t : Fin grid0.N, k0_cond4 (grid0.coords t) = 1#1 ↔ t.val = 512)
theorem live_out : ∀ t : Fin cfg0.N, cfg0.idle 4 (grid0.coords t) = false :=
  (by decide +kernel : ∀ t : Fin grid0.N, cfg0.idle 4 (grid0.coords t) = false)

/-! ## The memrefs of a point -/

abbrev stg0 (t : Fin cfg0.N) : Memref sig .tc .vmem S512x256 .bf16 := win0_0.stage (cfg0.slots t 0)
abbrev stg1 (t : Fin cfg0.N) : Memref sig .tc .vmem S4096x256 .bf16 := win0_1.stage (cfg0.slots t 1)
abbrev stg2 (t : Fin cfg0.N) : Memref sig .tc .vmem S128x4096 .bf16 := win0_2.stage (cfg0.slots t 2)
abbrev stg3 (t : Fin cfg0.N) : Memref sig .tc .vmem S128x1 .f32 := win0_3.stage (cfg0.slots t 3)
abbrev stg4 (t : Fin cfg0.N) : Memref sig .tc .vmem S512x128 .bf16 := win0_4.stage (cfg0.slots t 4)
abbrev scr0 : Memref sig .tc .vmem S2x4096x512 .f32 := Memref.whole cc0_scratch0
abbrev scr1 : Memref sig .tc .vmem S2x1x512 .f32 := Memref.whole cc0_scratch1
abbrev scr2 : Memref sig .tc .vmem S2x4096x512 .f32 := Memref.whole cc0_scratch2
abbrev scr3 : Memref sig .tc .vmem S2x1x512 .f32 := Memref.whole cc0_scratch3

/-- A buffer owned at some contents. -/
abbrev some' (c : Dev nD) {s : Shape} {e : EltTy} (M : Memref sig .tc .vmem s e) : sProp 𝕄 :=
  iprop(∃ d, owns (c : Thread nD τ) M fullShare d)

theorem rest_eq (c : Dev nD) :
    (Pipeline.ΦA spec0 c : sProp 𝕄)
      = iprop(iprop(some' c scr0 ∗ some' c scr1 ∗ some' c scr2 ∗ some' c scr3) ∗ (∃ r, prngReg c r)) := by
  unfold Pipeline.ΦA some'; rw [scopedRest0_eq]; simp only [owns_whole]; try rfl

/-! ## What the scratch and the output hold -/

/-- The scores the point before `n` left: cleared before the first point. -/
def scoresBefore (c : Dev nD) : (n : ℕ) → n ≤ cfg0.N → Vec F S2x4096x512 .f32
  | 0, _ => k0_pay19
  | n + 1, h => scores (iblk m c 0 ⟨n, h⟩) (iblk m c 1 ⟨n, h⟩)

/-- The greatest scores the point before `n` left. -/
def topsBefore (c : Dev nD) : (n : ℕ) → n ≤ cfg0.N → Vec F S2x1x512 .f32
  | 0, _ => k0_pay20
  | n + 1, h => tops (iblk m c 0 ⟨n, h⟩) (iblk m c 1 ⟨n, h⟩)

/-- The tile point `t` finishes: of the scores of the point before. -/
def tileAt (c : Dev nD) (t : Fin cfg0.N) : Vec F S512x128 .bf16 :=
  finished (scoresBefore m c t.val t.isLt.le) (topsBefore m c t.val t.isLt.le) (iblk m c 2 t) (iblk m c 3 t)

/-- The scratch before point `n`: after an even point the first pair of buffers holds its scores, after an odd point the
    second pair; nothing is said of the other pair, nor of either before the first point and after the last. -/
def carried (c : Dev nD) (n : ℕ) (h : n ≤ cfg0.N) : sProp 𝕄 :=
  if n = 0 ∨ n = 513 then iprop(some' c scr0 ∗ some' c scr1 ∗ some' c scr2 ∗ some' c scr3)
  else if n % 2 = 1 then
    iprop(owns (c : Thread nD τ) scr0 fullShare (scoresBefore m c n h) ∗ owns (c : Thread nD τ) scr1 fullShare (topsBefore m c n h)
      ∗ some' c scr2 ∗ some' c scr3)
  else
    iprop(some' c scr0 ∗ some' c scr1 ∗ owns (c : Thread nD τ) scr2 fullShare (scoresBefore m c n h)
      ∗ owns (c : Thread nD τ) scr3 fullShare (topsBefore m c n h))

/-- The scratch's contents forgotten. -/
theorem carried_forget (c : Dev nD) (n : ℕ) (h : n ≤ cfg0.N) :
    carried m c n h ⊢ iprop(some' c scr0 ∗ some' c scr1 ∗ some' c scr2 ∗ some' c scr3) := by
  unfold carried some'
  split_ifs
  · exact .rfl
  · iintro ⟨H0, H1, H2, H3⟩
    isplitl [H0]; · iexists _; iexact H0
    isplitl [H1]; · iexists _; iexact H1
    isplitl [H2]; · iexact H2
    iexact H3
  · iintro ⟨H0, H1, H2, H3⟩
    isplitl [H0]; · iexact H0
    isplitl [H1]; · iexact H1
    isplitl [H2]; · iexists _; iexact H2
    iexists _; iexact H3

theorem carried_zero (c : Dev nD) (n : ℕ) (h : n ≤ cfg0.N) (hn : n = 0 ∨ n = 513) :
    carried m c n h = iprop(some' c scr0 ∗ some' c scr1 ∗ some' c scr2 ∗ some' c scr3) := if_pos hn

theorem carried_odd (c : Dev nD) (n : ℕ) (h : n ≤ cfg0.N) (hn : ¬(n = 0 ∨ n = 513)) (h2 : n % 2 = 1) :
    carried m c n h = iprop(owns (c : Thread nD τ) scr0 fullShare (scoresBefore m c n h)
      ∗ owns (c : Thread nD τ) scr1 fullShare (topsBefore m c n h) ∗ some' c scr2 ∗ some' c scr3) :=
  (if_neg hn).trans (if_pos h2)

theorem carried_even (c : Dev nD) (n : ℕ) (h : n ≤ cfg0.N) (hn : ¬(n = 0 ∨ n = 513)) (h2 : ¬n % 2 = 1) :
    carried m c n h = iprop(some' c scr0 ∗ some' c scr1 ∗ owns (c : Thread nD τ) scr2 fullShare (scoresBefore m c n h)
      ∗ owns (c : Thread nD τ) scr3 fullShare (topsBefore m c n h)) :=
  (if_neg hn).trans (if_neg h2)

/-! ## The pipeline's proof data -/

/-- The arrays as the region finds them; after the body at `t` each input's buffer at its block and the output's at the
    finished tile; the scratch as `carried` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => tileAt m c t
  Φ t := iprop(carried m c t.val (Nat.le_of_lt_succ t.isLt) ∗ (∃ r, prngReg c r))
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = tileAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_0 (c : Dev nD) (t : Fin cfg0.N) :
    (dats m 0 c).leavesExact 0 t = owns (c : Thread nD τ) (stg0 t) fullShare (iblk m c 0 t) := by
  unfold Dat.leavesExact; rw [show cfg0.idle 0 (grid0.coords t) = false from rfl, after_0]
theorem leaves_1 (c : Dev nD) (t : Fin cfg0.N) :
    (dats m 0 c).leavesExact 1 t = owns (c : Thread nD τ) (stg1 t) fullShare (iblk m c 1 t) := by
  unfold Dat.leavesExact; rw [show cfg0.idle 1 (grid0.coords t) = false from rfl, after_1]
theorem leaves_2 (c : Dev nD) (t : Fin cfg0.N) :
    (dats m 0 c).leavesExact 2 t = owns (c : Thread nD τ) (stg2 t) fullShare (iblk m c 2 t) := by
  unfold Dat.leavesExact; rw [show cfg0.idle 2 (grid0.coords t) = false from rfl, after_2]
theorem leaves_3 (c : Dev nD) (t : Fin cfg0.N) :
    (dats m 0 c).leavesExact 3 t = owns (c : Thread nD τ) (stg3 t) fullShare (iblk m c 3 t) := by
  unfold Dat.leavesExact; rw [show cfg0.idle 3 (grid0.coords t) = false from rfl, after_3]
theorem leaves_4 (c : Dev nD) (t : Fin cfg0.N) :
    (dats m 0 c).leavesExact 4 t = owns (c : Thread nD τ) (stg4 t) fullShare (tileAt m c t) := by
  unfold Dat.leavesExact; rw [live_out t, after_4]

/-- The tile of the first point, of cleared scratch. -/
theorem tileAt_first (c : Dev nD) (t : Fin cfg0.N) (h : t.val = 0) :
    tileAt m c t = finished (k0_pay19 (F := F)) (k0_pay20 (F := F)) (iblk m c 2 t) (iblk m c 3 t) := by
  obtain ⟨n, hn⟩ := t
  subst h; rfl

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, leaves_0, leaves_1, leaves_2, leaves_3, leaves_4]
  rw [show (dats m 0 c).owesAt () t.succ = (dats m 0 c).owesAt () t.castSucc from rfl,
    show (dats m 0 c).Φ t.castSucc = iprop(carried m c t.val t.isLt.le ∗ (∃ r, prngReg c r)) from rfl,
    show (dats m 0 c).Φ t.succ = iprop(carried m c (t.val + 1) t.isLt ∗ (∃ r, prngReg c r)) from rfl]
  have hN : t.val < 513 := lt_of_lt_of_eq t.isLt (show cfg0.N = 513 from N_0)
  by_cases h0 : t.val = 0
  · rw [carried_zero m c t.val _ (.inl h0), carried_odd m c (t.val + 1) _ (by omega) (by omega), tileAt_first m c t h0]
    iintro ⟨⟨⟨HS0, HS1, HS2, HS3⟩, Hg⟩, Ho, ⟨%d0, H0⟩, ⟨%d1, H1⟩, ⟨%d2, H2⟩, ⟨%d3, H3⟩, ⟨%d4, H4⟩⟩
    iapply (run_first c (grid0.coords t) _ _ _ _ _ _ _ _ _ _ _ _ _ _ _ _ _ _ ((hcond1 t).mpr h0)
      ((hcond2 t).mpr (by omega)) (fun h => by have := (hcond3 t).mp h; omega) (fun h => by have := (hcond4 t).mp h; omega)
      (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HS3]; · iexact HS3
    iintro ⟨H0, H1, H2, H3, H4, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    iexact H4
  by_cases h1 : t.val % 2 = 1
  · rw [carried_odd m c t.val _ (by omega) h1, carried_even m c (t.val + 1) _ (by omega) (by omega)]
    iintro ⟨⟨⟨HS0, HS1, HS2, HS3⟩, Hg⟩, Ho, ⟨%d0, H0⟩, ⟨%d1, H1⟩, ⟨%d2, H2⟩, ⟨%d3, H3⟩, ⟨%d4, H4⟩⟩
    iapply (run_odd c (grid0.coords t) _ _ _ _ _ _ _ _ _ _ _ _ _ _ _ _ _ _ (fun h => h0 ((hcond1 t).mp h))
      (fun h => by have := (hcond2 t).mp h; omega) ((hcond3 t).mpr h1) (fun h => by have := (hcond4 t).mp h; omega)
      (iblk m c 0 t) (iblk m c 1 t) (iblk m c 2 t) (iblk m c 3 t) (scoresBefore m c t.val t.isLt.le) (topsBefore m c t.val t.isLt.le) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HS3]; · iexact HS3
    iintro ⟨H0, H1, H2, H3, H4, HS0, HS1, HS2, HS3⟩
    isplitl [HS0 HS1 HS2 HS3 Hg]
    · isplitl [HS0 HS1 HS2 HS3]
      · isplitl [HS0]; · iexists _; iexact HS0
        isplitl [HS1]; · iexists _; iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    iexact H4
  by_cases h2 : t.val = 512
  · rw [carried_even m c t.val _ (by omega) h1, carried_zero m c (t.val + 1) _ (by omega)]
    iintro ⟨⟨⟨HS0, HS1, HS2, HS3⟩, Hg⟩, Ho, ⟨%d0, H0⟩, ⟨%d1, H1⟩, ⟨%d2, H2⟩, ⟨%d3, H3⟩, ⟨%d4, H4⟩⟩
    iapply (run_last c (grid0.coords t) _ _ _ _ _ _ _ _ _ _ _ _ _ _ _ _ _ _ (fun h => h0 ((hcond1 t).mp h))
      (fun h => by have := (hcond2 t).mp h; omega) (fun h => h1 ((hcond3 t).mp h)) ((hcond4 t).mpr h2)
      (iblk m c 0 t) (iblk m c 1 t) (iblk m c 2 t) (iblk m c 3 t) (scoresBefore m c t.val t.isLt.le) (topsBefore m c t.val t.isLt.le) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HS3]; · iexact HS3
    iintro ⟨H0, H1, H2, H3, H4, HS0, HS1, HS2, HS3⟩
    isplitl [HS0 HS1 HS2 HS3 Hg]
    · isplitl [HS0 HS1 HS2 HS3]
      · isplitl [HS0]; · iexact HS0
        isplitl [HS1]; · iexact HS1
        isplitl [HS2]; · iexists _; iexact HS2
        iexists _; iexact HS3
      iexact Hg
    isplitl [Ho]; · iexact Ho
    isplitl [H0]; · iexact H0
    isplitl [H1]; · iexact H1
    isplitl [H2]; · iexact H2
    isplitl [H3]; · iexact H3
    iexact H4
  · rw [carried_even m c t.val _ (by omega) h1, carried_odd m c (t.val + 1) _ (by omega) (by omega)]
    iintro ⟨⟨⟨HS0, HS1, HS2, HS3⟩, Hg⟩, Ho, ⟨%d0, H0⟩, ⟨%d1, H1⟩, ⟨%d2, H2⟩, ⟨%d3, H3⟩, ⟨%d4, H4⟩⟩
    iapply (run_even c (grid0.coords t) _ _ _ _ _ _ _ _ _ _ _ _ _ _ _ _ _ _ (fun h => h0 ((hcond1 t).mp h))
      ((hcond2 t).mpr (by omega)) (fun h => h1 ((hcond3 t).mp h)) (fun h => h2 ((hcond4 t).mp h))
      (iblk m c 0 t) (iblk m c 1 t) (iblk m c 2 t) (iblk m c 3 t) (scoresBefore m c t.val t.isLt.le) (topsBefore m c t.val t.isLt.le) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HS3]; · iexact HS3
    iintro ⟨H0, H1, H2, H3, H4, HS0, HS1, HS2, HS3⟩
    isplitl [HS0 HS1 HS2 HS3 Hg]
    · isplitl [HS0 HS1 HS2 HS3]
      · isplitl [HS0]; · iexact HS0
        isplitl [HS1]; · iexact HS1
        isplitl [HS2]; · iexists _; iexact HS2
        iexists _; iexact HS3
      iexact Hg
    isplitl [Ho]; · iexact Ho
    isplitl [H0]; · iexact H0
    isplitl [H1]; · iexact H1
    isplitl [H2]; · iexact H2
    isplitl [H3]; · iexact H3
    iexact H4

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = iprop(carried m c 0 (Nat.zero_le _) ∗ (∃ r, prngReg c r)) from rfl,
    carried_zero m c 0 _ (.inl rfl), rest_eq]

theorem hout (c : Dev nD) : (dats m 0 c).Φ (Fin.last cfg0.N) ⊢ Pipeline.ΦA spec0 c := by
  rw [show (dats m 0 c).Φ (Fin.last cfg0.N) = iprop(carried m c cfg0.N le_rfl ∗ (∃ r, prngReg c r)) from rfl,
    carried_zero m c cfg0.N _ (.inr N_0), rest_eq]

/-! ## The run and the frame -/

set_option backward.isDefEq.respectTransparency.types false in
/-- The launch: every array ends at what the pipeline's proof data says, and every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run : θ_run defs (onTc (τ := τ) (main (F := F))) (s₀ m ρ) (Pipeline.FramePost cfgs (dats m) 0 (V m)) :=
  (θ_run defs _ _).mono (fun _ h => h.1) (run_quiescent m ρ)

/-- The frame: the arguments end unchanged and every counter at zero. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run m ρ)) ((θ_run defs _ _).mono (fun _ h => h.2) (run_quiescent m ρ))

end Cert.KernelIdeal.Body

end
-- ==== Proof.Kernel2Ideal.Frame.lean ====
/- The run of the idealized kernel of the input norm and projections: what the host leaves for the region, what the body does at a
   point, and the frame. -/
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel2Ideal.Body

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the core's buffers hold when the region starts: the host's lines have run over the launch memory. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10]) (fun b => m (c, b)) b

/-- The host's lines allocate no buffer that is already in use. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The block of window `w` at point `t`, from the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 1320000 in
/-- A run of the pipeline from any proof data leaves the arguments as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

abbrev r0_0 : Rect S256x1024 := Rect.unit (s := S256x1024) ![0, 0] S256x1024.size inb_S256x1024_S256x1024_0_0
abbrev r0_1 : Rect S1x1024 := Rect.unit (s := S1x1024) ![0, 0] S1x1024.size inb_S1x1024_S1x1024_0_0
abbrev r0_2 : Rect S1024x2176 := Rect.unit (s := S1024x2176) ![0, 0] S1024x2176.size inb_S1024x2176_S1024x2176_0_0
abbrev r0_3 : Rect S1x256 := Rect.unit (s := S1x256) ![0, 0] S1x256.size inb_S1x256_S1x256_0_0
abbrev r0_4 : Rect S1x128 := Rect.unit (s := S1x128) ![0, 0] S1x128.size inb_S1x128_S1x128_0_0
abbrev r0_5 : Rect S128x1024 := Rect.unit (s := S128x1024) ![0, 0] S128x1024.size inb_S128x1024_S128x1024_0_0
abbrev r0_6 : Rect S512x128 := Rect.unit (s := S512x128) ![0, 0] S512x128.size inb_S512x128_S512x128_0_0
abbrev r0_7 : Rect S512x256 := Rect.unit (s := S512x256) ![0, 0] S512x256.size inb_S512x256_S512x256_0_0
abbrev r0_8 : Rect S256x128 := Rect.unit (s := S256x128) ![0, 0] S256x128.size inb_S256x128_S256x128_0_0
abbrev r0_9 : Rect S256x1024 := Rect.unit (s := S256x1024) ![0, 0] S256x128.size inb_S256x1024_S256x128_0_0
abbrev r0_10 : Rect S256x1024 := Rect.unit (s := S256x1024) ![0, 128] S256x128.size inb_S256x1024_S256x128_0_128
abbrev r0_11 : Rect S256x1024 := Rect.unit (s := S256x1024) ![0, 256] S256x128.size inb_S256x1024_S256x128_0_256
abbrev r0_12 : Rect S256x1024 := Rect.unit (s := S256x1024) ![0, 384] S256x128.size inb_S256x1024_S256x128_0_384
abbrev r0_13 : Rect S256x1024 := Rect.unit (s := S256x1024) ![0, 512] S256x128.size inb_S256x1024_S256x128_0_512
abbrev r0_14 : Rect S256x1024 := Rect.unit (s := S256x1024) ![0, 640] S256x128.size inb_S256x1024_S256x128_0_640
abbrev r0_15 : Rect S256x1024 := Rect.unit (s := S256x1024) ![0, 768] S256x128.size inb_S256x1024_S256x128_0_768
abbrev r0_16 : Rect S256x1024 := Rect.unit (s := S256x1024) ![0, 896] S256x128.size inb_S256x1024_S256x128_0_896
abbrev r0_17 : Rect S8x1024 := Rect.unit (s := S8x1024) ![0, 0] S8x1024.size inb_S8x1024_S8x1024_0_0
abbrev r0_18 : Rect S1024x2176 := Rect.unit (s := S1024x2176) ![0, 640] S1024x1536.size inb_S1024x2176_S1024x1536_0_640
abbrev r0_19 : Rect S1x1536 := Rect.unit (s := S1x1536) ![0, 0] S1x1536.size inb_S1x1536_S1x1536_0_0
abbrev r0_20 : Rect S3x1536 := Rect.unit (s := S3x1536) ![0, 0] S1x1536.size inb_S3x1536_S1x1536_0_0
abbrev r0_21 : Rect S3x1536 := Rect.unit (s := S3x1536) ![1, 0] S1x1536.size inb_S3x1536_S1x1536_1_0
abbrev r0_22 : Rect S3x1536 := Rect.unit (s := S3x1536) ![2, 0] S1x1536.size inb_S3x1536_S1x1536_2_0
abbrev r0_23 : Rect S1536x256 := Rect.unit (s := S1536x256) ![0, 0] S1536x256.size inb_S1536x256_S1536x256_0_0

/-- The zeros that the first product starts from. -/
def k0_pay38 (i : grid0.Coords) (x0 : Vec F S256x1024 .f32) (x1 : Vec F S8x1024 .f32) (x2 : Vec F S8x1024 .f32) (x3 : Vec F S1x1024 .f32) (x4 : Vec F S1x1024 .f32) (x5 : Vec F S1024x2176 .bf16) (x6 : Vec F S1x256 .f32) (x7 : Vec F S256x1024 .bf16) (x8 : Vec F S256x1024 .bf16) (x9 : Vec F S1x128 .f32) (x10 : Vec F S128x1024 .bf16) (x11 : Vec F S512x128 .bf16) (x12 : Vec F S3x1536 .f32) (x13 : Vec F S1x1536 .f32) (x14 : Vec F S256x128 .f32) (x15 : Vec F S256x128 .f32) (x16 : Vec F S256x128 .f32) (x17 : Vec F S256x128 .f32) : FVec F S256x2176 .f32 :=
  constant S256x2176 .f32 0x00000000#32
/-- The normed rows. -/
def k0_pay39 (i : grid0.Coords) (x0 : Vec F S256x1024 .f32) (x1 : Vec F S8x1024 .f32) (x2 : Vec F S8x1024 .f32) (x3 : Vec F S1x1024 .f32) (x4 : Vec F S1x1024 .f32) (x5 : Vec F S1024x2176 .bf16) (x6 : Vec F S1x256 .f32) (x7 : Vec F S256x1024 .bf16) (x8 : Vec F S256x1024 .bf16) (x9 : Vec F S1x128 .f32) (x10 : Vec F S128x1024 .bf16) (x11 : Vec F S512x128 .bf16) (x12 : Vec F S3x1536 .f32) (x13 : Vec F S1x1536 .f32) (x14 : Vec F S256x128 .f32) (x15 : Vec F S256x128 .f32) (x16 : Vec F S256x128 .f32) (x17 : Vec F S256x128 .f32) : FVec F S256x1024 .bf16 :=
  k0_pay2 (View.ld x0 r0_0) (View.ld x3 r0_1) (View.ld x4 r0_1)
/-- The weights of the input projection. -/
def k0_pay40 (i : grid0.Coords) (x0 : Vec F S256x1024 .f32) (x1 : Vec F S8x1024 .f32) (x2 : Vec F S8x1024 .f32) (x3 : Vec F S1x1024 .f32) (x4 : Vec F S1x1024 .f32) (x5 : Vec F S1024x2176 .bf16) (x6 : Vec F S1x256 .f32) (x7 : Vec F S256x1024 .bf16) (x8 : Vec F S256x1024 .bf16) (x9 : Vec F S1x128 .f32) (x10 : Vec F S128x1024 .bf16) (x11 : Vec F S512x128 .bf16) (x12 : Vec F S3x1536 .f32) (x13 : Vec F S1x1536 .f32) (x14 : Vec F S256x128 .f32) (x15 : Vec F S256x128 .f32) (x16 : Vec F S256x128 .f32) (x17 : Vec F S256x128 .f32) : FVec F S1024x2176 .bf16 :=
  k0_pay3 (View.ld x5 r0_2)
/-- The shared rotary columns. -/
def k0_pay41 (i : grid0.Coords) (x0 : Vec F S256x1024 .f32) (x1 : Vec F S8x1024 .f32) (x2 : Vec F S8x1024 .f32) (x3 : Vec F S1x1024 .f32) (x4 : Vec F S1x1024 .f32) (x5 : Vec F S1024x2176 .bf16) (x6 : Vec F S1x256 .f32) (x7 : Vec F S256x1024 .bf16) (x8 : Vec F S256x1024 .bf16) (x9 : Vec F S1x128 .f32) (x10 : Vec F S128x1024 .bf16) (x11 : Vec F S512x128 .bf16) (x12 : Vec F S3x1536 .f32) (x13 : Vec F S1x1536 .f32) (x14 : Vec F S256x128 .f32) (x15 : Vec F S256x128 .f32) (x16 : Vec F S256x128 .f32) (x17 : Vec F S256x128 .f32) : FVec F S256x128 .f32 :=
  k0_pay5 (k0_pay39 i x0 x1 x2 x3 x4 x5 x6 x7 x8 x9 x10 x11 x12 x13 x14 x15 x16 x17) (k0_pay40 i x0 x1 x2 x3 x4 x5 x6 x7 x8 x9 x10 x11 x12 x13 x14 x15 x16 x17) (k0_pay38 i x0 x1 x2 x3 x4 x5 x6 x7 x8 x9 x10 x11 x12 x13 x14 x15 x16 x17)
/-- The shared rotary columns with their halves exchanged. -/
def k0_pay42 (i : grid0.Coords) (x0 : Vec F S256x1024 .f32) (x1 : Vec F S8x1024 .f32) (x2 : Vec F S8x1024 .f32) (x3 : Vec F S1x1024 .f32) (x4 : Vec F S1x1024 .f32) (x5 : Vec F S1024x2176 .bf16) (x6 : Vec F S1x256 .f32) (x7 : Vec F S256x1024 .bf16) (x8 : Vec F S256x1024 .bf16) (x9 : Vec F S1x128 .f32) (x10 : Vec F S128x1024 .bf16) (x11 : Vec F S512x128 .bf16) (x12 : Vec F S3x1536 .f32) (x13 : Vec F S1x1536 .f32) (x14 : Vec F S256x128 .f32) (x15 : Vec F S256x128 .f32) (x16 : Vec F S256x128 .f32) (x17 : Vec F S256x128 .f32) : FVec F S256x128 .f32 :=
  k0_pay6 (k0_pay39 i x0 x1 x2 x3 x4 x5 x6 x7 x8 x9 x10 x11 x12 x13 x14 x15 x16 x17) (k0_pay40 i x0 x1 x2 x3 x4 x5 x6 x7 x8 x9 x10 x11 x12 x13 x14 x15 x16 x17) (k0_pay38 i x0 x1 x2 x3 x4 x5 x6 x7 x8 x9 x10 x11 x12 x13 x14 x15 x16 x17)
/-- The columns of the Hyena branch. -/
def k0_pay43 (i : grid0.Coords) (x0 : Vec F S256x1024 .f32) (x1 : Vec F S8x1024 .f32) (x2 : Vec F S8x1024 .f32) (x3 : Vec F S1x1024 .f32) (x4 : Vec F S1x1024 .f32) (x5 : Vec F S1024x2176 .bf16) (x6 : Vec F S1x256 .f32) (x7 : Vec F S256x1024 .bf16) (x8 : Vec F S256x1024 .bf16) (x9 : Vec F S1x128 .f32) (x10 : Vec F S128x1024 .bf16) (x11 : Vec F S512x128 .bf16) (x12 : Vec F S3x1536 .f32) (x13 : Vec F S1x1536 .f32) (x14 : Vec F S256x128 .f32) (x15 : Vec F S256x128 .f32) (x16 : Vec F S256x128 .f32) (x17 : Vec F S256x128 .f32) : FVec F S256x1536 .f32 :=
  k0_pay7 (k0_pay39 i x0 x1 x2 x3 x4 x5 x6 x7 x8 x9 x10 x11 x12 x13 x14 x15 x16 x17) (k0_pay40 i x0 x1 x2 x3 x4 x5 x6 x7 x8 x9 x10 x11 x12 x13 x14 x15 x16 x17) (k0_pay38 i x0 x1 x2 x3 x4 x5 x6 x7 x8 x9 x10 x11 x12 x13 x14 x15 x16 x17)
/-- The queries before the rotation. -/
def k0_pay44 (i : grid0.Coords) (x0 : Vec F S256x1024 .f32) (x1 : Vec F S8x1024 .f32) (x2 : Vec F S8x1024 .f32) (x3 : Vec F S1x1024 .f32) (x4 : Vec F S1x1024 .f32) (x5 : Vec F S1024x2176 .bf16) (x6 : Vec F S1x256 .f32) (x7 : Vec F S256x1024 .bf16) (x8 : Vec F S256x1024 .bf16) (x9 : Vec F S1x128 .f32) (x10 : Vec F S128x1024 .bf16) (x11 : Vec F S512x128 .bf16) (x12 : Vec F S3x1536 .f32) (x13 : Vec F S1x1536 .f32) (x14 : Vec F S256x128 .f32) (x15 : Vec F S256x128 .f32) (x16 : Vec F S256x128 .f32) (x17 : Vec F S256x128 .f32) : FVec F S256x1024 .f32 :=
  k0_pay9 (k0_pay39 i x0 x1 x2 x3 x4 x5 x6 x7 x8 x9 x10 x11 x12 x13 x14 x15 x16 x17) (k0_pay40 i x0 x1 x2 x3 x4 x5 x6 x7 x8 x9 x10 x11 x12 x13 x14 x15 x16 x17) (k0_pay38 i x0 x1 x2 x3 x4 x5 x6 x7 x8 x9 x10 x11 x12 x13 x14 x15 x16 x17) (View.ld x6 r0_3) (View.ld x7 r0_0)
/-- The queries with the halves of their rotary columns exchanged. -/
def k0_pay45 (i : grid0.Coords) (x0 : Vec F S256x1024 .f32) (x1 : Vec F S8x1024 .f32) (x2 : Vec F S8x1024 .f32) (x3 : Vec F S1x1024 .f32) (x4 : Vec F S1x1024 .f32) (x5 : Vec F S1024x2176 .bf16) (x6 : Vec F S1x256 .f32) (x7 : Vec F S256x1024 .bf16) (x8 : Vec F S256x1024 .bf16) (x9 : Vec F S1x128 .f32) (x10 : Vec F S128x1024 .bf16) (x11 : Vec F S512x128 .bf16) (x12 : Vec F S3x1536 .f32) (x13 : Vec F S1x1536 .f32) (x14 : Vec F S256x128 .f32) (x15 : Vec F S256x128 .f32) (x16 : Vec F S256x128 .f32) (x17 : Vec F S256x128 .f32) : FVec F S256x1024 .f32 :=
  k0_pay10 (k0_pay39 i x0 x1 x2 x3 x4 x5 x6 x7 x8 x9 x10 x11 x12 x13 x14 x15 x16 x17) (k0_pay40 i x0 x1 x2 x3 x4 x5 x6 x7 x8 x9 x10 x11 x12 x13 x14 x15 x16 x17) (k0_pay38 i x0 x1 x2 x3 x4 x5 x6 x7 x8 x9 x10 x11 x12 x13 x14 x15 x16 x17) (View.ld x6 r0_3) (View.ld x8 r0_0)
/-- The normed latent of keys and values. -/
def k0_pay46 (i : grid0.Coords) (x0 : Vec F S256x1024 .f32) (x1 : Vec F S8x1024 .f32) (x2 : Vec F S8x1024 .f32) (x3 : Vec F S1x1024 .f32) (x4 : Vec F S1x1024 .f32) (x5 : Vec F S1024x2176 .bf16) (x6 : Vec F S1x256 .f32) (x7 : Vec F S256x1024 .bf16) (x8 : Vec F S256x1024 .bf16) (x9 : Vec F S1x128 .f32) (x10 : Vec F S128x1024 .bf16) (x11 : Vec F S512x128 .bf16) (x12 : Vec F S3x1536 .f32) (x13 : Vec F S1x1536 .f32) (x14 : Vec F S256x128 .f32) (x15 : Vec F S256x128 .f32) (x16 : Vec F S256x128 .f32) (x17 : Vec F S256x128 .f32) : FVec F S256x128 .bf16 :=
  k0_pay11 (k0_pay39 i x0 x1 x2 x3 x4 x5 x6 x7 x8 x9 x10 x11 x12 x13 x14 x15 x16 x17) (k0_pay40 i x0 x1 x2 x3 x4 x5 x6 x7 x8 x9 x10 x11 x12 x13 x14 x15 x16 x17) (k0_pay38 i x0 x1 x2 x3 x4 x5 x6 x7 x8 x9 x10 x11 x12 x13 x14 x15 x16 x17) (View.ld x9 r0_4)
/-- The keys without their rotary columns. -/
def k0_pay47 (i : grid0.Coords) (x0 : Vec F S256x1024 .f32) (x1 : Vec F S8x1024 .f32) (x2 : Vec F S8x1024 .f32) (x3 : Vec F S1x1024 .f32) (x4 : Vec F S1x1024 .f32) (x5 : Vec F S1024x2176 .bf16) (x6 : Vec F S1x256 .f32) (x7 : Vec F S256x1024 .bf16) (x8 : Vec F S256x1024 .bf16) (x9 : Vec F S1x128 .f32) (x10 : Vec F S128x1024 .bf16) (x11 : Vec F S512x128 .bf16) (x12 : Vec F S3x1536 .f32) (x13 : Vec F S1x1536 .f32) (x14 : Vec F S256x128 .f32) (x15 : Vec F S256x128 .f32) (x16 : Vec F S256x128 .f32) (x17 : Vec F S256x128 .f32) : FVec F S256x1024 .f32 :=
  k0_pay12 (k0_pay46 i x0 x1 x2 x3 x4 x5 x6 x7 x8 x9 x10 x11 x12 x13 x14 x15 x16 x17) (View.ld x10 r0_5)
/-- The rotated columns of the keys. -/
def k0_pay48 (i : grid0.Coords) (x0 : Vec F S256x1024 .f32) (x1 : Vec F S8x1024 .f32) (x2 : Vec F S8x1024 .f32) (x3 : Vec F S1x1024 .f32) (x4 : Vec F S1x1024 .f32) (x5 : Vec F S1024x2176 .bf16) (x6 : Vec F S1x256 .f32) (x7 : Vec F S256x1024 .bf16) (x8 : Vec F S256x1024 .bf16) (x9 : Vec F S1x128 .f32) (x10 : Vec F S128x1024 .bf16) (x11 : Vec F S512x128 .bf16) (x12 : Vec F S3x1536 .f32) (x13 : Vec F S1x1536 .f32) (x14 : Vec F S256x128 .f32) (x15 : Vec F S256x128 .f32) (x16 : Vec F S256x128 .f32) (x17 : Vec F S256x128 .f32) : FVec F S256x128 .f32 :=
  k0_pay14 (k0_pay41 i x0 x1 x2 x3 x4 x5 x6 x7 x8 x9 x10 x11 x12 x13 x14 x15 x16 x17) (k0_pay42 i x0 x1 x2 x3 x4 x5 x6 x7 x8 x9 x10 x11 x12 x13 x14 x15 x16 x17) (View.ld x16 r0_8) (View.ld x17 r0_8)
/-- The table of cosines. -/
def k0_pay49 (i : grid0.Coords) (x0 : Vec F S256x1024 .f32) (x1 : Vec F S8x1024 .f32) (x2 : Vec F S8x1024 .f32) (x3 : Vec F S1x1024 .f32) (x4 : Vec F S1x1024 .f32) (x5 : Vec F S1024x2176 .bf16) (x6 : Vec F S1x256 .f32) (x7 : Vec F S256x1024 .bf16) (x8 : Vec F S256x1024 .bf16) (x9 : Vec F S1x128 .f32) (x10 : Vec F S128x1024 .bf16) (x11 : Vec F S512x128 .bf16) (x12 : Vec F S3x1536 .f32) (x13 : Vec F S1x1536 .f32) (x14 : Vec F S256x128 .f32) (x15 : Vec F S256x128 .f32) (x16 : Vec F S256x128 .f32) (x17 : Vec F S256x128 .f32) : FVec F S256x128 .f32 :=
  k0_pay15 (View.ld x14 r0_8)
/-- The table of sines. -/
def k0_pay50 (i : grid0.Coords) (x0 : Vec F S256x1024 .f32) (x1 : Vec F S8x1024 .f32) (x2 : Vec F S8x1024 .f32) (x3 : Vec F S1x1024 .f32) (x4 : Vec F S1x1024 .f32) (x5 : Vec F S1024x2176 .bf16) (x6 : Vec F S1x256 .f32) (x7 : Vec F S256x1024 .bf16) (x8 : Vec F S256x1024 .bf16) (x9 : Vec F S1x128 .f32) (x10 : Vec F S128x1024 .bf16) (x11 : Vec F S512x128 .bf16) (x12 : Vec F S3x1536 .f32) (x13 : Vec F S1x1536 .f32) (x14 : Vec F S256x128 .f32) (x15 : Vec F S256x128 .f32) (x16 : Vec F S256x128 .f32) (x17 : Vec F S256x128 .f32) : FVec F S256x128 .f32 :=
  k0_pay16 (View.ld x15 r0_8)
/-- The rows before and after the tile. -/
def k0_pay51 (i : grid0.Coords) (x0 : Vec F S256x1024 .f32) (x1 : Vec F S8x1024 .f32) (x2 : Vec F S8x1024 .f32) (x3 : Vec F S1x1024 .f32) (x4 : Vec F S1x1024 .f32) (x5 : Vec F S1024x2176 .bf16) (x6 : Vec F S1x256 .f32) (x7 : Vec F S256x1024 .bf16) (x8 : Vec F S256x1024 .bf16) (x9 : Vec F S1x128 .f32) (x10 : Vec F S128x1024 .bf16) (x11 : Vec F S512x128 .bf16) (x12 : Vec F S3x1536 .f32) (x13 : Vec F S1x1536 .f32) (x14 : Vec F S256x128 .f32) (x15 : Vec F S256x128 .f32) (x16 : Vec F S256x128 .f32) (x17 : Vec F S256x128 .f32) : FVec F S16x1024 .f32 :=
  k0_pay34 (View.ld x1 r0_17) (View.ld x2 r0_17)

/-- The tile of queries after the body, of its eight pieces. -/
def out0_18 (i : grid0.Coords) (x0 : Vec F S256x1024 .f32) (x1 : Vec F S8x1024 .f32) (x2 : Vec F S8x1024 .f32) (x3 : Vec F S1x1024 .f32) (x4 : Vec F S1x1024 .f32) (x5 : Vec F S1024x2176 .bf16) (x6 : Vec F S1x256 .f32) (x7 : Vec F S256x1024 .bf16) (x8 : Vec F S256x1024 .bf16) (x9 : Vec F S1x128 .f32) (x10 : Vec F S128x1024 .bf16) (x11 : Vec F S512x128 .bf16) (x12 : Vec F S3x1536 .f32) (x13 : Vec F S1x1536 .f32) (x14 : Vec F S256x128 .f32) (x15 : Vec F S256x128 .f32) (x16 : Vec F S256x128 .f32) (x17 : Vec F S256x128 .f32) : Vec F S256x1024 .bf16 :=
  View.canon [⟨r0_16, k0_pay32 (k0_pay44 i x0 x1 x2 x3 x4 x5 x6 x7 x8 x9 x10 x11 x12 x13 x14 x15 x16 x17) (k0_pay45 i x0 x1 x2 x3 x4 x5 x6 x7 x8 x9 x10 x11 x12 x13 x14 x15 x16 x17) (k0_pay49 i x0 x1 x2 x3 x4 x5 x6 x7 x8 x9 x10 x11 x12 x13 x14 x15 x16 x17) (k0_pay50 i x0 x1 x2 x3 x4 x5 x6 x7 x8 x9 x10 x11 x12 x13 x14 x15 x16 x17)⟩,
    ⟨r0_15, k0_pay30 (k0_pay44 i x0 x1 x2 x3 x4 x5 x6 x7 x8 x9 x10 x11 x12 x13 x14 x15 x16 x17) (k0_pay45 i x0 x1 x2 x3 x4 x5 x6 x7 x8 x9 x10 x11 x12 x13 x14 x15 x16 x17) (k0_pay49 i x0 x1 x2 x3 x4 x5 x6 x7 x8 x9 x10 x11 x12 x13 x14 x15 x16 x17) (k0_pay50 i x0 x1 x2 x3 x4 x5 x6 x7 x8 x9 x10 x11 x12 x13 x14 x15 x16 x17)⟩,
    ⟨r0_14, k0_pay28 (k0_pay45 i x0 x1 x2 x3 x4 x5 x6 x7 x8 x9 x10 x11 x12 x13 x14 x15 x16 x17) (k0_pay49 i x0 x1 x2 x3 x4 x5 x6 x7 x8 x9 x10 x11 x12 x13 x14 x15 x16 x17) (k0_pay50 i x0 x1 x2 x3 x4 x5 x6 x7 x8 x9 x10 x11 x12 x13 x14 x15 x16 x17) (k0_pay27 (k0_pay44 i x0 x1 x2 x3 x4 x5 x6 x7 x8 x9 x10 x11 x12 x13 x14 x15 x16 x17))⟩,
    ⟨r0_13, k0_pay25 (k0_pay44 i x0 x1 x2 x3 x4 x5 x6 x7 x8 x9 x10 x11 x12 x13 x14 x15 x16 x17) (k0_pay45 i x0 x1 x2 x3 x4 x5 x6 x7 x8 x9 x10 x11 x12 x13 x14 x15 x16 x17) (k0_pay49 i x0 x1 x2 x3 x4 x5 x6 x7 x8 x9 x10 x11 x12 x13 x14 x15 x16 x17) (k0_pay50 i x0 x1 x2 x3 x4 x5 x6 x7 x8 x9 x10 x11 x12 x13 x14 x15 x16 x17)⟩,
    ⟨r0_12, k0_pay23 (k0_pay44 i x0 x1 x2 x3 x4 x5 x6 x7 x8 x9 x10 x11 x12 x13 x14 x15 x16 x17) (k0_pay45 i x0 x1 x2 x3 x4 x5 x6 x7 x8 x9 x10 x11 x12 x13 x14 x15 x16 x17) (k0_pay49 i x0 x1 x2 x3 x4 x5 x6 x7 x8 x9 x10 x11 x12 x13 x14 x15 x16 x17) (k0_pay50 i x0 x1 x2 x3 x4 x5 x6 x7 x8 x9 x10 x11 x12 x13 x14 x15 x16 x17)⟩,
    ⟨r0_11, k0_pay21 (k0_pay44 i x0 x1 x2 x3 x4 x5 x6 x7 x8 x9 x10 x11 x12 x13 x14 x15 x16 x17) (k0_pay45 i x0 x1 x2 x3 x4 x5 x6 x7 x8 x9 x10 x11 x12 x13 x14 x15 x16 x17) (k0_pay49 i x0 x1 x2 x3 x4 x5 x6 x7 x8 x9 x10 x11 x12 x13 x14 x15 x16 x17) (k0_pay50 i x0 x1 x2 x3 x4 x5 x6 x7 x8 x9 x10 x11 x12 x13 x14 x15 x16 x17)⟩,
    ⟨r0_10, k0_pay19 (k0_pay44 i x0 x1 x2 x3 x4 x5 x6 x7 x8 x9 x10 x11 x12 x13 x14 x15 x16 x17) (k0_pay45 i x0 x1 x2 x3 x4 x5 x6 x7 x8 x9 x10 x11 x12 x13 x14 x15 x16 x17) (View.ld x14 r0_8) (View.ld x15 r0_8)⟩,
    ⟨r0_9, k0_pay17 (k0_pay44 i x0 x1 x2 x3 x4 x5 x6 x7 x8 x9 x10 x11 x12 x13 x14 x15 x16 x17) (k0_pay45 i x0 x1 x2 x3 x4 x5 x6 x7 x8 x9 x10 x11 x12 x13 x14 x15 x16 x17) (View.ld x14 r0_8) (View.ld x15 r0_8)⟩]

theorem cover0_18 (p0 : Vec F S256x128 .bf16) (p1 : Vec F S256x128 .bf16) (p2 : Vec F S256x128 .bf16) (p3 : Vec F S256x128 .bf16) (p4 : Vec F S256x128 .bf16) (p5 : Vec F S256x128 .bf16) (p6 : Vec F S256x128 .bf16) (p7 : Vec F S256x128 .bf16) (y : S256x1024.Idx) :
    ∃ pc ∈ ([⟨r0_16, p0⟩, ⟨r0_15, p1⟩, ⟨r0_14, p2⟩, ⟨r0_13, p3⟩, ⟨r0_12, p4⟩, ⟨r0_11, p5⟩, ⟨r0_10, p6⟩, ⟨r0_9, p7⟩] : List (View.Piece (Elt F) S256x1024 .bf16)), y ∈ pc.1.set :=
  View.cover_of_tiled [⟨r0_16, p0⟩, ⟨r0_15, p1⟩, ⟨r0_14, p2⟩, ⟨r0_13, p3⟩, ⟨r0_12, p4⟩, ⟨r0_11, p5⟩, ⟨r0_10, p6⟩, ⟨r0_9, p7⟩] S256x128.size (by rfl) y

/-- The tile of keys after the body, of its eight pieces. -/
def out0_19 (i : grid0.Coords) (x0 : Vec F S256x1024 .f32) (x1 : Vec F S8x1024 .f32) (x2 : Vec F S8x1024 .f32) (x3 : Vec F S1x1024 .f32) (x4 : Vec F S1x1024 .f32) (x5 : Vec F S1024x2176 .bf16) (x6 : Vec F S1x256 .f32) (x7 : Vec F S256x1024 .bf16) (x8 : Vec F S256x1024 .bf16) (x9 : Vec F S1x128 .f32) (x10 : Vec F S128x1024 .bf16) (x11 : Vec F S512x128 .bf16) (x12 : Vec F S3x1536 .f32) (x13 : Vec F S1x1536 .f32) (x14 : Vec F S256x128 .f32) (x15 : Vec F S256x128 .f32) (x16 : Vec F S256x128 .f32) (x17 : Vec F S256x128 .f32) : Vec F S256x1024 .bf16 :=
  View.canon [⟨r0_16, k0_pay33 (k0_pay47 i x0 x1 x2 x3 x4 x5 x6 x7 x8 x9 x10 x11 x12 x13 x14 x15 x16 x17) (k0_pay48 i x0 x1 x2 x3 x4 x5 x6 x7 x8 x9 x10 x11 x12 x13 x14 x15 x16 x17)⟩,
    ⟨r0_15, k0_pay31 (k0_pay47 i x0 x1 x2 x3 x4 x5 x6 x7 x8 x9 x10 x11 x12 x13 x14 x15 x16 x17) (k0_pay48 i x0 x1 x2 x3 x4 x5 x6 x7 x8 x9 x10 x11 x12 x13 x14 x15 x16 x17)⟩,
    ⟨r0_14, k0_pay29 (k0_pay47 i x0 x1 x2 x3 x4 x5 x6 x7 x8 x9 x10 x11 x12 x13 x14 x15 x16 x17) (k0_pay48 i x0 x1 x2 x3 x4 x5 x6 x7 x8 x9 x10 x11 x12 x13 x14 x15 x16 x17)⟩,
    ⟨r0_13, k0_pay26 (k0_pay47 i x0 x1 x2 x3 x4 x5 x6 x7 x8 x9 x10 x11 x12 x13 x14 x15 x16 x17) (k0_pay48 i x0 x1 x2 x3 x4 x5 x6 x7 x8 x9 x10 x11 x12 x13 x14 x15 x16 x17)⟩,
    ⟨r0_12, k0_pay24 (k0_pay47 i x0 x1 x2 x3 x4 x5 x6 x7 x8 x9 x10 x11 x12 x13 x14 x15 x16 x17) (k0_pay48 i x0 x1 x2 x3 x4 x5 x6 x7 x8 x9 x10 x11 x12 x13 x14 x15 x16 x17)⟩,
    ⟨r0_11, k0_pay22 (k0_pay47 i x0 x1 x2 x3 x4 x5 x6 x7 x8 x9 x10 x11 x12 x13 x14 x15 x16 x17) (k0_pay48 i x0 x1 x2 x3 x4 x5 x6 x7 x8 x9 x10 x11 x12 x13 x14 x15 x16 x17)⟩,
    ⟨r0_10, k0_pay20 (k0_pay47 i x0 x1 x2 x3 x4 x5 x6 x7 x8 x9 x10 x11 x12 x13 x14 x15 x16 x17) (k0_pay48 i x0 x1 x2 x3 x4 x5 x6 x7 x8 x9 x10 x11 x12 x13 x14 x15 x16 x17)⟩,
    ⟨r0_9, k0_pay18 (k0_pay41 i x0 x1 x2 x3 x4 x5 x6 x7 x8 x9 x10 x11 x12 x13 x14 x15 x16 x17) (k0_pay42 i x0 x1 x2 x3 x4 x5 x6 x7 x8 x9 x10 x11 x12 x13 x14 x15 x16 x17) (k0_pay46 i x0 x1 x2 x3 x4 x5 x6 x7 x8 x9 x10 x11 x12 x13 x14 x15 x16 x17) (View.ld x10 r0_5) (View.ld x16 r0_8) (View.ld x17 r0_8)⟩]

theorem cover0_19 (p0 : Vec F S256x128 .bf16) (p1 : Vec F S256x128 .bf16) (p2 : Vec F S256x128 .bf16) (p3 : Vec F S256x128 .bf16) (p4 : Vec F S256x128 .bf16) (p5 : Vec F S256x128 .bf16) (p6 : Vec F S256x128 .bf16) (p7 : Vec F S256x128 .bf16) (y : S256x1024.Idx) :
    ∃ pc ∈ ([⟨r0_16, p0⟩, ⟨r0_15, p1⟩, ⟨r0_14, p2⟩, ⟨r0_13, p3⟩, ⟨r0_12, p4⟩, ⟨r0_11, p5⟩, ⟨r0_10, p6⟩, ⟨r0_9, p7⟩] : List (View.Piece (Elt F) S256x1024 .bf16)), y ∈ pc.1.set :=
  View.cover_of_tiled [⟨r0_16, p0⟩, ⟨r0_15, p1⟩, ⟨r0_14, p2⟩, ⟨r0_13, p3⟩, ⟨r0_12, p4⟩, ⟨r0_11, p5⟩, ⟨r0_10, p6⟩, ⟨r0_9, p7⟩] S256x128.size (by rfl) y

/-- The tile of values after the body. -/
def out0_20 (i : grid0.Coords) (x0 : Vec F S256x1024 .f32) (x1 : Vec F S8x1024 .f32) (x2 : Vec F S8x1024 .f32) (x3 : Vec F S1x1024 .f32) (x4 : Vec F S1x1024 .f32) (x5 : Vec F S1024x2176 .bf16) (x6 : Vec F S1x256 .f32) (x7 : Vec F S256x1024 .bf16) (x8 : Vec F S256x1024 .bf16) (x9 : Vec F S1x128 .f32) (x10 : Vec F S128x1024 .bf16) (x11 : Vec F S512x128 .bf16) (x12 : Vec F S3x1536 .f32) (x13 : Vec F S1x1536 .f32) (x14 : Vec F S256x128 .f32) (x15 : Vec F S256x128 .f32) (x16 : Vec F S256x128 .f32) (x17 : Vec F S256x128 .f32) : Vec F S512x256 .bf16 :=
  View.canon [⟨r0_7, k0_pay13 (k0_pay46 i x0 x1 x2 x3 x4 x5 x6 x7 x8 x9 x10 x11 x12 x13 x14 x15 x16 x17) (View.ld x11 r0_6)⟩]

theorem cover0_20 (p0 : Vec F S512x256 .bf16) (y : S512x256.Idx) :
    ∃ pc ∈ ([⟨r0_7, p0⟩] : List (View.Piece (Elt F) S512x256 .bf16)), y ∈ pc.1.set :=
  View.cover_of_tiled [⟨r0_7, p0⟩] S512x256.size (by rfl) y

/-- The tile of filtered columns after the body. -/
def out0_21 (i : grid0.Coords) (x0 : Vec F S256x1024 .f32) (x1 : Vec F S8x1024 .f32) (x2 : Vec F S8x1024 .f32) (x3 : Vec F S1x1024 .f32) (x4 : Vec F S1x1024 .f32) (x5 : Vec F S1024x2176 .bf16) (x6 : Vec F S1x256 .f32) (x7 : Vec F S256x1024 .bf16) (x8 : Vec F S256x1024 .bf16) (x9 : Vec F S1x128 .f32) (x10 : Vec F S128x1024 .bf16) (x11 : Vec F S512x128 .bf16) (x12 : Vec F S3x1536 .f32) (x13 : Vec F S1x1536 .f32) (x14 : Vec F S256x128 .f32) (x15 : Vec F S256x128 .f32) (x16 : Vec F S256x128 .f32) (x17 : Vec F S256x128 .f32) : Vec F S1536x256 .bf16 :=
  View.canon [⟨r0_23, k0_pay1 (k0_pay43 i x0 x1 x2 x3 x4 x5 x6 x7 x8 x9 x10 x11 x12 x13 x14 x15 x16 x17) (k0_pay36 (Scalar.select (Scalar.andi (Scalar.xori (Scalar.cmpi .slt (Scalar.remsi (BitVec.ofNat 32 (i 0).val) (Scalar.select (Scalar.cmpi .eq 16#32 0#32) 1#32 16#32)) 0#32) (Scalar.cmpi .slt (Scalar.select (Scalar.cmpi .eq 16#32 0#32) 1#32 16#32) 0#32)) (Scalar.cmpi .ne (Scalar.remsi (BitVec.ofNat 32 (i 0).val) (Scalar.select (Scalar.cmpi .eq 16#32 0#32) 1#32 16#32)) 0#32)) (Scalar.addi (Scalar.remsi (BitVec.ofNat 32 (i 0).val) (Scalar.select (Scalar.cmpi .eq 16#32 0#32) 1#32 16#32)) (Scalar.select (Scalar.cmpi .eq 16#32 0#32) 1#32 16#32)) (Scalar.remsi (BitVec.ofNat 32 (i 0).val) (Scalar.select (Scalar.cmpi .eq 16#32 0#32) 1#32 16#32))) (k0_pay51 i x0 x1 x2 x3 x4 x5 x6 x7 x8 x9 x10 x11 x12 x13 x14 x15 x16 x17) (View.ld x3 r0_1) (View.ld x4 r0_1) (View.ld x5 r0_18)) (iota .tc S256x1536 32 [0] iota_S256x1536_d0_w32) (k0_pay37 (Scalar.select (Scalar.andi (Scalar.xori (Scalar.cmpi .slt (Scalar.remsi (BitVec.ofNat 32 (i 0).val) (Scalar.select (Scalar.cmpi .eq 16#32 0#32) 1#32 16#32)) 0#32) (Scalar.cmpi .slt (Scalar.select (Scalar.cmpi .eq 16#32 0#32) 1#32 16#32) 0#32)) (Scalar.cmpi .ne (Scalar.remsi (BitVec.ofNat 32 (i 0).val) (Scalar.select (Scalar.cmpi .eq 16#32 0#32) 1#32 16#32)) 0#32)) (Scalar.addi (Scalar.remsi (BitVec.ofNat 32 (i 0).val) (Scalar.select (Scalar.cmpi .eq 16#32 0#32) 1#32 16#32)) (Scalar.select (Scalar.cmpi .eq 16#32 0#32) 1#32 16#32)) (Scalar.remsi (BitVec.ofNat 32 (i 0).val) (Scalar.select (Scalar.cmpi .eq 16#32 0#32) 1#32 16#32))) (k0_pay43 i x0 x1 x2 x3 x4 x5 x6 x7 x8 x9 x10 x11 x12 x13 x14 x15 x16 x17) (k0_pay51 i x0 x1 x2 x3 x4 x5 x6 x7 x8 x9 x10 x11 x12 x13 x14 x15 x16 x17) (View.ld x3 r0_1) (View.ld x4 r0_1) (View.ld x5 r0_18)) (View.ld x13 r0_19) (View.ld x12 r0_20) (View.ld x12 r0_21) (View.ld x12 r0_22)⟩]

theorem cover0_21 (p0 : Vec F S1536x256 .bf16) (y : S1536x256.Idx) :
    ∃ pc ∈ ([⟨r0_23, p0⟩] : List (View.Piece (Elt F) S1536x256 .bf16)), y ∈ pc.1.set :=
  View.cover_of_tiled [⟨r0_23, p0⟩] S1536x256.size (by rfl) y

set_option maxHeartbeats 1000000 in
theorem sound_kernel (c : Dev nD) (E : Set ℕ) (i : grid0.Coords) (arg1 : Memref sig .tc .vmem S256x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x2176 .bf16) (harg6 : arg6.IsWhole) (arg7 : Memref sig .tc .vmem S1x256 .f32) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S1x128 .f32) (harg10 : arg10.IsWhole) (arg11 : Memref sig .tc .vmem S128x1024 .bf16) (harg11 : arg11.IsWhole) (arg12 : Memref sig .tc .vmem S512x128 .bf16) (harg12 : arg12.IsWhole) (arg13 : Memref sig .tc .vmem S3x1536 .f32) (harg13 : arg13.IsWhole) (arg14 : Memref sig .tc .vmem S1x1536 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x1024 .bf16) (harg19 : arg19.IsWhole) (arg20 : Memref sig .tc .vmem S256x1024 .bf16) (harg20 : arg20.IsWhole) (arg21 : Memref sig .tc .vmem S512x256 .bf16) (harg21 : arg21.IsWhole) (arg22 : Memref sig .tc .vmem S1536x256 .bf16) (harg22 : arg22.IsWhole)
    (x0 : Vec F S256x1024 .f32) (x1 : Vec F S8x1024 .f32) (x2 : Vec F S8x1024 .f32) (x3 : Vec F S1x1024 .f32) (x4 : Vec F S1x1024 .f32) (x5 : Vec F S1024x2176 .bf16) (x6 : Vec F S1x256 .f32) (x7 : Vec F S256x1024 .bf16) (x8 : Vec F S256x1024 .bf16) (x9 : Vec F S1x128 .f32) (x10 : Vec F S128x1024 .bf16) (x11 : Vec F S512x128 .bf16) (x12 : Vec F S3x1536 .f32) (x13 : Vec F S1x1536 .f32) (x14 : Vec F S256x128 .f32) (x15 : Vec F S256x128 .f32) (x16 : Vec F S256x128 .f32) (x17 : Vec F S256x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare (out0_18 i x0 x1 x2 x3 x4 x5 x6 x7 x8 x9 x10 x11 x12 x13 x14 x15 x16 x17) ∗ owns (c : Thread nD τ) arg20 fullShare (out0_19 i x0 x1 x2 x3 x4 x5 x6 x7 x8 x9 x10 x11 x12 x13 x14 x15 x16 x17) ∗ owns (c : Thread nD τ) arg21 fullShare (out0_20 i x0 x1 x2 x3 x4 x5 x6 x7 x8 x9 x10 x11 x12 x13 x14 x15 x16 x17) ∗ owns (c : Thread nD τ) arg22 fullShare (out0_21 i x0 x1 x2 x3 x4 x5 x6 x7 x8 x9 x10 x11 x12 x13 x14 x15 x16 x17)) -∗ K ⟨⟩))
      ⊢ wp frame (wpE (defs₀ (F := F)) Variants.none c none) E (cc0_ln_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_ln_proj_eq_skeleton]; unfold cc0_ln_proj_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, Hk⟩
  subst hf0 hf1 hf2 hf3 hf4 hf5 hf6 hf7 hf8 hf9 hf10 hf11 hf12 hf13 hf14 hf15 hf16 hf17
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists _; isplitr
    swap; · iexact H18
    ipureintro
    refine (View.read_writes_eq_canon _ _ _ (cover0_18 _ _ _ _ _ _ _ _)).trans ?_
    rfl
  isplitl [H19]
  · iexists _; isplitr
    swap; · iexact H19
    ipureintro
    refine (View.read_writes_eq_canon _ _ _ (cover0_19 _ _ _ _ _ _ _ _)).trans ?_
    rfl
  isplitl [H20]
  · iexists _; isplitr
    swap; · iexact H20
    ipureintro
    refine (View.read_writes_eq_canon _ _ _ (cover0_20 _)).trans ?_
    rfl
  iexists _; isplitr
  swap; · iexact H21
  ipureintro
  refine (View.read_writes_eq_canon _ _ _ (cover0_21 _)).trans ?_
  rfl

/-- The proof data: at every point the operands' buffers hold their blocks, and the results' what the body makes of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => out0_18 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨19, _⟩ => out0_19 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨20, _⟩ => out0_20 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨21, _⟩ => out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨_ + 22, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = out0_18 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_19 (c : Dev nD) (t : Fin cfg0.N) : (dats m 0 c).after 19 t = out0_19 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_20 (c : Dev nD) (t : Fin cfg0.N) : (dats m 0 c).after 20 t = out0_20 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_21 (c : Dev nD) (t : Fin cfg0.N) : (dats m 0 c).after 21 t = out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

/-- What the body starts with at a point, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d)))

/-- What the body leaves at a point, window by window. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t))

/-- The body at any point turns the one into the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (sound_kernel c Set.univ (grid0.coords t) _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [H20]; · iexists _; iexact H20
  isplitl [H21]; · iexists _; iexact H21
  iintro ⟨H0, H1, H2, H3, H4, H5, H6, H7, H8, H9, H10, H11, H12, H13, H14, H15, H16, H17, H18, H19, H20, H21⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

theorem defs₀_row (t : Fin cfg0.N) :
    defs₀ (F := F) .tc cfg0.body (cfg0.bodyArgs t (cfg0.slots t)) = bodyAt0 t := by
  unfold defs₀; rw [Defs.onTc_tc]

set_option maxHeartbeats 2000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- Every run ends, with the arrays as the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- Every run ends with the arrays as the proof data say. -/
theorem run_main : θ_run defs (onTc (τ := τ) (main (F := F))) (s₀ m ρ) (Pipeline.FramePost cfgs (dats m) 0 (V m)) :=
  (θ_run defs _ _).mono (fun _ h => h.1) (run_main_quiescent m ρ)

/-- Every run ends with the arguments as launched. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- Every run ends with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

/-- Every run ends with the results as the proof data say, and the arguments as launched. -/
theorem run_blocks : θ_run defs (onTc (τ := τ) (main (F := F))) ⟨m, fun _ => 0, ρ⟩ fun r => ∀ c : Dev nD,
      (r.2.mem ((c.tc : Thread nD τ).loc main_v81_0) = (dats m 0 c).arrAt 18 cfg0.N
      ∧ r.2.mem ((c.tc : Thread nD τ).loc main_v81_1) = (dats m 0 c).arrAt 19 cfg0.N
      ∧ r.2.mem ((c.tc : Thread nD τ).loc main_v81_2) = (dats m 0 c).arrAt 20 cfg0.N
      ∧ r.2.mem ((c.tc : Thread nD τ).loc main_v81_3) = (dats m 0 c).arrAt 21 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono
    (fun _ h c => ⟨⟨(h.1 c).1 18, (h.1 c).1 19, (h.1 c).1 20, (h.1 c).1 21⟩, h.2 c⟩)
    (θ_run_and (run_main m ρ) (unchanged m ρ))

end Cert.Kernel2Ideal.Body

end
-- ==== Proof.KernelIdeal.Geometry.lean ====
/- Which block each window holds at each point, and that the result's blocks cover the result. -/
module

public import proofs.«01_k».proof.Proof.KernelIdeal.Frame
public import Idealize.ShloMosaic.Lib.Pipeline.ValueKit.Geometry

@[expose] public section

set_option maxRecDepth 16384

noncomputable section

namespace Cert.KernelIdeal.Body

open Cert.KernelIdeal.Gen
open Idealize.ShloMosaic Idealize.ShloMosaic.TcCoe Idealize.ShloMosaic.Tactic Idealize.SL.Sem

/-! ## The windows' blocks over the points -/

theorem index_q : ∀ t : Fin grid0.N, t.val < 512 → win0_0.index t 0 = t.val / 32 * 8 + t.val % 8 ∧ win0_0.index t 1 = t.val / 8 % 4 := by
  decide +kernel
theorem index_k : ∀ t : Fin grid0.N, t.val < 512 → win0_1.index t 0 = t.val / 32 ∧ win0_1.index t 1 = t.val / 8 % 4 := by
  decide +kernel
theorem index_v : ∀ t : Fin grid0.N, 0 < t.val → win0_2.index t 0 = (t.val - 1) / 8 % 4 ∧ win0_2.index t 1 = (t.val - 1) / 32 := by
  decide +kernel
theorem index_g : ∀ t : Fin grid0.N, 0 < t.val → win0_3.index t 0 = (t.val - 1) / 8 % 4 ∧ win0_3.index t 1 = 0 := by
  decide +kernel
theorem index_o : ∀ t : Fin grid0.N, 0 < t.val →
    win0_4.index t 0 = (t.val - 1) / 32 * 8 + (t.val - 1) % 8 ∧ win0_4.index t 1 = (t.val - 1) / 8 % 4 := by
  decide +kernel
theorem flush_o : ∀ t : Fin grid0.N, win0_4.flush t = true → 0 < t.val := by
  decide +kernel
theorem covers_o : win0_4.Covers := by
  decide +kernel

end Cert.KernelIdeal.Body

end
-- ==== Proof.Softmax.lean ====
/- One query's attention over the extended reals: the softmax taken in base two with the division after the weighted sum, as
   the kernel takes it, against the softmax in base e of the scores times log 2 with the division before, as the reference
   does; then the root-mean-square normalisation, which also makes the two agree where every weight is zero (a query whose
   greatest score is infinite). -/
module

public import Idealize.ShloMosaic.Lib.Pointwise
public import Idealize.ShloMosaic.Lib.IdealHost

@[expose] public section

noncomputable section

namespace Cert.Softmax

open Idealize.ShloMosaic

variable {n d : ℕ}

/-! ## The programs' constants -/

theorem ofBits_neg_inf : Ideal.ofBits .f32 0xFF800000#32 = ⊥ := by simp [Ideal.ofBits, Ideal.ieee]

theorem ofBits_sixty_four : Ideal.ofBits .f32 0x42800000#32 = ((64 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_eps : Ideal.ofBits .f32 0x358637BD#32 = ((8796093 * 2 ^ (-43 : ℤ) : ℝ) : EReal) := by
  simp [Ideal.ofBits, Ideal.ieee, -EReal.coe_mul]

theorem log_two : Ideal.log (Ideal.ofBits .f32 0x40000000#32) = (Real.log 2 : EReal) := by
  rw [ofBits_two]
  exact if_neg (by norm_num)

/-! ## One query -/

/-- The greatest score. -/
def top (s : Fin n → EReal) : EReal := Finset.univ.fold max ⊥ s

/-- The exponentials in base two of the scores less the greatest. -/
def expo (s : Fin n → EReal) (k : Fin n) : EReal := Ideal.exp2 (s k - top s)

/-- The weighted values, divided by the sum of the weights. -/
def out (s : Fin n → EReal) (v : Fin d → Fin n → EReal) (e : Fin d) : EReal :=
  Ideal.div (∑ k, v e k * expo s k) (∑ k, expo s k)

/-- The values weighted by the weights already divided. -/
def outFirst (s : Fin n → EReal) (v : Fin d → Fin n → EReal) (e : Fin d) : EReal :=
  ∑ k, v e k * Ideal.div (expo s k) (∑ k, expo s k)

/-- The root-mean-square normalisation of one head's outputs, times its gains. -/
def rms (o g : Fin d → EReal) (e : Fin d) : EReal :=
  o e * Ideal.rsqrt (Ideal.div (∑ x, o x * o x) (Ideal.ofBits .f32 0x42800000#32) + Ideal.ofBits .f32 0x358637BD#32) * g e

theorem top_eq_sup (s : Fin n → EReal) : top s = Finset.univ.sup s := rfl

theorem top_mul (s : Fin n → EReal) {c : ℝ} (hc : 0 < c) : top (fun k => s k * c) = top s * c := by
  rw [top_eq_sup, top_eq_sup]
  refine (Finset.apply_sup_eq_sup_comp_of_linearOrder (fun x : EReal => x * c) ?_ ?_).symm
  · intro a b h
    exact mul_le_mul_of_nonneg_right h (by exact_mod_cast hc.le)
  · exact EReal.bot_mul_coe_of_pos hc

theorem exp_mul_log_two (x : EReal) : Ideal.exp (x * (Real.log 2 : ℝ)) = Ideal.exp2 x := by
  have h2 : 0 < Real.log 2 := Real.log_pos (by norm_num)
  induction x with
  | bot => rw [EReal.bot_mul_coe_of_pos h2]; rfl
  | top => rw [EReal.top_mul_coe_of_pos h2]; rfl
  | coe r =>
    rw [← EReal.coe_mul]
    show ((Real.exp (r * Real.log 2) : ℝ) : EReal) = ((Real.rpow 2 r : ℝ) : EReal)
    rw [mul_comm, ← Real.rpow_def_of_pos (by norm_num)]; rfl

/-- The reference's exponentials, of the scores times log 2, are the kernel's. -/
theorem exp_eq_expo (s : Fin n → EReal) (k : Fin n) :
    Ideal.exp (s k * (Real.log 2 : ℝ) - max ⊥ (top fun k => s k * (Real.log 2 : ℝ))) = expo s k := by
  have h2 : 0 < Real.log 2 := Real.log_pos (by norm_num)
  rw [max_eq_right bot_le, top_mul s h2,
    ← EReal.sub_mul_of_nonneg_of_ne_top (by exact_mod_cast h2.le) (EReal.coe_ne_top _), exp_mul_log_two]
  rfl

theorem sum_mul_coe {ι : Type} (S : Finset ι) (f : ι → EReal) {c : ℝ} (hc : 0 ≤ c) :
    (∑ k ∈ S, f k) * (c : EReal) = ∑ k ∈ S, f k * c := by
  classical
  induction S using Finset.induction_on with
  | empty => simp
  | insert a S ha ih =>
    rw [Finset.sum_insert ha, Finset.sum_insert ha,
      EReal.right_distrib_of_nonneg_of_ne_top (by exact_mod_cast hc) (EReal.coe_ne_top _), ih]

theorem coe_sum {ι : Type} (S : Finset ι) (f : ι → ℝ) : ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

/-- Either the weights sum to a positive real, or every one is zero. -/
theorem expo_sum (s : Fin n → EReal) : (∃ L : ℝ, 0 < L ∧ ∑ k, expo s k = (L : EReal)) ∨ ∀ k, expo s k = 0 := by
  have hle : ∀ k, s k ≤ top s := fun k => Finset.le_sup (f := s) (Finset.mem_univ k)
  rcases hT : top s with _ | r
  · right; intro k
    have hk : s k = ⊥ := le_bot_iff.mp ((hle k).trans_eq hT)
    unfold expo; rw [hk, hT]; rfl
  rcases r with _ | M
  · right; intro k
    replace hT : top s = ⊤ := hT
    unfold expo
    rw [hT, show s k - (⊤ : EReal) = ⊥ from by
      rw [sub_eq_add_neg]; exact EReal.add_bot _]
    rfl
  · left
    replace hT : top s = ((M : ℝ) : EReal) := hT
    have hreal : ∀ k, ∃ r : ℝ, 0 ≤ r ∧ expo s k = (r : EReal) := by
      intro k
      have h := hle k
      unfold expo
      rw [hT] at h ⊢
      induction hs : s k with
      | bot => exact ⟨0, le_rfl, by rw [EReal.bot_sub]; rfl⟩
      | top => rw [hs] at h; exact absurd h (not_le.mpr (EReal.coe_lt_top M))
      | coe r => exact ⟨Real.rpow 2 (r - M), Real.rpow_nonneg (by norm_num) _, by rw [← EReal.coe_sub]; rfl⟩
    choose r hr0 hr using hreal
    have hne : (Finset.univ : Finset (Fin n)).Nonempty := by
      rw [Finset.nonempty_iff_ne_empty]; intro he
      rw [top_eq_sup, he, Finset.sup_empty] at hT
      exact absurd hT (EReal.bot_ne_coe M)
    obtain ⟨k, -, hk⟩ := Finset.exists_mem_eq_sup Finset.univ hne s
    have hrk : r k = 1 := by
      have h1 : expo s k = 1 := by
        unfold expo
        rw [← hk, ← top_eq_sup, hT, ← EReal.coe_sub, sub_self]
        show ((Real.rpow 2 0 : ℝ) : EReal) = 1
        exact congrArg _ (Real.rpow_zero 2)
      rw [hr k] at h1
      exact_mod_cast h1
    refine ⟨∑ k, r k, ?_, ?_⟩
    · have := Finset.single_le_sum (f := r) (fun i _ => hr0 i) (Finset.mem_univ k)
      rw [hrk] at this
      linarith
    · rw [coe_sum]; exact Finset.sum_congr rfl fun k _ => hr k

/-- Where the weights sum to a positive real the division distributes over the weighted sum. -/
theorem outFirst_eq (s : Fin n → EReal) (v : Fin d → Fin n → EReal) {L : ℝ} (hL : 0 < L) (h : ∑ k, expo s k = (L : EReal)) :
    outFirst s v = out s v := by
  funext e
  have hne : (L : EReal) ≠ 0 := by exact_mod_cast hL.ne'
  unfold outFirst out
  rw [h]
  simp only [Ideal.div, if_neg hne]
  rw [← EReal.coe_inv, sum_mul_coe _ _ (inv_nonneg.mpr hL.le)]
  exact Finset.sum_congr rfl fun k _ => (mul_assoc _ _ _).symm

/-- An output that is zero or infinite in every entry normalises to zero. -/
theorem rms_zero (o g : Fin d → EReal) (ho : ∀ e, o e = 0 ∨ o e = ⊤ ∨ o e = ⊥) (e : Fin d) : rms o g e = 0 := by
  unfold rms
  by_cases h : ∀ e, o e = 0
  · rw [h e, zero_mul, zero_mul]
  · push Not at h
    obtain ⟨x, hx⟩ := h
    have hsq : ∀ e, 0 ≤ o e * o e := by
      intro e
      rcases ho e with h | h | h <;> rw [h] <;> simp
    have htop : ∑ x, o x * o x = ⊤ := by
      refine top_le_iff.mp (le_trans (le_of_eq ?_) (Finset.single_le_sum (f := fun x => o x * o x) (fun i _ => hsq i) (Finset.mem_univ x)))
      rcases ho x with h | h | h
      · exact absurd h hx
      · simp only [h]; rfl
      · simp only [h]; rfl
    rw [htop, ofBits_sixty_four, ofBits_eps]
    have h64 : ((64 : ℝ) : EReal) ≠ 0 := by exact_mod_cast (by norm_num : (64 : ℝ) ≠ 0)
    have hdiv : Ideal.div ⊤ ((64 : ℝ) : EReal) = ⊤ := by
      unfold Ideal.div
      rw [if_neg h64, ← EReal.coe_inv, EReal.top_mul_coe_of_pos (by norm_num)]
    rw [hdiv, EReal.top_add_coe]
    show o e * 0 * g e = 0
    rw [mul_zero, zero_mul]

/-- Normalised, dividing before and after the weighted sum agree, whatever the scores. -/
theorem rms_outFirst (s : Fin n → EReal) (v : Fin d → Fin n → EReal) (g : Fin d → EReal) (e : Fin d) :
    rms (outFirst s v) g e = rms (out s v) g e := by
  rcases expo_sum s with ⟨L, hL, h⟩ | h
  · rw [outFirst_eq s v hL h]
  · have hsum : ∑ k, expo s k = 0 := Finset.sum_eq_zero fun k _ => h k
    have h00 : Ideal.div 0 0 = ⊥ := by unfold Ideal.div; simp
    have hterm : ∀ x : EReal, x * ⊥ = 0 ∨ x * ⊥ = ⊤ ∨ x * ⊥ = ⊥ := by
      intro x
      rcases lt_trichotomy x 0 with hx | hx | hx
      · exact .inr (.inl (EReal.mul_bot_of_neg hx))
      · exact .inl (by rw [hx, zero_mul])
      · exact .inr (.inr (EReal.mul_bot_of_pos hx))
    have hadd : ∀ x y : EReal, (x = 0 ∨ x = ⊤ ∨ x = ⊥) → (y = 0 ∨ y = ⊤ ∨ y = ⊥) → (x + y = 0 ∨ x + y = ⊤ ∨ x + y = ⊥) := by
      rintro x y (rfl | rfl | rfl) (rfl | rfl | rfl) <;> simp
    rw [rms_zero (outFirst s v) g, rms_zero (out s v) g]
    · intro e
      right; right
      unfold out
      rw [hsum, Finset.sum_eq_zero fun k _ => by rw [h k, mul_zero], h00]
    · intro e
      unfold outFirst
      rw [hsum]
      refine Finset.sum_induction _ (fun x : EReal => x = 0 ∨ x = ⊤ ∨ x = ⊥) hadd (.inl rfl) fun k _ => ?_
      rw [h k, h00]
      exact hterm _

/-! ## Every query -/

section Arrays

variable (Q K : Fin 65536 → Fin 1024 → EReal) (VT : Fin 512 → Fin 65536 → EReal) (G : Fin 512 → EReal)

/-- The scores of query `i` of batch row `b` in head `h` against every key. -/
def scoreAt (b : Fin 16) (h : Fin 8) (i j : Fin 4096) : EReal :=
  ∑ x : Fin 128, K ⟨b * 4096 + j, by omega⟩ ⟨h * 128 + x, by omega⟩ * Q ⟨b * 4096 + i, by omega⟩ ⟨h * 128 + x, by omega⟩

/-- The values of head `h` in batch row `b`. -/
def valueAt (b : Fin 16) (h : Fin 8) (e : Fin 64) (j : Fin 4096) : EReal :=
  VT ⟨h * 64 + e, by omega⟩ ⟨b * 4096 + j, by omega⟩

/-- The gains of head `h`. -/
def gainAt (h : Fin 8) (e : Fin 64) : EReal := G ⟨h * 64 + e, by omega⟩

/-- The attention's output of query `i` of batch row `b`, head `h`, channel `e`. -/
def attend (b : Fin 16) (h : Fin 8) (i : Fin 4096) (e : Fin 64) : EReal :=
  rms (out (scoreAt Q K b h i) (valueAt VT b h)) (gainAt G h) e

/-- The attention's output by row and column. -/
def attended (r : Fin 65536) (c : Fin 512) : EReal :=
  attend Q K VT G ⟨r / 4096, by omega⟩ ⟨c / 64, by omega⟩ ⟨r % 4096, by omega⟩ ⟨c % 64, by omega⟩

end Arrays

end Cert.Softmax

end
-- ==== Proof.KernelIdeal.Tile.lean ====
/- The tile a grid point finishes, read element by element: each of its two heads' columns is one query's attention. -/
module

public import proofs.«01_k».proof.Proof.KernelIdeal.Run
public import proofs.«01_k».proof.Proof.Softmax
public import Idealize.ShloMosaic.Lib.Pipeline.Value

@[expose] public section

set_option maxRecDepth 16384

noncomputable section

namespace Cert.KernelIdeal.Body

open Cert.KernelIdeal.Gen
open Idealize.ShloMosaic Idealize.ShloMosaic.TcCoe Idealize.ShloMosaic.Tactic
open Cert.Softmax

/-! ## The two heads' scores read back -/

section Loads

variable {Val : EltTy → Type} [∀ e, Nonempty (Val e)] {e : EltTy} {S : Shape}

/-- Of two written pieces that do not meet, the later read back is its payload, -/
theorem ld_canon_last (r₁ r₀ : Rect S) (w₁ : r₁.shape.Idx → Val e) (w₀ : r₀.shape.Idx → Val e) :
    View.ld (View.canon [⟨r₁, w₁⟩, ⟨r₀, w₀⟩]) r₁ = w₁ :=
  funext fun x => View.canon_cons_emb r₁ w₁ _ x

/-- and so is the earlier. -/
theorem ld_canon_first (r₁ r₀ : Rect S) (w₁ : r₁.shape.Idx → Val e) (w₀ : r₀.shape.Idx → Val e)
    (h : ∀ x : r₀.shape.Idx, r₀.emb x ∉ r₁.set) :
    View.ld (View.canon [⟨r₁, w₁⟩, ⟨r₀, w₀⟩]) r₀ = w₀ :=
  funext fun x => (View.canon_cons_of_not_mem ⟨r₁, w₁⟩ _ (h x)).trans (View.canon_cons_emb r₀ w₀ _ x)

end Loads

theorem apart_scores (x : (Rect.unit (s := S2x4096x512) ![0, 0, 0] S1x4096x512.size inb_S2x4096x512_S1x4096x512_0_0_0).shape.Idx) :
    (Rect.unit (s := S2x4096x512) ![0, 0, 0] S1x4096x512.size inb_S2x4096x512_S1x4096x512_0_0_0).emb x
      ∉ (Rect.unit (s := S2x4096x512) ![1, 0, 0] S1x4096x512.size inb_S2x4096x512_S1x4096x512_1_0_0).set := by
  rw [Rect.mem_set_unit]
  intro h
  have h0 : 1 ≤ 0 + 1 * (x 0).val := (h 0).1
  have hx : (x 0).val < 1 := (x 0).isLt
  omega

theorem apart_tops (x : (Rect.unit (s := S2x1x512) ![0, 0, 0] S1x1x512.size inb_S2x1x512_S1x1x512_0_0_0).shape.Idx) :
    (Rect.unit (s := S2x1x512) ![0, 0, 0] S1x1x512.size inb_S2x1x512_S1x1x512_0_0_0).emb x
      ∉ (Rect.unit (s := S2x1x512) ![1, 0, 0] S1x1x512.size inb_S2x1x512_S1x1x512_1_0_0).set := by
  rw [Rect.mem_set_unit]
  intro h
  have h0 : 1 ≤ 0 + 1 * (x 0).val := (h 0).1
  have hx : (x 0).val < 1 := (x 0).isLt
  omega

/-! ## The tile at a head's column -/

section Tile

variable (q : Vec Ideal S512x256 .bf16) (k : Vec Ideal S4096x256 .bf16) (v : Vec Ideal S128x4096 .bf16) (g : Vec Ideal S128x1 .f32)

/-- The scores of row `r` of the query tile in the tile's head `h`. -/
def tileScore (h : Fin 2) (r : Fin 512) (j : Fin 4096) : EReal :=
  ∑ x : Fin 128, k (ix2 j ⟨h * 128 + x, by omega⟩) * q (ix2 r ⟨h * 128 + x, by omega⟩)

/-- The values of the tile's head `h`. -/
def tileValue (h : Fin 2) (e : Fin 64) (j : Fin 4096) : EReal := v (ix2 ⟨h * 64 + e, by omega⟩ j)

/-- The gains of the tile's head `h`. -/
def tileGain (h : Fin 2) (e : Fin 64) : EReal := g (ix2 ⟨h * 64 + e, by omega⟩ 0)

/-- One head's finished columns are the attention of the scores and greatest scores handed to them. -/
theorem pay10_apply (s : Fin 4096 → EReal) (S : Vec Ideal S1x4096x512 .f32) (M : Vec Ideal S1x1x512 .f32) (V : Vec Ideal S64x4096 .bf16)
    (G : Vec Ideal S64x1 .f32) (e : Fin 64) (r : Fin 512) (hS : ∀ j : Fin 4096, (S (ix3 0 j r) : EReal) = s j)
    (hM : (M (ix3 0 0 r) : EReal) = top s) :
    (k0_pay10 S M V G (ix2 e r) : EReal) = rms (out s fun e j => V (ix2 e j)) (fun e => G (ix2 e 0)) e := by
  pointwise [k0_pay10, k0_pay9]
  simp only [hS, hM]
  rfl

/-- A finished tile at a column of its first head is that head's part, -/
theorem pay12_first (A : FVec Ideal S16x4096 .bf16) (B : FVec Ideal S64x512 .f32) (C : FVec Ideal S4096x512 .bf16)
    (V : Vec Ideal S64x4096 .bf16) (G : Vec Ideal S64x1 .f32) (r : Fin 512) (e : Fin 64) :
    (k0_pay12 A B C V G (ix2 r ⟨e, by omega⟩) : EReal) = B (ix2 e r) := by
  have he : e.val < 64 := e.isLt
  pointwise [k0_pay12]

/-- and at a column of its second head the attention of what the second head was handed. -/
theorem pay12_second (s : Fin 4096 → EReal) (S : Vec Ideal S1x4096x512 .f32) (M : Vec Ideal S1x1x512 .f32)
    (B : FVec Ideal S64x512 .f32) (V : Vec Ideal S64x4096 .bf16) (G : Vec Ideal S64x1 .f32) (r : Fin 512) (e : Fin 64)
    (hS : ∀ j : Fin 4096, (S (ix3 0 j r) : EReal) = s j) (hM : (M (ix3 0 0 r) : EReal) = top s) :
    (k0_pay12 (k0_pay9 (F := Ideal)) B (k0_pay11 S M) V G (ix2 r ⟨64 + e, by omega⟩) : EReal)
      = rms (out s fun e j => V (ix2 e j)) (fun e => G (ix2 e 0)) e := by
  pointwise [k0_pay12, k0_pay11, k0_pay9]
  simp only [hS, hM]
  rfl

theorem tops_pay (K : Vec Ideal S4096x128 .bf16) (Q : Vec Ideal S512x128 .bf16) (r : Fin 512) :
    (k0_pay15 K Q (ix3 0 0 r) : EReal) = top fun j : Fin 4096 => ∑ x : Fin 128, K (ix2 j x) * Q (ix2 r x) := by
  pointwise [k0_pay15, k0_pay13]
  rw [ofBits_neg_inf]
  rfl

theorem scores_pay (K : Vec Ideal S4096x128 .bf16) (Q : Vec Ideal S512x128 .bf16) (j : Fin 4096) (r : Fin 512) :
    (k0_pay14 K Q (ix3 0 j r) : EReal) = ∑ x : Fin 128, K (ix2 j x) * Q (ix2 r x) := by
  pointwise [k0_pay14, k0_pay13]

theorem finished_first (r : Fin 512) (e : Fin 64) :
    (finished (scores q k) (tops q k) v g (ix2 r ⟨e, by omega⟩) : EReal)
      = rms (out (tileScore q k 0 r) (tileValue v 0)) (tileGain g 0) e := by
  have hs : ∀ j : Fin 4096, tileScore q k 0 r j
      = ∑ x : Fin 128, View.ld k (Rect.unit (s := S4096x256) ![0, 0] S4096x128.size inb_S4096x256_S4096x128_0_0) (ix2 j x)
        * View.ld q (Rect.unit (s := S512x256) ![0, 0] S512x128.size inb_S512x256_S512x128_0_0) (ix2 r x) := by
    intro j
    pointwise [tileScore]
  have hv : tileValue v 0 = fun (e : Fin 64) (j : Fin 4096) =>
      View.ld v (Rect.unit (s := S128x4096) ![0, 0] S64x4096.size inb_S128x4096_S64x4096_0_0) (ix2 e j) := by
    funext e j
    pointwise [tileValue]
  have hg : tileGain g 0 = fun e : Fin 64 => View.ld g (Rect.unit (s := S128x1) ![0, 0] S64x1.size inb_S128x1_S64x1_0_0) (ix2 e 0) := by
    funext e
    pointwise [tileGain]
  unfold finished scores tops
  rw [pay12_first, ld_canon_first _ _ _ _ apart_scores, ld_canon_first _ _ _ _ apart_tops, pay10_apply (tileScore q k 0 r), hv, hg]
  · intro j
    rw [scores_pay, hs]
  · rw [tops_pay]
    exact congrArg top (funext fun j => (hs j).symm)

theorem finished_second (r : Fin 512) (e : Fin 64) :
    (finished (scores q k) (tops q k) v g (ix2 r ⟨64 + e, by omega⟩) : EReal)
      = rms (out (tileScore q k 1 r) (tileValue v 1)) (tileGain g 1) e := by
  have hs : ∀ j : Fin 4096, tileScore q k 1 r j
      = ∑ x : Fin 128, View.ld k (Rect.unit (s := S4096x256) ![0, 128] S4096x128.size inb_S4096x256_S4096x128_0_128) (ix2 j x)
        * View.ld q (Rect.unit (s := S512x256) ![0, 128] S512x128.size inb_S512x256_S512x128_0_128) (ix2 r x) := by
    intro j
    pointwise [tileScore]
  have hv : tileValue v 1 = fun (e : Fin 64) (j : Fin 4096) =>
      View.ld v (Rect.unit (s := S128x4096) ![64, 0] S64x4096.size inb_S128x4096_S64x4096_64_0) (ix2 e j) := by
    funext e j
    pointwise [tileValue]
  have hg : tileGain g 1 = fun e : Fin 64 => View.ld g (Rect.unit (s := S128x1) ![64, 0] S64x1.size inb_S128x1_S64x1_64_0) (ix2 e 0) := by
    funext e
    pointwise [tileGain]
  unfold finished scores tops
  rw [ld_canon_last, ld_canon_last, pay12_second (tileScore q k 1 r), hv, hg]
  · intro j
    exact (scores_pay _ _ _ _).trans (hs j).symm
  · exact (tops_pay _ _ _).trans (congrArg top (funext fun j => (hs j).symm))

/-- The finished tile at column `e` of its head `h`. -/
theorem finished_apply (h : Fin 2) (r : Fin 512) (e : Fin 64) :
    (finished (scores q k) (tops q k) v g (ix2 r ⟨h * 64 + e, by omega⟩) : EReal)
      = rms (out (tileScore q k h r) (tileValue v h)) (tileGain g h) e := by
  match h with
  | ⟨0, _⟩ =>
    rw [show (⟨((⟨0, by omega⟩ : Fin 2) : ℕ) * 64 + e, by show 0 * 64 + _ < _; omega⟩ : Fin 128) = ⟨e, by omega⟩ from
      Fin.ext (by show 0 * 64 + e.val = e.val; omega)]
    exact finished_first q k v g r e
  | ⟨1, _⟩ => exact finished_second q k v g r e

end Tile

end Cert.KernelIdeal.Body

end
-- ==== Proof.KernelIdeal.Value.lean ====
/- The kernel's result array after the run is the attention of its arguments, element by element. -/
module

public import proofs.«01_k».proof.Proof.KernelIdeal.Geometry
public import proofs.«01_k».proof.Proof.KernelIdeal.Tile
public import Idealize.ShloMosaic.Lib.Pipeline.ValueKit.Geometry

@[expose] public section

set_option maxRecDepth 16384

noncomputable section

namespace Cert.KernelIdeal.Body

open Cert.KernelIdeal.Gen
open Idealize.ShloMosaic Idealize.ShloMosaic.TcCoe Idealize.ShloMosaic.Tactic Idealize.SL.Sem
open Cert.Softmax

variable (m : (ℓ : Loc nD τ sig) → Buf (Elt Ideal) ℓ) (ρ : Dev nD → PrngReg)

/-! ## The arguments and the result -/

/-- The queries, the keys, the values and the gains, by row and column. -/
def queries (c : Dev nD) (r : Fin 65536) (x : Fin 1024) : EReal := (m ((c : Thread nD τ).loc main_arg0) : Vec Ideal S65536x1024 .bf16) (ix2 r x)
def keys (c : Dev nD) (r : Fin 65536) (x : Fin 1024) : EReal := (m ((c : Thread nD τ).loc main_arg1) : Vec Ideal S65536x1024 .bf16) (ix2 r x)
def values (c : Dev nD) (r : Fin 512) (x : Fin 65536) : EReal := (m ((c : Thread nD τ).loc main_arg2) : Vec Ideal S512x65536 .bf16) (ix2 r x)
def gains (c : Dev nD) (r : Fin 512) : EReal := (m ((c : Thread nD τ).loc main_arg3) : Vec Ideal S512x1 .f32) (ix2 r 0)

/-- The attention of the arguments, as an array. -/
def result (c : Dev nD) : Buf (Elt Ideal) ((c : Thread nD τ).loc main_v0) :=
  (fun i : S65536x512.Idx => (attended (queries m c) (keys m c) (values m c) (gains m c) (i 0) (i 1) : EReal) : Vec Ideal S65536x512 .bf16)

/-! ## The blocks at coordinates -/

section Blocks

variable (c : Dev nD) (n : ℕ) (hn : n < 512)

theorem blk_q (h : n < cfg0.N) (r : Fin 512) (x : Fin 256) :
    ((iblk m c 0 ⟨n, h⟩ : Vec Ideal S512x256 .bf16) (ix2 r x) : EReal)
      = queries m c ⟨(n / 32 * 8 + n % 8) * 512 + r, by omega⟩ ⟨n / 8 % 4 * 256 + x, by omega⟩ := by
  have e0 := (index_q ⟨n, h⟩ hn).1
  have e1 := (index_q ⟨n, h⟩ hn).2
  unfold queries
  blk_simp [iblk, e0, e1]
  rw [V_main_arg0]
  refine congrArg _ ?_
  blk_ext [e0, e1]

theorem blk_k (h : n < cfg0.N) (j : Fin 4096) (x : Fin 256) :
    ((iblk m c 1 ⟨n, h⟩ : Vec Ideal S4096x256 .bf16) (ix2 j x) : EReal)
      = keys m c ⟨n / 32 * 4096 + j, by omega⟩ ⟨n / 8 % 4 * 256 + x, by omega⟩ := by
  have e0 := (index_k ⟨n, h⟩ hn).1
  have e1 := (index_k ⟨n, h⟩ hn).2
  unfold keys
  blk_simp [iblk, e0, e1]
  rw [V_main_arg1]
  refine congrArg _ ?_
  blk_ext [e0, e1]

theorem blk_v (h : n + 1 < cfg0.N) (e : Fin 128) (j : Fin 4096) :
    ((iblk m c 2 ⟨n + 1, h⟩ : Vec Ideal S128x4096 .bf16) (ix2 e j) : EReal)
      = values m c ⟨n / 8 % 4 * 128 + e, by omega⟩ ⟨n / 32 * 4096 + j, by omega⟩ := by
  have e0 : win0_2.index ⟨n + 1, h⟩ 0 = n / 8 % 4 := (index_v ⟨n + 1, h⟩ (Nat.succ_pos n)).1
  have e1 : win0_2.index ⟨n + 1, h⟩ 1 = n / 32 := (index_v ⟨n + 1, h⟩ (Nat.succ_pos n)).2
  unfold values
  blk_simp [iblk, e0, e1]
  rw [V_main_arg2]
  refine congrArg _ ?_
  blk_ext [e0, e1]

theorem blk_g (h : n + 1 < cfg0.N) (e : Fin 128) :
    ((iblk m c 3 ⟨n + 1, h⟩ : Vec Ideal S128x1 .f32) (ix2 e 0) : EReal) = gains m c ⟨n / 8 % 4 * 128 + e, by omega⟩ := by
  have e0 : win0_3.index ⟨n + 1, h⟩ 0 = n / 8 % 4 := (index_g ⟨n + 1, h⟩ (Nat.succ_pos n)).1
  have e1 : win0_3.index ⟨n + 1, h⟩ 1 = 0 := (index_g ⟨n + 1, h⟩ (Nat.succ_pos n)).2
  unfold gains
  blk_simp [iblk, e0, e1]
  rw [V_main_arg3]
  refine congrArg _ ?_
  blk_ext [e0, e1]

/-! ## The tile's scores, values and gains are the batch's and the head's -/

include hn in
theorem score_blk (h : n < cfg0.N) (a : Fin 2) (r : Fin 512) (j : Fin 4096) :
    tileScore (iblk m c 0 ⟨n, h⟩) (iblk m c 1 ⟨n, h⟩) a r j
      = scoreAt (queries m c) (keys m c) ⟨n / 32, by omega⟩ ⟨n / 8 % 4 * 2 + a, by omega⟩ ⟨n % 8 * 512 + r, by omega⟩ j := by
  unfold tileScore scoreAt
  refine Finset.sum_congr rfl fun x _ => ?_
  rw [blk_q m c n hn, blk_k m c n hn]
  congr 2 <;> exact Fin.ext (by simp only []; omega)

include hn in
theorem value_blk (h : n + 1 < cfg0.N) (a : Fin 2) (e : Fin 64) (j : Fin 4096) :
    tileValue (iblk m c 2 ⟨n + 1, h⟩) a e j = valueAt (values m c) ⟨n / 32, by omega⟩ ⟨n / 8 % 4 * 2 + a, by omega⟩ e j := by
  unfold tileValue valueAt
  rw [blk_v m c n hn]
  congr 1; exact Fin.ext (by simp only []; omega)

include hn in
theorem gain_blk (h : n + 1 < cfg0.N) (a : Fin 2) (e : Fin 64) :
    tileGain (iblk m c 3 ⟨n + 1, h⟩) a e = gainAt (gains m c) ⟨n / 8 % 4 * 2 + a, by omega⟩ e := by
  unfold tileGain gainAt
  rw [blk_g m c n]
  congr 1; exact Fin.ext (by simp only []; omega)

/-- The attention at a row and a column, by the batch, head, position and component that they name. -/
theorem attended_at (Q K : Fin 65536 → Fin 1024 → EReal) (VT : Fin 512 → Fin 65536 → EReal) (G : Fin 512 → EReal)
    (r : Fin 65536) (x : Fin 512) (b : Fin 16) (a : Fin 8) (i : Fin 4096) (e : Fin 64) (hb : r.val / 4096 = b.val) (ha : x.val / 64 = a.val)
    (hi : r.val % 4096 = i.val) (he : x.val % 64 = e.val) : attended Q K VT G r x = attend Q K VT G b a i e := by
  unfold attended
  rw [(Fin.ext hb : (⟨r.val / 4096, by omega⟩ : Fin 16) = b), (Fin.ext ha : (⟨x.val / 64, by omega⟩ : Fin 8) = a),
    (Fin.ext hi : (⟨r.val % 4096, by omega⟩ : Fin 4096) = i), (Fin.ext he : (⟨x.val % 64, by omega⟩ : Fin 64) = e)]

theorem tileAt_succ (h : n + 1 < cfg0.N) :
    tileAt m c ⟨n + 1, h⟩ = finished (scores (iblk m c 0 ⟨n, Nat.lt_of_succ_lt h⟩) (iblk m c 1 ⟨n, Nat.lt_of_succ_lt h⟩))
      (tops (iblk m c 0 ⟨n, Nat.lt_of_succ_lt h⟩) (iblk m c 1 ⟨n, Nat.lt_of_succ_lt h⟩)) (iblk m c 2 ⟨n + 1, h⟩) (iblk m c 3 ⟨n + 1, h⟩) := by
  unfold tileAt
  rfl

include hn in
/-- What the point after `n` leaves is the attention at tile `n`'s rows and columns. -/
theorem tile_eq (h : n + 1 < cfg0.N) (r : Fin 512) (x : Fin 128) :
    (tileAt m c ⟨n + 1, h⟩ (ix2 r x) : EReal)
      = attended (queries m c) (keys m c) (values m c) (gains m c)
          ⟨(n / 32 * 8 + n % 8) * 512 + r, by omega⟩ ⟨n / 8 % 4 * 128 + x, by omega⟩ := by
  obtain ⟨a, e, rfl⟩ : ∃ (a : Fin 2) (e : Fin 64), x = ⟨a * 64 + e, by omega⟩ :=
    ⟨⟨x / 64, by omega⟩, ⟨x % 64, by omega⟩, Fin.ext (by simp only []; omega)⟩
  have hs : tileScore (iblk m c 0 ⟨n, Nat.lt_of_succ_lt h⟩) (iblk m c 1 ⟨n, Nat.lt_of_succ_lt h⟩) a r
      = scoreAt (queries m c) (keys m c) ⟨n / 32, by omega⟩ ⟨n / 8 % 4 * 2 + a, by omega⟩ ⟨n % 8 * 512 + r, by omega⟩ :=
    funext fun j => score_blk m c n hn _ a r j
  have hv : tileValue (iblk m c 2 ⟨n + 1, h⟩) a = valueAt (values m c) ⟨n / 32, by omega⟩ ⟨n / 8 % 4 * 2 + a, by omega⟩ :=
    funext fun e => funext fun j => value_blk m c n hn h a e j
  have hg : tileGain (iblk m c 3 ⟨n + 1, h⟩) a = gainAt (gains m c) ⟨n / 8 % 4 * 2 + a, by omega⟩ :=
    funext fun e => gain_blk m c n hn h a e
  rw [tileAt_succ, finished_apply, hs, hv, hg]
  exact (attended_at _ _ _ _ _ _ _ _ _ _ (by simp only []; omega) (by simp only []; omega) (by simp only []; omega) (by simp only []; omega)).symm

end Blocks

/-! ## The array after the run -/

theorem arr_eq (c : Dev nD) : (dats m 0 c).arrAt 4 cfg0.N = result m c := by
  refine (dats m 0 c).arrAt_eq_of_covers 4 _ covers_o fun t hf y => ?_
  have h0 := flush_o t hf
  obtain ⟨n, hn⟩ : ∃ n, t.val = n + 1 := ⟨t.val - 1, by omega⟩
  obtain ⟨t, ht⟩ := t
  subst hn
  have hN : n + 1 < 513 := lt_of_lt_of_eq ht N_0
  have hn : n < 512 := by omega
  have e0 : win0_4.index ⟨n + 1, ht⟩ 0 = n / 32 * 8 + n % 8 := (index_o ⟨n + 1, ht⟩ (Nat.succ_pos n)).1
  have e1 : win0_4.index ⟨n + 1, ht⟩ 1 = n / 8 % 4 := (index_o ⟨n + 1, ht⟩ (Nat.succ_pos n)).2
  blk_simp
  rw [after_4]
  obtain ⟨r, x, rfl⟩ : ∃ (r : Fin 512) (x : Fin 128), y = ix2 r x := ⟨y 0, y 1, eq_ix2 y⟩
  rw [tile_eq m c n hn]
  unfold result
  refine congrArg₂ _ (Fin.ext ?_) (Fin.ext ?_)
  · blk_simp [e0]
  · blk_simp [e1]

theorem run_result : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (arr_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run m ρ)

end Cert.KernelIdeal.Body

end
-- ==== Proof.ReferenceIdeal.Stages.lean ====
/- The reference's result read element by element: its printed term cut in stages (scores, weights, weighted values,
   normalised output), each stage read at an index. -/
module

public import proofs.«01_k».proof.Proof.Gen.ReferenceIdeal.Run
public import Idealize.ShloMosaic.Lib.Pointwise

@[expose] public section

set_option maxRecDepth 16384

noncomputable section

namespace Cert.ReferenceIdeal.Stages

open Cert.ReferenceIdeal Cert.ReferenceIdeal.Gen
open Idealize.ShloMosaic Idealize.ShloMosaic.TcCoe Idealize.ShloMosaic.Tactic

variable {F : FTy → Type} [FloatOps F]

/-- The scores of every head: queries against keys, times the logarithm of two. -/
def scores (q k : FVec F S65536x1024 .bf16) : FVec F S16x8x4096x4096 .f32 :=
  mulf (Host.dotGeneral dot_S16x4096x8x128_S16x4096x8x128_S16x8x4096x4096_3_3_1_1_02_02 none
      (shapeCast _ q shapeCasts_S65536x1024_S16x4096x8x128) (shapeCast _ k shapeCasts_S65536x1024_S16x4096x8x128))
    (broadcastInDim S16x8x4096x4096 ![] bcast_S_S16x8x4096x4096 (Host.log (constant S_ .f32 0x40000000#32)))

/-- The greatest score of every query. -/
def tops (s : FVec F S16x8x4096x4096 .f32) : FVec F S16x8x4096 .f32 :=
  maximumf (broadcastInDim S16x8x4096 ![] bcast_S_S16x8x4096 (constant S_ .f32 0xFF800000#32))
    (Host.reduce FloatOps.maximumf s (constant S_ .f32 0xFF800000#32) reducesTo_S16x8x4096x4096_S16x8x4096_d3 h_S_)

/-- The exponentials of the scores less the greatest. -/
def exps (s : FVec F S16x8x4096x4096 .f32) (t : FVec F S16x8x4096 .f32) : FVec F S16x8x4096x4096 .f32 :=
  Host.exp (subf s (broadcastInDim S16x8x4096x4096 ![0, 1, 2, 3] bcast_S16x8x4096x1_S16x8x4096x4096_0_1_2_3
    (broadcastInDim S16x8x4096x1 ![0, 1, 2] bcast_S16x8x4096_S16x8x4096x1_0_1_2 t)))

/-- The weights: each exponential over the sum of its query's. -/
def weights (e : FVec F S16x8x4096x4096 .f32) : FVec F S16x8x4096x4096 .bf16 :=
  truncf .bf16 (Host.divf e (broadcastInDim S16x8x4096x4096 ![0, 1, 2, 3] bcast_S16x8x4096x1_S16x8x4096x4096_0_1_2_3
    (broadcastInDim S16x8x4096x1 ![0, 1, 2] bcast_S16x8x4096_S16x8x4096x1_0_1_2
      (Host.reduceAdd e (constant S_ .f32 0x00000000#32) reducesTo_S16x8x4096x4096_S16x8x4096_d3 h_S_)))) bitsLt_bf16_f32

/-- The weighted values. -/
def weighted (vt : FVec F S512x65536 .bf16) (p : FVec F S16x8x4096x4096 .bf16) : FVec F S16x4096x8x64 .f32 :=
  extf .f32 (truncf .bf16 (transpose S16x4096x8x64 [0, 3, 1, 2]
    (Host.dotGeneral dot_S16x4096x8x64_S16x8x4096x4096_S16x8x64x4096_1_3_3_2_02_01 none
      (shapeCast _ (transpose S65536x512 [1, 0] vt transposes_S512x65536_S65536x512_1_0) shapeCasts_S65536x512_S16x4096x8x64) p)
    transposes_S16x8x64x4096_S16x4096x8x64_0_3_1_2) bitsLt_bf16_f32) bitsLt_bf16_f32

/-- The root-mean-square normalisation of every head, times the gains. -/
def normalised (o : FVec F S16x4096x8x64 .f32) (g : FVec F S512x1 .f32) : FVec F S65536x512 .bf16 :=
  truncf .bf16 (shapeCast _ (mulf (mulf o (broadcastInDim S16x4096x8x64 ![0, 1, 2, 3] bcast_S16x4096x8x1_S16x4096x8x64_0_1_2_3
      (Host.rsqrt (addf (Host.divf (broadcastInDim S16x4096x8x1 ![0, 1, 2] bcast_S16x4096x8_S16x4096x8x1_0_1_2
          (Host.reduceAdd (mulf o o) (constant S_ .f32 0x00000000#32) reducesTo_S16x4096x8x64_S16x4096x8_d3 h_S_))
        (broadcastInDim S16x4096x8x1 ![] bcast_S_S16x4096x8x1 (constant S_ .f32 0x42800000#32)))
        (broadcastInDim S16x4096x8x1 ![] bcast_S_S16x4096x8x1 (constant S_ .f32 0x358637BD#32))))))
    (broadcastInDim S16x4096x8x64 ![0, 1, 2, 3] bcast_S1x1x8x64_S16x4096x8x64_0_1_2_3
      (broadcastInDim S1x1x8x64 ![2, 3] bcast_S8x64_S1x1x8x64_2_3 (shapeCast _ g shapeCasts_S512x1_S8x64))))
    shapeCasts_S16x4096x8x64_S65536x512) bitsLt_bf16_f32

/-- The stages one after the other. -/
def result (q k : FVec F S65536x1024 .bf16) (vt : FVec F S512x65536 .bf16) (g : FVec F S512x1 .f32) : FVec F S65536x512 .bf16 :=
  normalised (weighted vt (weights (exps (scores q k) (tops (scores q k))))) g

/-- The reference's printed term is the stages' composition. -/
theorem res_eq (m : (ℓ : Loc nD τ sig) → Buf (Elt F) ℓ) (c : Dev nD) :
    Cert.ReferenceIdeal.Value.res_out0 m c
      = result (m ((c.tc : Thread nD τ).loc main_arg0)) (m ((c.tc : Thread nD τ).loc main_arg1))
          (m ((c.tc : Thread nD τ).loc main_arg2)) (m ((c.tc : Thread nD τ).loc main_arg3)) := rfl

theorem scores_apply (q k : FVec Ideal S65536x1024 .bf16) (b : Fin 16) (h : Fin 8) (i j : Fin 4096) :
    (scores q k (ix4 b h i j) : EReal)
      = (∑ x : Fin 128, q (ix2 ⟨b * 4096 + i, by omega⟩ ⟨h * 128 + x, by omega⟩) * k (ix2 ⟨b * 4096 + j, by omega⟩ ⟨h * 128 + x, by omega⟩))
        * Ideal.log (Ideal.ofBits FTy.f32 0x40000000#32) := by
  pointwise [scores]

theorem maximumf_read {s : Shape} (x y : FVec Ideal s .f32) (j : s.Idx) : (maximumf x y j : EReal) = max (x j) (y j) := rfl

theorem reduce_read {s t u : Shape} {a : Fin s.rank} (x : FVec Ideal s .f32) (init : FVec Ideal u .f32) (h' : s.ReducesTo [a] t)
    (h : s.Reduces [a] t) (hu : 0 < u.numel) (j : t.Idx) :
    (Host.reduce (FloatOps.maximumf (F := Ideal) (φ := .f32)) x init h' hu j : Ideal .f32)
      = (Finset.univ : Finset (Fin (s.size a))).fold max (init (Shape.Idx.first hu) : EReal) (x ∘ h.lift j) :=
  Host.reduce_eq_fold_single (α := EReal) max x init h' h hu j

theorem tops_apply (s : FVec Ideal S16x8x4096x4096 .f32) (b : Fin 16) (h : Fin 8) (i : Fin 4096) :
    (tops s (ix3 b h i) : EReal) = max (Ideal.ofBits FTy.f32 0xFF800000#32)
      ((Finset.univ : Finset (Fin 4096)).fold max (Ideal.ofBits FTy.f32 0xFF800000#32) fun j => s (ix4 b h i j)) := by
  have hr : S16x8x4096x4096.Reduces [3] S16x8x4096 := by decide
  have hl : (s ∘ hr.lift (ix3 b h i)) = fun j : Fin 4096 => s (ix4 b h i j) := by
    funext j
    refine congrArg s (funext fun a => ?_)
    match a with
    | ⟨0, _⟩ => rfl
    | ⟨1, _⟩ => rfl
    | ⟨2, _⟩ => rfl
    | ⟨3, _⟩ => rfl
  have hc : ∀ i : S_.Idx, (constant (F := Ideal) S_ .f32 0xFF800000#32 i : EReal) = Ideal.ofBits FTy.f32 0xFF800000#32 := fun _ => rfl
  have hb : (broadcastInDim S16x8x4096 ![] bcast_S_S16x8x4096 (constant (F := Ideal) S_ .f32 0xFF800000#32) (ix3 b h i) : EReal)
      = Ideal.ofBits FTy.f32 0xFF800000#32 := rfl
  unfold tops
  rw [maximumf_read, hb, reduce_read _ _ _ hr, hl, hc]
  rfl

theorem exps_apply (s : FVec Ideal S16x8x4096x4096 .f32) (t : FVec Ideal S16x8x4096 .f32) (b : Fin 16) (h : Fin 8) (i j : Fin 4096) :
    (exps s t (ix4 b h i j) : EReal) = Ideal.exp (s (ix4 b h i j) - t (ix3 b h i)) := by
  pointwise [exps]

theorem weights_apply (e : FVec Ideal S16x8x4096x4096 .f32) (b : Fin 16) (h : Fin 8) (i j : Fin 4096) :
    (weights e (ix4 b h i j) : EReal) = Ideal.div (e (ix4 b h i j)) (∑ x : Fin 4096, e (ix4 b h i x)) := by
  pointwise [weights]

theorem weighted_apply (v : FVec Ideal S512x65536 .bf16) (p : FVec Ideal S16x8x4096x4096 .bf16) (b : Fin 16) (i : Fin 4096)
    (h : Fin 8) (e : Fin 64) :
    (weighted v p (ix4 b i h e) : EReal)
      = ∑ x : Fin 4096, v (ix2 ⟨h * 64 + e, by omega⟩ ⟨b * 4096 + x, by omega⟩) * p (ix4 b h i x) := by
  pointwise [weighted]

theorem normalised_apply (o : FVec Ideal S16x4096x8x64 .f32) (g : FVec Ideal S512x1 .f32) (b : Fin 16) (i : Fin 4096)
    (h : Fin 8) (e : Fin 64) :
    (normalised o g (ix2 ⟨b * 4096 + i, by omega⟩ ⟨h * 64 + e, by omega⟩) : Ideal .bf16)
      = (o (ix4 b i h e) * Ideal.rsqrt (Ideal.div (∑ x : Fin 64, o (ix4 b i h x) * o (ix4 b i h x) : EReal)
            (Ideal.ofBits FTy.f32 0x42800000#32) + Ideal.ofBits FTy.f32 0x358637BD#32 : EReal)
          * g (ix2 ⟨h * 64 + e, by omega⟩ 0) : EReal) := by
  pointwise [normalised]

end Cert.ReferenceIdeal.Stages
-- ==== Proof.ReferenceIdeal.Value.lean ====
/- The reference's result is the attention of its arguments, element by element. -/
module

public import proofs.«01_k».proof.Proof.ReferenceIdeal.Stages
public import proofs.«01_k».proof.Proof.Softmax

@[expose] public section

set_option maxRecDepth 16384

noncomputable section

namespace Cert.ReferenceIdeal.Stages

open Cert.ReferenceIdeal Cert.ReferenceIdeal.Gen
open Idealize.ShloMosaic Idealize.ShloMosaic.TcCoe Idealize.ShloMosaic.Tactic
open Cert.Softmax

variable (q k : FVec Ideal S65536x1024 .bf16) (vt : FVec Ideal S512x65536 .bf16) (g : FVec Ideal S512x1 .f32)

theorem scores_eq (b : Fin 16) (h : Fin 8) (i j : Fin 4096) :
    (scores q k (ix4 b h i j) : EReal)
      = scoreAt (fun r c => q (ix2 r c)) (fun r c => k (ix2 r c)) b h i j * (Real.log 2 : ℝ) := by
  rw [scores_apply, log_two]
  unfold scoreAt
  rw [Finset.sum_congr rfl fun x _ => mul_comm _ _]

theorem exps_eq (b : Fin 16) (h : Fin 8) (i j : Fin 4096) :
    (exps (scores q k) (tops (scores q k)) (ix4 b h i j) : EReal)
      = expo (scoreAt (fun r c => q (ix2 r c)) (fun r c => k (ix2 r c)) b h i) j := by
  rw [exps_apply, tops_apply, scores_eq, ofBits_neg_inf]
  simp only [scores_eq]
  exact exp_eq_expo _ _

theorem weighted_eq (b : Fin 16) (i : Fin 4096) (h : Fin 8) (e : Fin 64) :
    (weighted vt (weights (exps (scores q k) (tops (scores q k)))) (ix4 b i h e) : EReal)
      = outFirst (scoreAt (fun r c => q (ix2 r c)) (fun r c => k (ix2 r c)) b h i) (valueAt (fun r c => vt (ix2 r c)) b h) e := by
  rw [weighted_apply]
  simp only [weights_apply, exps_eq]
  rfl

theorem result_apply (b : Fin 16) (i : Fin 4096) (h : Fin 8) (e : Fin 64) :
    (result q k vt g (ix2 ⟨b * 4096 + i, by omega⟩ ⟨h * 64 + e, by omega⟩) : EReal)
      = attend (fun r c => q (ix2 r c)) (fun r c => k (ix2 r c)) (fun r c => vt (ix2 r c)) (fun r => g (ix2 r 0)) b h i e := by
  unfold result attend
  rw [normalised_apply, ← rms_outFirst]
  simp only [weighted_eq]
  rfl

/-- The reference's result at every row and column. -/
theorem result_eq (r : Fin 65536) (c : Fin 512) :
    (result q k vt g (ix2 r c) : EReal)
      = attended (fun r c => q (ix2 r c)) (fun r c => k (ix2 r c)) (fun r c => vt (ix2 r c)) (fun r => g (ix2 r 0)) r c := by
  have h := result_apply q k vt g ⟨r / 4096, by omega⟩ ⟨r % 4096, by omega⟩ ⟨c / 64, by omega⟩ ⟨c % 64, by omega⟩
  have hr : (⟨(⟨r / 4096, by omega⟩ : Fin 16) * 4096 + (⟨r % 4096, by omega⟩ : Fin 4096), by show _ + _ < _; omega⟩ : Fin 65536) = r :=
    Fin.ext (by show r.val / 4096 * 4096 + r.val % 4096 = r.val; omega)
  have hc : (⟨(⟨c / 64, by omega⟩ : Fin 8) * 64 + (⟨c % 64, by omega⟩ : Fin 64), by show _ + _ < _; omega⟩ : Fin 512) = c :=
    Fin.ext (by show c.val / 64 * 64 + c.val % 64 = c.val; omega)
  rw [hr, hc] at h
  exact h

end Cert.ReferenceIdeal.Stages

end
-- ==== Proof.Algebraic.lean ====
/- The idealized kernel and the idealized reference return the same array: the attention of their arguments. -/
module

public import proofs.«01_k».proof.Defs
public import proofs.«01_k».proof.Proof.Gen.KernelIdeal
public import proofs.«01_k».proof.Proof.Gen.ReferenceIdeal
public import proofs.«01_k».proof.Proof.Gen.ReferenceIdeal.Run
public import proofs.«01_k».proof.Proof.KernelIdeal.Value
public import proofs.«01_k».proof.Proof.ReferenceIdeal.Value

@[expose] public section

noncomputable section

namespace Cert.Proof

open Idealize.ShloMosaic Idealize.SL.Sem

/-- The reference's result from the kernel's arguments is the kernel's. -/
theorem reference_result (m : (ℓ : Loc Cert.KernelIdeal.nD Cert.KernelIdeal.τ Cert.KernelIdeal.sig) → Buf (Elt Ideal) ℓ)
    (c : Dev Cert.KernelIdeal.nD) :
    Cert.ReferenceIdeal.Stages.result (F := Ideal) (m ((c.tc : Thread _ Cert.KernelIdeal.τ).loc Cert.KernelIdeal.main_arg0))
      (m ((c.tc : Thread _ Cert.KernelIdeal.τ).loc Cert.KernelIdeal.main_arg1))
      (m ((c.tc : Thread _ Cert.KernelIdeal.τ).loc Cert.KernelIdeal.main_arg2))
      (m ((c.tc : Thread _ Cert.KernelIdeal.τ).loc Cert.KernelIdeal.main_arg3)) = Cert.KernelIdeal.Body.result m c := by
  funext i
  obtain ⟨r, x, rfl⟩ : ∃ (r : Fin 65536) (x : Fin 512), i = ix2 r x := ⟨i 0, i 1, eq_ix2 i⟩
  exact Cert.ReferenceIdeal.Stages.result_eq _ _ _ _ r x

theorem algebraic : Cert.algebraic_KernelIdeal_ReferenceIdeal := by
  intro m ρ m' ρ' _ hag
  refine ⟨fun c => Cert.KernelIdeal.Body.result m c, Cert.KernelIdeal.Body.run_result m ρ, ?_⟩
  refine (θ_run Cert.ReferenceIdeal.defs _ _).mono (fun r h c => ⟨(h c).1.trans ?_, (h c).2⟩) (Cert.ReferenceIdeal.Value.run (F := Ideal) m' ρ')
  refine (Cert.ReferenceIdeal.Stages.res_eq m' c).trans ?_
  rw [(hag c).1, (hag c).2.1, (hag c).2.2.1, (hag c).2.2.2]
  exact reference_result m c

end Cert.Proof

end
-- ==== Proof.Rows.lean ====
/- The functions of one row that the projections and the mixing call share: the layer norm and the root-mean-square norm. -/
module

public import Idealize.ShloMosaic.Lib.Pointwise

@[expose] public section

noncomputable section

namespace Cert.Rows

open Idealize.ShloMosaic

/-- The mean of a row of 1024 entries. -/
def mean (x : Fin 1024 → EReal) : EReal := Ideal.div (∑ e : Fin 1024, x e) (Ideal.ofBits FTy.f32 0x44800000#32)

/-- The layer norm of a row of 1024 entries, with gains `g` and offsets `b`. -/
def layerNorm (x g b : Fin 1024 → EReal) (d : Fin 1024) : EReal :=
  (x d - mean x) * Ideal.rsqrt (mean (fun e => (x e - mean x) * (x e - mean x)) + Ideal.ofBits FTy.f32 0x3727C5AC#32) * g d + b d

/-- The root-mean-square norm of a row whose length is `w`, with gains `g`. -/
def rmsNorm {n : ℕ} (w : EReal) (x g : Fin n → EReal) (d : Fin n) : EReal :=
  x d * Ideal.rsqrt (Ideal.div (∑ e : Fin n, x e * x e) w + Ideal.ofBits FTy.f32 0x358637BD#32) * g d

/-- A row of the two head groups side by side: the attention's columns, then the Hyena columns normalised in groups of 64. -/
def heads (a y g : Fin 512 → EReal) (k : Fin 1024) : EReal :=
  if h : k.val < 512 then a ⟨k, h⟩
  else rmsNorm (n := 64) (Ideal.ofBits FTy.f32 0x42800000#32) (fun e => y ⟨(k - 512) / 64 * 64 + e, by omega⟩)
    (fun e => g ⟨(k - 512) / 64 * 64 + e, by omega⟩) ⟨(k - 512) % 64, by omega⟩

/-- A row after the output projection: the layer norm of the scaled normalised input plus the projected head groups. -/
def mixed (x lg lb cat : Fin 1024 → EReal) (wo : Fin 1024 → Fin 1024 → EReal) (mg mb : Fin 1024 → EReal) (d : Fin 1024) : EReal :=
  layerNorm (fun d => Ideal.ofBits FTy.f32 0x3F9837F0#32 * layerNorm x lg lb d + ∑ k : Fin 1024, cat k * wo k d) mg mb d

/-- The mixing call's first result at batch `b`, position `i`: the Hyena outputs come by channel, in columns of 256 positions of every batch in turn. -/
def mixedAt (x : Fin 16 → Fin 4096 → Fin 1024 → EReal) (lg lb : Fin 1024 → EReal) (a : Fin 65536 → Fin 512 → EReal)
    (yt : Fin 512 → Fin 65536 → EReal) (hg : Fin 512 → EReal) (wo : Fin 1024 → Fin 1024 → EReal) (mg mb : Fin 1024 → EReal)
    (b : Fin 16) (i : Fin 4096) (d : Fin 1024) : EReal :=
  mixed (x b i) lg lb (heads (a ⟨b * 4096 + i, by omega⟩) (fun k => yt k ⟨i / 256 * 4096 + b * 256 + i % 256, by omega⟩) hg) wo mg mb d

end Cert.Rows

end
-- ==== Proof.Kernel3Ideal.Tile.lean ====
/- One grid step of the mixing call: what it gathers into a buffer, and what it writes out from the other. -/
module

public import proofs.«01_k».proof.Proof.Gen.Kernel3Ideal.Value
public import proofs.«01_k».proof.Proof.Rows
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel3Ideal.Body

open Cert.Kernel3Ideal Cert.Kernel3Ideal.Gen
open Idealize.ShloMosaic Idealize.ShloMosaic.TcCoe Idealize.ShloMosaic.Tactic Idealize.SL.Sem
open Cert.Rows

/-! ## The steps of a projection -/

/-- The rows that the second layer norm takes. -/
def sums (p : FVec Ideal S256x1024 .f32) (x : FVec Ideal S256x1024 .f32) (lg lb : FVec Ideal S1x1024 .f32) (r : Fin 256) (d : Fin 1024) : EReal :=
  Ideal.ofBits FTy.f32 0x3F9837F0#32 * layerNorm (fun d => x (ix2 r d)) (fun d => lg (ix2 0 d)) (fun d => lb (ix2 0 d)) d + p (ix2 r d)

theorem projected_apply (s : Vec Ideal S256x1024 .bf16) (w : Vec Ideal S1024x1024 .bf16) (r : Fin 256) (d : Fin 1024) :
    (k0_pay22 s w (ix2 r d) : EReal) = ∑ k : Fin 1024, s (ix2 r k) * w (ix2 k d) := by
  pointwise [k0_pay22]

theorem centred_apply (p : FVec Ideal S256x1024 .f32) (x : FVec Ideal S256x1024 .f32) (lg lb : FVec Ideal S1x1024 .f32) (r : Fin 256) (d : Fin 1024) :
    (k0_pay25 p x lg lb (ix2 r d) : EReal) = sums p x lg lb r d - mean (sums p x lg lb r) := by
  pointwise [k0_pay25, sums, layerNorm, mean]

theorem squares_apply (p : FVec Ideal S256x1024 .f32) (x : FVec Ideal S256x1024 .f32) (lg lb : FVec Ideal S1x1024 .f32) (r : Fin 256) :
    (k0_pay26 p x lg lb (ix2 r 0) : EReal) = ∑ d : Fin 1024, k0_pay25 p x lg lb (ix2 r d) * k0_pay25 p x lg lb (ix2 r d) := by
  pointwise [k0_pay26]

theorem scaled_apply (g b : FVec Ideal S1x1024 .f32) (u : FVec Ideal S256x1024 .f32) (v : FVec Ideal S256x1 .f32) (r : Fin 256) (d : Fin 1024) :
    (k0_pay2 g b u v (ix2 r d) : EReal) = u (ix2 r d) * Ideal.rsqrt (Ideal.div (v (ix2 r 0)) (Ideal.ofBits FTy.f32 0x44800000#32)
      + Ideal.ofBits FTy.f32 0x3727C5AC#32) * g (ix2 0 d) + b (ix2 0 d) := by
  pointwise [k0_pay2]

/-- The tile that a step writes to the first result. -/
def tile (s : Vec Ideal S256x1024 .bf16) (x : FVec Ideal S256x1024 .f32) (lg lb : FVec Ideal S1x1024 .f32) (wo : Vec Ideal S1024x1024 .bf16)
    (mg mb : FVec Ideal S1x1024 .f32) : FVec Ideal S256x1024 .f32 :=
  k0_pay2 (k0_pay23 mg) (k0_pay24 mb) (k0_pay25 (k0_pay22 s wo) x lg lb) (k0_pay26 (k0_pay22 s wo) x lg lb)

theorem tile_apply (s : Vec Ideal S256x1024 .bf16) (x : FVec Ideal S256x1024 .f32) (lg lb : FVec Ideal S1x1024 .f32) (wo : Vec Ideal S1024x1024 .bf16)
    (mg mb : FVec Ideal S1x1024 .f32) (r : Fin 256) (d : Fin 1024) :
    (tile s x lg lb wo mg mb (ix2 r d) : EReal) = mixed (fun d => x (ix2 r d)) (fun d => lg (ix2 0 d)) (fun d => lb (ix2 0 d)) (fun k => s (ix2 r k))
      (fun k d => wo (ix2 k d)) (fun d => mg (ix2 0 d)) (fun d => mb (ix2 0 d)) d := by
  have hg : (k0_pay23 (F := Ideal) mg (ix2 0 d) : EReal) = mg (ix2 0 d) := by pointwise [k0_pay23]
  have hb : (k0_pay24 (F := Ideal) mb (ix2 0 d) : EReal) = mb (ix2 0 d) := by pointwise [k0_pay24]
  have hs : sums (k0_pay22 s wo) x lg lb r = fun d => Ideal.ofBits FTy.f32 0x3F9837F0#32
      * layerNorm (fun d => x (ix2 r d)) (fun d => lg (ix2 0 d)) (fun d => lb (ix2 0 d)) d + ∑ k : Fin 1024, s (ix2 r k) * wo (ix2 k d) := by
    funext d
    unfold sums
    rw [projected_apply]
  unfold tile
  rw [scaled_apply, squares_apply, hg, hb]
  simp only [centred_apply]
  rw [hs]
  rfl

/-! ## The gathered rows -/

theorem heads_low (a y g : Fin 512 → EReal) (k : Fin 1024) (i : Fin 512) (h : k.val = i.val) : heads a y g k = a i := by
  have hk : k.val < 512 := by omega
  unfold heads
  rw [dif_pos hk]
  exact congrArg a (Fin.ext h)

theorem heads_high (a y g : Fin 512 → EReal) (k : Fin 1024) (j : ℕ) (hj : j < 8) (e : Fin 64) (h : k.val = 512 + 64 * j + e.val) :
    heads a y g k = rmsNorm (n := 64) (Ideal.ofBits FTy.f32 0x42800000#32) (fun e => y ⟨64 * j + e, by omega⟩) (fun e => g ⟨64 * j + e, by omega⟩) e := by
  have hk : ¬k.val < 512 := by omega
  have hd : (k.val - 512) / 64 * 64 = 64 * j := by omega
  have hm : (k.val - 512) % 64 = e.val := by omega
  unfold heads
  rw [dif_neg hk]
  simp only [hd, hm]

/-- What a step leaves in the buffer that it fills. -/
theorem gather (a : Vec Ideal S256x512 .bf16) (y : Vec Ideal S512x256 .bf16) (g : Vec Ideal S1x512 .f32) (r : Fin 256) (k : Fin 1024) :
    ((View.canon
      [⟨Rect.unit ![0, 960] ![256, 64] inb_S256x1024_S256x64_0_960,
          k0_pay21 (k0_pay8 y) (View.ld g (Rect.unit ![0, 448] ![1, 64] inb_S1x512_S1x64_0_448))⟩,
        ⟨Rect.unit ![0, 896] ![256, 64] inb_S256x1024_S256x64_0_896,
          k0_pay20 (k0_pay19 (k0_pay8 y)) (View.ld g (Rect.unit ![0, 384] ![1, 64] inb_S1x512_S1x64_0_384))⟩,
        ⟨Rect.unit ![0, 832] ![256, 64] inb_S256x1024_S256x64_0_832,
          k0_pay18 (k0_pay8 y) (View.ld g (Rect.unit ![0, 320] ![1, 64] inb_S1x512_S1x64_0_320))⟩,
        ⟨Rect.unit ![0, 768] ![256, 64] inb_S256x1024_S256x64_0_768,
          k0_pay17 (k0_pay8 y) (View.ld g (Rect.unit ![0, 256] ![1, 64] inb_S1x512_S1x64_0_256))⟩,
        ⟨Rect.unit ![0, 704] ![256, 64] inb_S256x1024_S256x64_0_704,
          k0_pay16 (k0_pay15 (k0_pay8 y) (View.ld g (Rect.unit ![0, 192] ![1, 64] inb_S1x512_S1x64_0_192)))⟩,
        ⟨Rect.unit ![0, 640] ![256, 64] inb_S256x1024_S256x64_0_640,
          k0_pay14 (k0_pay8 y) (View.ld g (Rect.unit ![0, 128] ![1, 64] inb_S1x512_S1x64_0_128))⟩,
        ⟨Rect.unit ![0, 576] ![256, 64] inb_S256x1024_S256x64_0_576,
          k0_pay13 (k0_pay11 y) (k0_pay12 (View.ld g (Rect.unit ![0, 64] ![1, 64] inb_S1x512_S1x64_0_64)))⟩,
        ⟨Rect.unit ![0, 512] ![256, 64] inb_S256x1024_S256x64_0_512,
          k0_pay10 y (View.ld g (Rect.unit ![0, 0] ![1, 64] inb_S1x512_S1x64_0_0))⟩,
        ⟨Rect.unit ![0, 0] ![256, 512] inb_S256x1024_S256x512_0_0, k0_pay9 a⟩] : Vec Ideal S256x1024 .bf16) (ix2 r k) : EReal)
      = heads (fun k => a (ix2 r k)) (fun k => y (ix2 k r)) (fun k => g (ix2 0 k)) k := by
  canon_tiles x h using (View.cover_of_tiledBy _ ![256, 64] (by sl_kernel_rfl) _)
  all_goals
    obtain ⟨p, e, rfl⟩ : ∃ p e, x = ix2 p e := ⟨_, _, eq_ix2 x⟩
    obtain rfl : r = p := Fin.ext h0
    have hk : k.val = _ := h1
    simp only [ix2_1] at hk
  case piece0 => rw [heads_high _ _ _ k 7 (by omega) e (by omega)]; pointwise [k0_pay8, k0_pay21, rmsNorm]
  case piece1 => rw [heads_high _ _ _ k 6 (by omega) e (by omega)]; pointwise [k0_pay8, k0_pay19, k0_pay20, rmsNorm]
  case piece2 => rw [heads_high _ _ _ k 5 (by omega) e (by omega)]; pointwise [k0_pay8, k0_pay18, rmsNorm]
  case piece3 => rw [heads_high _ _ _ k 4 (by omega) e (by omega)]; pointwise [k0_pay8, k0_pay17, rmsNorm]
  case piece4 => rw [heads_high _ _ _ k 3 (by omega) e (by omega)]; pointwise [k0_pay8, k0_pay15, k0_pay16, rmsNorm]
  case piece5 => rw [heads_high _ _ _ k 2 (by omega) e (by omega)]; pointwise [k0_pay8, k0_pay14, rmsNorm]
  case piece6 => rw [heads_high _ _ _ k 1 (by omega) e (by omega)]; pointwise [k0_pay8, k0_pay11, k0_pay12, k0_pay13, rmsNorm]
  case piece7 => rw [heads_high _ _ _ k 0 (by omega) e (by omega)]; pointwise [k0_pay8, k0_pay10, rmsNorm]
  case piece8 => rw [heads_low _ _ _ k e (by omega)]; pointwise [k0_pay9]

/-! ## The points of the grid -/

variable (m : (ℓ : Loc nD τ sig) → Buf (Elt Ideal) ℓ)

/-- The head groups of one row of a step's blocks. -/
def rows (c : Dev nD) (t : Fin cfg0.N) (r : Fin 256) (k : Fin 1024) : EReal :=
  heads (fun k => iblk m c 3 t (ix2 r k)) (fun k => iblk m c 4 t (ix2 k r)) (fun k => iblk m c 5 t (ix2 0 k)) k

/-- The tile that a step writes, from the buffer filled by the step before. -/
def tileAt (c : Dev nD) (t : Fin cfg0.N) (s : Vec Ideal S256x1024 .bf16) : FVec Ideal S256x1024 .f32 :=
  tile s (iblk m c 0 t) (iblk m c 1 t) (iblk m c 2 t) (iblk m c 6 t) (iblk m c 7 t) (iblk m c 8 t)

/-- The queries that a step writes, from the first result's tile. -/
def askedTile (w : FVec Ideal S1024x1024 .bf16) (h : FVec Ideal S256x1024 .f32) : FVec Ideal S1024x256 .bf16 :=
  truncf .bf16 (matmul dot_S1024x1024_S256x1024_S1024x256_1_1_0_0_n_n none (shapeCast S1024x1024 w shapeCasts_S1024x1024_S1024x1024)
    (truncf .bf16 h bitsLt_bf16_f32) (constant S1024x256 .f32 0x00000000#32)) bitsLt_bf16_f32

theorem askedTile_apply (w : FVec Ideal S1024x1024 .bf16) (h : FVec Ideal S256x1024 .f32) (e : Fin 1024) (r : Fin 256) :
    (askedTile w h (ix2 e r) : EReal) = ∑ d : Fin 1024, w (ix2 e d) * h (ix2 r d) := by
  pointwise [askedTile]

theorem filled_A (c : Dev nD) (t : Fin cfg0.N) (h0 : t.val % 257 = 0) (h1 : t.val % 2 = 0) (h2 : ¬t.val % 2 = 1) (r : Fin 256) (k : Fin 1024) :
    ((outsAt0 m c t.val t.isLt).2.2.2.1 (ix2 r k) : EReal) = rows m c t r k := by
  rw [outsAt0_A m c t h0 h1 h2]
  frame_out
  exact gather _ _ _ r k

theorem filled_B (c : Dev nD) (t : Fin cfg0.N) (h0 : ¬t.val % 257 = 0) (h1 : ¬t.val % 2 = 0) (h2 : t.val % 2 = 1) (r : Fin 256) (k : Fin 1024) :
    ((outsAt0 m c t.val t.isLt).2.2.2.2 (ix2 r k) : EReal) = rows m c t r k := by
  rw [outsAt0_B m c t h0 h1 h2]
  frame_out
  exact gather _ _ _ r k

theorem filled_C (c : Dev nD) (t : Fin cfg0.N) (h0 : ¬t.val % 257 = 0) (h1 : t.val % 2 = 0) (h2 : ¬t.val % 2 = 1) (r : Fin 256) (k : Fin 1024) :
    ((outsAt0 m c t.val t.isLt).2.2.2.1 (ix2 r k) : EReal) = rows m c t r k := by
  rw [outsAt0_C m c t h0 h1 h2]
  frame_out
  exact gather _ _ _ r k

theorem written_B (c : Dev nD) (t : Fin cfg0.N) (h0 : ¬t.val % 257 = 0) (h1 : ¬t.val % 2 = 0) (h2 : t.val % 2 = 1) :
    (outsAt0 m c t.val t.isLt).1 = tileAt m c t (outsAt0 m c (t.val - 1) (Nat.lt_of_le_of_lt (Nat.sub_le _ _) t.isLt)).2.2.2.1
    ∧ (outsAt0 m c t.val t.isLt).2.1 = truncf (F := Ideal) (φ := .f32) .bf16 (outsAt0 m c t.val t.isLt).1 bitsLt_bf16_f32
    ∧ (outsAt0 m c t.val t.isLt).2.2.1 = askedTile (iblk m c 9 t) (outsAt0 m c t.val t.isLt).1 := by
  rw [outsAt0_B m c t h0 h1 h2]
  refine ⟨?_, ?_, ?_⟩ <;> frame_out <;> simp only [read_unread_whole] <;> rfl

theorem written_C (c : Dev nD) (t : Fin cfg0.N) (h0 : ¬t.val % 257 = 0) (h1 : t.val % 2 = 0) (h2 : ¬t.val % 2 = 1) :
    (outsAt0 m c t.val t.isLt).1 = tileAt m c t (outsAt0 m c (t.val - 1) (Nat.lt_of_le_of_lt (Nat.sub_le _ _) t.isLt)).2.2.2.2
    ∧ (outsAt0 m c t.val t.isLt).2.1 = truncf (F := Ideal) (φ := .f32) .bf16 (outsAt0 m c t.val t.isLt).1 bitsLt_bf16_f32
    ∧ (outsAt0 m c t.val t.isLt).2.2.1 = askedTile (iblk m c 9 t) (outsAt0 m c t.val t.isLt).1 := by
  rw [outsAt0_C m c t h0 h1 h2]
  refine ⟨?_, ?_, ?_⟩ <;> frame_out <;> simp only [read_unread_whole] <;> rfl

end Cert.Kernel3Ideal.Body

end
-- ==== Proof.Kernel3Ideal.Geometry.lean ====
/- Which block each window of the mixing call holds at each point, and that the results' blocks cover the results. -/
module

public import proofs.«01_k».proof.Proof.Gen.Kernel3Ideal.Frame
public import Idealize.ShloMosaic.Lib.Pipeline.ValueKit.Geometry

@[expose] public section

set_option maxRecDepth 16384

noncomputable section

namespace Cert.Kernel3Ideal.Body

open Cert.Kernel3Ideal Cert.Kernel3Ideal.Gen
open Idealize.ShloMosaic Idealize.ShloMosaic.TcCoe Idealize.ShloMosaic.Tactic Idealize.SL.Sem

theorem index_x : ∀ t : Fin grid0.N, win0_0.index t 0 = t.val - 1 ∧ win0_0.index t 1 = 0 := by decide +kernel
theorem index_lg : ∀ t : Fin grid0.N, win0_1.index t 0 = 0 ∧ win0_1.index t 1 = 0 := by decide +kernel
theorem index_lb : ∀ t : Fin grid0.N, win0_2.index t 0 = 0 ∧ win0_2.index t 1 = 0 := by decide +kernel
theorem index_a : ∀ t : Fin grid0.N, t.val < 256 → win0_3.index t 0 = t.val ∧ win0_3.index t 1 = 0 := by decide +kernel
theorem index_y : ∀ t : Fin grid0.N, t.val < 256 → win0_4.index t 0 = 0 ∧ win0_4.index t 1 = t.val % 16 * 16 + t.val / 16 := by decide +kernel
theorem index_hg : ∀ t : Fin grid0.N, win0_5.index t 0 = 0 ∧ win0_5.index t 1 = 0 := by decide +kernel
theorem index_wo : ∀ t : Fin grid0.N, win0_6.index t 0 = 0 ∧ win0_6.index t 1 = 0 := by decide +kernel
theorem index_mg : ∀ t : Fin grid0.N, win0_7.index t 0 = 0 ∧ win0_7.index t 1 = 0 := by decide +kernel
theorem index_mb : ∀ t : Fin grid0.N, win0_8.index t 0 = 0 ∧ win0_8.index t 1 = 0 := by decide +kernel
theorem index_wq : ∀ t : Fin grid0.N, win0_9.index t 0 = 0 ∧ win0_9.index t 1 = 0 := by decide +kernel
theorem index_o0 : ∀ t : Fin grid0.N, win0_10.index t 0 = t.val - 1 ∧ win0_10.index t 1 = 0 := by decide +kernel
theorem index_o1 : ∀ t : Fin grid0.N, win0_11.index t 0 = t.val - 1 ∧ win0_11.index t 1 = 0 := by decide +kernel
theorem index_o2 : ∀ t : Fin grid0.N, win0_12.index t 0 = 0 ∧ win0_12.index t 1 = t.val - 1 := by decide +kernel
theorem flush_o0 : ∀ t : Fin grid0.N, win0_10.flush t = true → 0 < t.val := by decide +kernel
theorem flush_o1 : ∀ t : Fin grid0.N, win0_11.flush t = true → 0 < t.val := by decide +kernel
theorem flush_o2 : ∀ t : Fin grid0.N, win0_12.flush t = true → 0 < t.val := by decide +kernel
theorem covers_o0 : win0_10.Covers := by decide +kernel
theorem covers_o1 : win0_11.Covers := by decide +kernel
theorem covers_o2 : win0_12.Covers := by decide +kernel

end Cert.Kernel3Ideal.Body

end
-- ==== Proof.Kernel3Ideal.Value.lean ====
/- The mixing call's results after the run: every row of the first is the mixed row, and the queries are its products with the last weights. -/
module

public import proofs.«01_k».proof.Proof.Kernel3Ideal.Tile
public import proofs.«01_k».proof.Proof.Kernel3Ideal.Geometry
public import Idealize.ShloMosaic.Lib.Pipeline.ValueKit

@[expose] public section

set_option maxRecDepth 16384

noncomputable section

namespace Cert.Kernel3Ideal.Body

open Cert.Kernel3Ideal Cert.Kernel3Ideal.Gen
open Idealize.ShloMosaic Idealize.ShloMosaic.TcCoe Idealize.ShloMosaic.Tactic Idealize.SL.Sem
open Cert.Rows

variable (m : (ℓ : Loc nD τ sig) → Buf (Elt Ideal) ℓ) (ρ : Dev nD → PrngReg)

/-! ## The arguments at coordinates -/

def inputs (c : Dev nD) (b : Fin 16) (i : Fin 4096) (d : Fin 1024) : EReal := (m ((c : Thread nD τ).loc main_arg0) : Vec Ideal S16x4096x1024 .f32) (ix3 b i d)
def embGain (c : Dev nD) (d : Fin 1024) : EReal := (m ((c : Thread nD τ).loc main_arg1) : Vec Ideal S1024 .f32) (ix1 d)
def embOffset (c : Dev nD) (d : Fin 1024) : EReal := (m ((c : Thread nD τ).loc main_arg2) : Vec Ideal S1024 .f32) (ix1 d)
def attention (c : Dev nD) (r : Fin 65536) (k : Fin 512) : EReal := (m ((c : Thread nD τ).loc main_arg3) : Vec Ideal S65536x512 .bf16) (ix2 r k)
def hyena (c : Dev nD) (k : Fin 512) (r : Fin 65536) : EReal := (m ((c : Thread nD τ).loc main_arg4) : Vec Ideal S512x65536 .bf16) (ix2 k r)
def hyenaGain (c : Dev nD) (k : Fin 512) : EReal := (m ((c : Thread nD τ).loc main_arg5) : Vec Ideal S1x512 .f32) (ix2 0 k)
def outWeight (c : Dev nD) (k d : Fin 1024) : EReal := (m ((c : Thread nD τ).loc main_arg6) : Vec Ideal S1x1024x1024 .f32) (ix3 0 k d)
def mixGain (c : Dev nD) (d : Fin 1024) : EReal := (m ((c : Thread nD τ).loc main_arg7) : Vec Ideal S1x1024 .f32) (ix2 0 d)
def mixOffset (c : Dev nD) (d : Fin 1024) : EReal := (m ((c : Thread nD τ).loc main_arg8) : Vec Ideal S1x1024 .f32) (ix2 0 d)
def queryWeight (c : Dev nD) (d e : Fin 1024) : EReal := (m ((c : Thread nD τ).loc main_arg9) : Vec Ideal S1x1024x1024 .f32) (ix3 0 d e)

/-- The mixed row of the arguments. -/
def mixedOf (c : Dev nD) (r : Fin 65536) (d : Fin 1024) : EReal :=
  mixedAt (inputs m c) (embGain m c) (embOffset m c) (attention m c) (hyena m c) (hyenaGain m c) (outWeight m c) (mixGain m c) (mixOffset m c)
    ⟨r / 4096, by omega⟩ ⟨r % 4096, by omega⟩ d

def result0 (c : Dev nD) : Buf (Elt Ideal) ((c : Thread nD τ).loc main_v14_0) :=
  (fun i : S65536x1024.Idx => (mixedOf m c (i 0) (i 1) : EReal) : Vec Ideal S65536x1024 .f32)

def result1 (c : Dev nD) : Buf (Elt Ideal) ((c : Thread nD τ).loc main_v14_1) :=
  (fun i : S65536x1024.Idx => (mixedOf m c (i 0) (i 1) : EReal) : Vec Ideal S65536x1024 .bf16)

def result2 (c : Dev nD) : Buf (Elt Ideal) ((c : Thread nD τ).loc main_v14_2) :=
  (fun i : S1024x65536.Idx => (∑ d : Fin 1024, mixedOf m c (i 1) d * queryWeight m c d (i 0) : EReal) : Vec Ideal S1024x65536 .bf16)

/-! ## The blocks at coordinates -/

section Blocks

variable (c : Dev nD) (n : ℕ)

theorem blk_x (hn : n < 256) (h : n + 1 < cfg0.N) (r : Fin 256) (d : Fin 1024) :
    ((iblk m c 0 ⟨n + 1, h⟩ : Vec Ideal S256x1024 .f32) (ix2 r d) : EReal) = inputs m c ⟨n / 16, by omega⟩ ⟨n % 16 * 256 + r, by omega⟩ d := by
  have e0 : win0_0.index ⟨n + 1, h⟩ 0 = n := (index_x ⟨n + 1, h⟩).1
  have e1 : win0_0.index ⟨n + 1, h⟩ 1 = 0 := (index_x ⟨n + 1, h⟩).2
  unfold inputs
  refine (congrArg (V m c main_v0 : Vec Ideal S65536x1024 .f32) (show (win0_0.blk ⟨n + 1, h⟩).view.emb (ix2 r d) = ix2 ⟨n * 256 + r, by omega⟩ d by
    blk_ext [e0, e1])).trans ?_
  entry_read
  pointwise
  exact congrArg₂ (fun b i => (m ((c : Thread nD τ).loc main_arg0) : Vec Ideal S16x4096x1024 .f32) (ix3 b i d)) (Fin.ext (by simp only []; omega))
    (Fin.ext (by simp only []; omega))

theorem blk_a (hn : n < 256) (h : n < cfg0.N) (r : Fin 256) (k : Fin 512) :
    ((iblk m c 3 ⟨n, h⟩ : Vec Ideal S256x512 .bf16) (ix2 r k) : EReal) = attention m c ⟨n * 256 + r, by omega⟩ k := by
  have e0 : win0_3.index ⟨n, h⟩ 0 = n := (index_a ⟨n, h⟩ hn).1
  have e1 : win0_3.index ⟨n, h⟩ 1 = 0 := (index_a ⟨n, h⟩ hn).2
  unfold attention
  blk_ext [iblk, e0, e1]

theorem blk_y (hn : n < 256) (h : n < cfg0.N) (k : Fin 512) (r : Fin 256) :
    ((iblk m c 4 ⟨n, h⟩ : Vec Ideal S512x256 .bf16) (ix2 k r) : EReal) = hyena m c k ⟨(n % 16 * 16 + n / 16) * 256 + r, by omega⟩ := by
  have e0 : win0_4.index ⟨n, h⟩ 0 = 0 := (index_y ⟨n, h⟩ hn).1
  have e1 : win0_4.index ⟨n, h⟩ 1 = n % 16 * 16 + n / 16 := (index_y ⟨n, h⟩ hn).2
  unfold hyena
  blk_ext [iblk, e0, e1]

theorem blk_lg (t : Fin cfg0.N) (d : Fin 1024) : ((iblk m c 1 t : Vec Ideal S1x1024 .f32) (ix2 0 d) : EReal) = embGain m c d := by
  unfold embGain
  refine (congrArg (V m c main_v1 : Vec Ideal S1x1024 .f32) (show (win0_1.blk t).view.emb (ix2 0 d) = ix2 0 d by
    blk_ext [(index_lg t).1, (index_lg t).2])).trans ?_
  entry_read
  pointwise
theorem blk_lb (t : Fin cfg0.N) (d : Fin 1024) : ((iblk m c 2 t : Vec Ideal S1x1024 .f32) (ix2 0 d) : EReal) = embOffset m c d := by
  unfold embOffset
  refine (congrArg (V m c main_v2 : Vec Ideal S1x1024 .f32) (show (win0_2.blk t).view.emb (ix2 0 d) = ix2 0 d by
    blk_ext [(index_lb t).1, (index_lb t).2])).trans ?_
  entry_read
  pointwise
theorem blk_hg (t : Fin cfg0.N) (k : Fin 512) : ((iblk m c 5 t : Vec Ideal S1x512 .f32) (ix2 0 k) : EReal) = hyenaGain m c k := by
  unfold hyenaGain
  refine (congrArg (V m c main_v4 : Vec Ideal S1x512 .f32) (show (win0_5.blk t).view.emb (ix2 0 k) = ix2 0 k by
    blk_ext [(index_hg t).1, (index_hg t).2])).trans ?_
  entry_read
  pointwise
theorem blk_wo (t : Fin cfg0.N) (k d : Fin 1024) : ((iblk m c 6 t : Vec Ideal S1024x1024 .bf16) (ix2 k d) : EReal) = outWeight m c k d := by
  unfold outWeight
  refine (congrArg (V m c main_v6 : Vec Ideal S1024x1024 .bf16) (show (win0_6.blk t).view.emb (ix2 k d) = ix2 k d by
    blk_ext [(index_wo t).1, (index_wo t).2])).trans ?_
  entry_read
  pointwise
theorem blk_mg (t : Fin cfg0.N) (d : Fin 1024) : ((iblk m c 7 t : Vec Ideal S1x1024 .f32) (ix2 0 d) : EReal) = mixGain m c d := by
  unfold mixGain
  refine (congrArg (V m c main_v8 : Vec Ideal S1x1024 .f32) (show (win0_7.blk t).view.emb (ix2 0 d) = ix2 0 d by
    blk_ext [(index_mg t).1, (index_mg t).2])).trans ?_
  entry_read
  pointwise
theorem blk_mb (t : Fin cfg0.N) (d : Fin 1024) : ((iblk m c 8 t : Vec Ideal S1x1024 .f32) (ix2 0 d) : EReal) = mixOffset m c d := by
  unfold mixOffset
  refine (congrArg (V m c main_v10 : Vec Ideal S1x1024 .f32) (show (win0_8.blk t).view.emb (ix2 0 d) = ix2 0 d by
    blk_ext [(index_mb t).1, (index_mb t).2])).trans ?_
  entry_read
  pointwise
theorem blk_wq (t : Fin cfg0.N) (e d : Fin 1024) : ((iblk m c 9 t : Vec Ideal S1024x1024 .bf16) (ix2 e d) : EReal) = queryWeight m c d e := by
  unfold queryWeight
  refine (congrArg (V m c main_v13 : Vec Ideal S1024x1024 .bf16) (show (win0_9.blk t).view.emb (ix2 e d) = ix2 e d by
    blk_ext [(index_wq t).1, (index_wq t).2])).trans ?_
  entry_read
  pointwise

/-- What the point after `n` writes: a tile over the rows that point `n` gathered, its rounding, and its queries. -/
theorem written (hn : n < 256) (h : n + 1 < cfg0.N) : ∃ s : Vec Ideal S256x1024 .bf16,
    (∀ r k, (s (ix2 r k) : EReal) = rows m c ⟨n, Nat.lt_of_succ_lt h⟩ r k)
    ∧ (outsAt0 m c (n + 1) h).1 = tileAt m c ⟨n + 1, h⟩ s
    ∧ (outsAt0 m c (n + 1) h).2.1 = truncf (F := Ideal) (φ := .f32) .bf16 (outsAt0 m c (n + 1) h).1 bitsLt_bf16_f32
    ∧ (outsAt0 m c (n + 1) h).2.2.1 = askedTile (iblk m c 9 ⟨n + 1, h⟩) (outsAt0 m c (n + 1) h).1 := by
  have h0 : ¬(n + 1) % 257 = 0 := by omega
  by_cases hp : (n + 1) % 2 = 1
  · refine ⟨(outsAt0 m c n (Nat.lt_of_succ_lt h)).2.2.2.1, fun r k => ?_, written_B m c ⟨n + 1, h⟩ h0 (by simp only []; omega) hp⟩
    by_cases hz : n = 0
    · exact filled_A m c ⟨n, Nat.lt_of_succ_lt h⟩ (by simp only []; omega) (by simp only []; omega) (by simp only []; omega) r k
    · exact filled_C m c ⟨n, Nat.lt_of_succ_lt h⟩ (by simp only []; omega) (by simp only []; omega) (by simp only []; omega) r k
  · refine ⟨(outsAt0 m c n (Nat.lt_of_succ_lt h)).2.2.2.2, fun r k => ?_, written_C m c ⟨n + 1, h⟩ h0 (by simp only []; omega) hp⟩
    exact filled_B m c ⟨n, Nat.lt_of_succ_lt h⟩ (by simp only []; omega) (by simp only []; omega) (by simp only []; omega) r k

theorem rows_eq (hn : n < 256) (h : n < cfg0.N) (r : Fin 256) :
    rows m c ⟨n, h⟩ r = heads (attention m c ⟨n * 256 + r, by omega⟩)
      (fun k => hyena m c k ⟨(n % 16 * 16 + n / 16) * 256 + r, by omega⟩) (hyenaGain m c) := by
  funext k
  unfold rows
  simp only [blk_a m c n hn h, blk_y m c n hn h, blk_hg]

theorem mixedOf_at (hn : n < 256) (r : Fin 256) (d : Fin 1024) :
    mixedOf m c ⟨n * 256 + r, by omega⟩ d = mixed (inputs m c ⟨n / 16, by omega⟩ ⟨n % 16 * 256 + r, by omega⟩) (embGain m c) (embOffset m c)
      (heads (attention m c ⟨n * 256 + r, by omega⟩) (fun k => hyena m c k ⟨(n % 16 * 16 + n / 16) * 256 + r, by omega⟩) (hyenaGain m c))
      (outWeight m c) (mixGain m c) (mixOffset m c) d := by
  have e1 : (n * 256 + r.val) / 4096 = n / 16 := by omega
  have e2 : (n * 256 + r.val) % 4096 = n % 16 * 256 + r.val := by omega
  have e3 : n / 16 * 4096 + (n % 16 * 256 + r.val) = n * 256 + r.val := by omega
  have e4 : (n % 16 * 256 + r.val) / 256 * 4096 + n / 16 * 256 + (n % 16 * 256 + r.val) % 256 = (n % 16 * 16 + n / 16) * 256 + r.val := by omega
  unfold mixedOf mixedAt
  simp only [e1, e2, e3, e4]

theorem tile_eq (hn : n < 256) (h : n + 1 < cfg0.N) (r : Fin 256) (d : Fin 1024) :
    ((outsAt0 m c (n + 1) h).1 (ix2 r d) : EReal) = mixedOf m c ⟨n * 256 + r, by omega⟩ d := by
  obtain ⟨s, hs, h1, -, -⟩ := written m c n hn h
  rw [h1, mixedOf_at m c n hn r d, ← rows_eq m c n hn (Nat.lt_of_succ_lt h) r]
  unfold tileAt
  rw [tile_apply]
  simp only [blk_x m c n hn h, blk_lg, blk_lb, blk_wo, blk_mg, blk_mb, hs]

theorem rounded_eq (hn : n < 256) (h : n + 1 < cfg0.N) (r : Fin 256) (d : Fin 1024) :
    ((outsAt0 m c (n + 1) h).2.1 (ix2 r d) : EReal) = mixedOf m c ⟨n * 256 + r, by omega⟩ d := by
  obtain ⟨s, hs, -, h2, -⟩ := written m c n hn h
  rw [h2]
  exact tile_eq m c n hn h r d

theorem asked_eq (hn : n < 256) (h : n + 1 < cfg0.N) (e : Fin 1024) (r : Fin 256) :
    ((outsAt0 m c (n + 1) h).2.2.1 (ix2 e r) : EReal) = ∑ d : Fin 1024, mixedOf m c ⟨n * 256 + r, by omega⟩ d * queryWeight m c d e := by
  obtain ⟨s, hs, -, -, h3⟩ := written m c n hn h
  rw [h3, askedTile_apply]
  refine Finset.sum_congr rfl fun d _ => ?_
  rw [tile_eq m c n hn h r d, blk_wq]
  exact mul_comm _ _

end Blocks

/-! ## The arrays after the run -/

theorem arr0_eq (c : Dev nD) : (dats m 0 c).arrAt 10 cfg0.N = result0 m c := by
  refine (dats m 0 c).arrAt_eq_of_covers 10 _ covers_o0 fun t hf y => ?_
  have h0 := flush_o0 t hf
  obtain ⟨n, hn⟩ : ∃ n, t.val = n + 1 := ⟨t.val - 1, by omega⟩
  obtain ⟨t, ht⟩ := t
  subst hn
  have hN : n + 1 < 257 := lt_of_lt_of_eq ht N_0
  have e0 : win0_10.index ⟨n + 1, ht⟩ 0 = n := (index_o0 ⟨n + 1, ht⟩).1
  have e1 : win0_10.index ⟨n + 1, ht⟩ 1 = 0 := (index_o0 ⟨n + 1, ht⟩).2
  blk_simp
  rw [after0_10]
  obtain ⟨r, x, rfl⟩ : ∃ (r : Fin 256) (x : Fin 1024), y = ix2 r x := ⟨y 0, y 1, eq_ix2 y⟩
  refine (tile_eq m c n (by omega) ht r x).trans ?_
  unfold result0
  refine congrArg₂ _ (Fin.ext ?_) (Fin.ext ?_)
  · blk_simp [e0]
  · blk_simp [e1]

theorem arr1_eq (c : Dev nD) : (dats m 0 c).arrAt 11 cfg0.N = result1 m c := by
  refine (dats m 0 c).arrAt_eq_of_covers 11 _ covers_o1 fun t hf y => ?_
  have h0 := flush_o1 t hf
  obtain ⟨n, hn⟩ : ∃ n, t.val = n + 1 := ⟨t.val - 1, by omega⟩
  obtain ⟨t, ht⟩ := t
  subst hn
  have hN : n + 1 < 257 := lt_of_lt_of_eq ht N_0
  have e0 : win0_11.index ⟨n + 1, ht⟩ 0 = n := (index_o1 ⟨n + 1, ht⟩).1
  have e1 : win0_11.index ⟨n + 1, ht⟩ 1 = 0 := (index_o1 ⟨n + 1, ht⟩).2
  blk_simp
  rw [after0_11]
  obtain ⟨r, x, rfl⟩ : ∃ (r : Fin 256) (x : Fin 1024), y = ix2 r x := ⟨y 0, y 1, eq_ix2 y⟩
  refine (rounded_eq m c n (by omega) ht r x).trans ?_
  unfold result1
  refine congrArg₂ _ (Fin.ext ?_) (Fin.ext ?_)
  · blk_simp [e0]
  · blk_simp [e1]

theorem arr2_eq (c : Dev nD) : (dats m 0 c).arrAt 12 cfg0.N = result2 m c := by
  refine (dats m 0 c).arrAt_eq_of_covers 12 _ covers_o2 fun t hf y => ?_
  have h0 := flush_o2 t hf
  obtain ⟨n, hn⟩ : ∃ n, t.val = n + 1 := ⟨t.val - 1, by omega⟩
  obtain ⟨t, ht⟩ := t
  subst hn
  have hN : n + 1 < 257 := lt_of_lt_of_eq ht N_0
  have e0 : win0_12.index ⟨n + 1, ht⟩ 0 = 0 := (index_o2 ⟨n + 1, ht⟩).1
  have e1 : win0_12.index ⟨n + 1, ht⟩ 1 = n := (index_o2 ⟨n + 1, ht⟩).2
  blk_simp
  rw [after0_12]
  obtain ⟨e, r, rfl⟩ : ∃ (e : Fin 1024) (r : Fin 256), y = ix2 e r := ⟨y 0, y 1, eq_ix2 y⟩
  refine (asked_eq m c n (by omega) ht e r).trans ?_
  unfold result2
  refine congrArg₂ (fun e r => (∑ d : Fin 1024, mixedOf m c r d * queryWeight m c d e : EReal)) (Fin.ext ?_) (Fin.ext ?_)
  · blk_simp [e0]
  · blk_simp [e1]

theorem run_result : θ_run defs (onTc (τ := τ) (main (F := Ideal))) ⟨m, fun _ => 0, ρ⟩ fun r => ∀ c : Dev nD,
      r.2.mem ((c.tc : Thread nD τ).loc main_v14_0) = result0 m c
      ∧ r.2.mem ((c.tc : Thread nD τ).loc main_v14_1) = result1 m c
      ∧ r.2.mem ((c.tc : Thread nD τ).loc main_v14_2) = result2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(h c).1.trans (arr0_eq m c), (h c).2.1.trans (arr1_eq m c), (h c).2.2.1.trans (arr2_eq m c), (h c).2.2.2⟩)
    (Cert.Kernel3Ideal.Value.run_blocks m ρ)

end Cert.Kernel3Ideal.Body

end
-- ==== Proof.Reference3Ideal.Stages.lean ====
/- The reference of the mixing call read element by element: its printed terms cut in stages, each read at an index. -/
module

public import proofs.«01_k».proof.Proof.Gen.Reference3Ideal.Run
public import proofs.«01_k».proof.Proof.Rows
public import Idealize.ShloMosaic.Lib.Pointwise

@[expose] public section

set_option maxRecDepth 16384

noncomputable section

namespace Cert.Reference3Ideal.Stages

open Cert.Reference3Ideal Cert.Reference3Ideal.Gen
open Idealize.ShloMosaic Idealize.ShloMosaic.TcCoe Idealize.ShloMosaic.Tactic
open Cert.Rows

variable {F : FTy → Type} [FloatOps F]

/-- The Hyena outputs by batch, position, group and channel. -/
def groups (yt : FVec F S512x65536 .bf16) : FVec F S16x4096x8x64 .f32 :=
  shapeCast _ (transpose S16x16x256x512 [2, 1, 3, 0] (shapeCast _ (extf .f32 yt bitsLt_bf16_f32) shapeCasts_S512x65536_S512x16x16x256)
    transposes_S512x16x16x256_S16x16x256x512_2_1_3_0) shapeCasts_S16x16x256x512_S16x4096x8x64

/-- The root-mean-square norm of every group, times the gains. -/
def normGroups (y : FVec F S16x4096x8x64 .f32) (g : FVec F S1x512 .f32) : FVec F S16x4096x512 .f32 :=
  shapeCast _ (mulf (mulf y (broadcastInDim S16x4096x8x64 ![0, 1, 2, 3] bcast_S16x4096x8x1_S16x4096x8x64_0_1_2_3
      (Host.rsqrt (addf (Host.divf (broadcastInDim S16x4096x8x1 ![0, 1, 2] bcast_S16x4096x8_S16x4096x8x1_0_1_2
          (Host.reduceAdd (mulf y y) (constant S_ .f32 0x00000000#32) reducesTo_S16x4096x8x64_S16x4096x8_d3 h_S_))
        (broadcastInDim S16x4096x8x1 ![] bcast_S_S16x4096x8x1 (constant S_ .f32 0x42800000#32)))
        (broadcastInDim S16x4096x8x1 ![] bcast_S_S16x4096x8x1 (constant S_ .f32 0x358637BD#32))))))
    (broadcastInDim S16x4096x8x64 ![0, 1, 2, 3] bcast_S1x1x8x64_S16x4096x8x64_0_1_2_3
      (broadcastInDim S1x1x8x64 ![2, 3] bcast_S8x64_S1x1x8x64_2_3 (shapeCast _ (shapeCast _ g shapeCasts_S1x512_S512) shapeCasts_S512_S8x64))))
    shapeCasts_S16x4096x8x64_S16x4096x512

/-- The mean of every position's row. -/
def means (x : FVec F S16x4096x1024 .f32) : FVec F S16x4096x1 .f32 :=
  Host.divf (broadcastInDim S16x4096x1 ![0, 1] bcast_S16x4096_S16x4096x1_0_1
    (Host.reduceAdd x (constant S_ .f32 0x00000000#32) reducesTo_S16x4096x1024_S16x4096_d2 h_S_))
    (broadcastInDim S16x4096x1 ![] bcast_S_S16x4096x1 (constant S_ .f32 0x44800000#32))

/-- Every row less its mean. -/
def centred (x : FVec F S16x4096x1024 .f32) : FVec F S16x4096x1024 .f32 :=
  subf x (broadcastInDim S16x4096x1024 ![0, 1, 2] bcast_S16x4096x1_S16x4096x1024_0_1_2 (means x))

/-- The layer norm of every position's row. -/
def layer (x : FVec F S16x4096x1024 .f32) (g b : FVec F S1024 .f32) : FVec F S16x4096x1024 .f32 :=
  addf (mulf (mulf (centred x) (broadcastInDim S16x4096x1024 ![0, 1, 2] bcast_S16x4096x1_S16x4096x1024_0_1_2
      (Host.rsqrt (addf (means (mulf (centred x) (centred x)))
        (broadcastInDim S16x4096x1 ![] bcast_S_S16x4096x1 (constant S_ .f32 0x3727C5AC#32))))))
    (broadcastInDim S16x4096x1024 ![0, 1, 2] bcast_S1x1x1024_S16x4096x1024_0_1_2 (broadcastInDim S1x1x1024 ![2] bcast_S1024_S1x1x1024_2 g)))
    (broadcastInDim S16x4096x1024 ![0, 1, 2] bcast_S1x1x1024_S16x4096x1024_0_1_2 (broadcastInDim S1x1x1024 ![2] bcast_S1024_S1x1x1024_2 b))

/-- The two head groups side by side. -/
def joined (a : FVec F S65536x512 .bf16) (y : FVec F S16x4096x512 .f32) : FVec F S16x4096x1024 .f32 :=
  concatenate S16x4096x1024 2 [⟨S16x4096x512, (shapeCast _ (extf .f32 a bitsLt_bf16_f32) shapeCasts_S65536x512_S16x4096x512)⟩,
    ⟨S16x4096x512, y⟩] concatenates_S16x4096x512_S16x4096x512_S16x4096x1024_d2

/-- The scaled normalised input plus the projected head groups. -/
def added (h cat : FVec F S16x4096x1024 .f32) (wo : FVec F S1x1024x1024 .f32) : FVec F S16x4096x1024 .f32 :=
  addf (mulf (broadcastInDim S16x4096x1024 ![] bcast_S_S16x4096x1024 (constant S_ .f32 0x3F9837F0#32)) h)
    (Host.dotGeneral dot_S16x4096x1024_S1024x1024_S16x4096x1024_2_0_01_1_n_n none cat (shapeCast _ wo shapeCasts_S1x1024x1024_S1024x1024))

/-- The first result, by row. -/
def stream (h : FVec F S16x4096x1024 .f32) : FVec F S65536x1024 .f32 := shapeCast _ h shapeCasts_S16x4096x1024_S65536x1024

/-- The last result: the queries by channel. -/
def asked (h : FVec F S65536x1024 .f32) (wq : FVec F S1x1024x1024 .f32) : FVec F S1024x65536 .bf16 :=
  truncf .bf16 (transpose S1024x65536 [1, 0] (Host.dotGeneral dot_S65536x1024_S1024x1024_S65536x1024_1_0_0_1_n_n none h
    (shapeCast _ wq shapeCasts_S1x1024x1024_S1024x1024)) transposes_S65536x1024_S1024x65536_1_0) bitsLt_bf16_f32

/-- The first result from the arguments. -/
def result (x : FVec F S16x4096x1024 .f32) (lg lb : FVec F S1024 .f32) (a : FVec F S65536x512 .bf16) (yt : FVec F S512x65536 .bf16)
    (hg : FVec F S1x512 .f32) (wo : FVec F S1x1024x1024 .f32) (mg mb : FVec F S1x1024 .f32) : FVec F S65536x1024 .f32 :=
  stream (layer (added (layer x lg lb) (joined a (normGroups (groups yt) hg)) wo) (shapeCast _ mg shapeCasts_S1x1024_S1024)
    (shapeCast _ mb shapeCasts_S1x1024_S1024))

section Printed

variable (m : (ℓ : Loc nD τ sig) → Buf (Elt F) ℓ) (c : Dev nD)

/-- The first result from a device's memory. -/
def fromMemory : FVec F S65536x1024 .f32 :=
  result (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))

theorem res0_eq : Cert.Reference3Ideal.Value.res_out0 m c = fromMemory m c := rfl
theorem res1_eq : Cert.Reference3Ideal.Value.res_out1 m c = truncf .bf16 (fromMemory m c) bitsLt_bf16_f32 := rfl
theorem res2_eq : Cert.Reference3Ideal.Value.res_out2 m c = asked (fromMemory m c) (m ((c.tc : Thread nD τ).loc main_arg9)) := rfl

end Printed

theorem groups_apply (yt : FVec Ideal S512x65536 .bf16) (b : Fin 16) (i : Fin 4096) (g : Fin 8) (e : Fin 64) :
    (groups yt (ix4 b i g e) : EReal) = yt (ix2 ⟨g * 64 + e, by omega⟩ ⟨i / 256 * 4096 + b * 256 + i % 256, by omega⟩) := by
  pointwise [groups]

theorem normGroups_apply (y : FVec Ideal S16x4096x8x64 .f32) (w : FVec Ideal S1x512 .f32) (b : Fin 16) (i : Fin 4096) (g : Fin 8) (e : Fin 64) :
    (normGroups y w (ix3 b i ⟨g * 64 + e, by omega⟩) : EReal)
      = rmsNorm (Ideal.ofBits FTy.f32 0x42800000#32) (fun e => y (ix4 b i g e)) (fun e => w (ix2 0 ⟨g * 64 + e, by omega⟩)) e := by
  pointwise [normGroups, rmsNorm]

theorem means_apply (x : FVec Ideal S16x4096x1024 .f32) (b : Fin 16) (i : Fin 4096) :
    (means x (ix3 b i 0) : EReal) = mean fun d => x (ix3 b i d) := by
  pointwise [means, mean]

theorem centred_apply (x : FVec Ideal S16x4096x1024 .f32) (b : Fin 16) (i : Fin 4096) (d : Fin 1024) :
    (centred x (ix3 b i d) : EReal) = x (ix3 b i d) - mean fun d => x (ix3 b i d) := by
  rw [← means_apply]
  pointwise [centred]

theorem layer_apply (x : FVec Ideal S16x4096x1024 .f32) (g o : FVec Ideal S1024 .f32) (b : Fin 16) (i : Fin 4096) (d : Fin 1024) :
    (layer x g o (ix3 b i d) : EReal) = layerNorm (fun d => x (ix3 b i d)) (fun d => g (ix1 d)) (fun d => o (ix1 d)) d := by
  have h : (layer x g o (ix3 b i d) : EReal) = centred x (ix3 b i d)
      * Ideal.rsqrt (means (mulf (centred x) (centred x)) (ix3 b i 0) + Ideal.ofBits FTy.f32 0x3727C5AC#32 : EReal) * g (ix1 d) + o (ix1 d) := by
    pointwise [layer]
  have hm : ∀ d, ((mulf (centred x) (centred x)) (ix3 b i d) : EReal) = centred x (ix3 b i d) * centred x (ix3 b i d) := fun _ => rfl
  rw [h, means_apply]
  simp only [hm, centred_apply]
  rfl

theorem joined_apply (a : FVec Ideal S65536x512 .bf16) (y : FVec Ideal S16x4096x512 .f32) (b : Fin 16) (i : Fin 4096) (k : Fin 1024) :
    (joined a y (ix3 b i k) : EReal) = if h : k.val < 512 then a (ix2 ⟨b * 4096 + i, by omega⟩ ⟨k, h⟩) else y (ix3 b i ⟨k - 512, by omega⟩) := by
  pointwise [joined]

theorem added_apply (h cat : FVec Ideal S16x4096x1024 .f32) (wo : FVec Ideal S1x1024x1024 .f32) (b : Fin 16) (i : Fin 4096) (d : Fin 1024) :
    (added h cat wo (ix3 b i d) : EReal)
      = Ideal.ofBits FTy.f32 0x3F9837F0#32 * h (ix3 b i d) + ∑ k : Fin 1024, cat (ix3 b i k) * wo (ix3 0 k d) := by
  pointwise [added]

theorem stream_apply (h : FVec Ideal S16x4096x1024 .f32) (b : Fin 16) (i : Fin 4096) (d : Fin 1024) :
    (stream h (ix2 ⟨b * 4096 + i, by omega⟩ d) : EReal) = h (ix3 b i d) := by
  pointwise [stream]

theorem asked_apply (h : FVec Ideal S65536x1024 .f32) (wq : FVec Ideal S1x1024x1024 .f32) (e : Fin 1024) (r : Fin 65536) :
    (asked h wq (ix2 e r) : EReal) = ∑ d : Fin 1024, h (ix2 r d) * wq (ix3 0 d e) := by
  pointwise [asked]

theorem result_apply (x : FVec Ideal S16x4096x1024 .f32) (lg lb : FVec Ideal S1024 .f32) (a : FVec Ideal S65536x512 .bf16)
    (yt : FVec Ideal S512x65536 .bf16) (hg : FVec Ideal S1x512 .f32) (wo : FVec Ideal S1x1024x1024 .f32) (mg mb : FVec Ideal S1x1024 .f32)
    (b : Fin 16) (i : Fin 4096) (d : Fin 1024) :
    (result x lg lb a yt hg wo mg mb (ix2 ⟨b * 4096 + i, by omega⟩ d) : EReal)
      = mixedAt (fun b i d => x (ix3 b i d)) (fun d => lg (ix1 d)) (fun d => lb (ix1 d)) (fun r k => a (ix2 r k)) (fun k r => yt (ix2 k r))
          (fun k => hg (ix2 0 k)) (fun k d => wo (ix3 0 k d)) (fun d => mg (ix2 0 d)) (fun d => mb (ix2 0 d)) b i d := by
  have hg' : (fun d => (shapeCast (α := Ideal .f32) S1024 mg shapeCasts_S1x1024_S1024 (ix1 d) : EReal)) = fun d => mg (ix2 0 d) := by
    funext d; pointwise
  have hb' : (fun d => (shapeCast (α := Ideal .f32) S1024 mb shapeCasts_S1x1024_S1024 (ix1 d) : EReal)) = fun d => mb (ix2 0 d) := by
    funext d; pointwise
  have hj : (fun k => (joined a (normGroups (groups yt) hg) (ix3 b i k) : EReal))
      = heads (fun k => a (ix2 ⟨b * 4096 + i, by omega⟩ k)) (fun k => yt (ix2 k ⟨i / 256 * 4096 + b * 256 + i % 256, by omega⟩)) (fun k => hg (ix2 0 k)) := by
    funext k
    rw [joined_apply]
    unfold heads
    split
    · rfl
    · rename_i h
      have e : (⟨k - 512, by omega⟩ : Fin 512) = ⟨(⟨(k - 512) / 64, by omega⟩ : Fin 8) * 64 + (⟨(k - 512) % 64, by omega⟩ : Fin 64), by simp only []; omega⟩ :=
        Fin.ext (by simp only []; omega)
      rw [e, normGroups_apply]
      simp only [groups_apply]
  have ha : (fun d => (added (layer x lg lb) (joined a (normGroups (groups yt) hg)) wo (ix3 b i d) : EReal)) = fun d =>
      Ideal.ofBits FTy.f32 0x3F9837F0#32 * layerNorm (fun d => x (ix3 b i d)) (fun d => lg (ix1 d)) (fun d => lb (ix1 d)) d
        + ∑ k : Fin 1024, heads (fun k => a (ix2 ⟨b * 4096 + i, by omega⟩ k)) (fun k => yt (ix2 k ⟨i / 256 * 4096 + b * 256 + i % 256, by omega⟩))
            (fun k => hg (ix2 0 k)) k * wo (ix3 0 k d) := by
    funext d
    rw [added_apply, layer_apply, ← hj]
  unfold result
  rw [stream_apply, layer_apply, hg', hb', ha]
  rfl

end Cert.Reference3Ideal.Stages

end
-- ==== Proof.Algebraic3.lean ====
/- The mixing call and its reference, both idealized, return the same arrays. -/
module

public import proofs.«01_k».proof.Defs
public import proofs.«01_k».proof.Proof.Gen.Kernel3Ideal
public import proofs.«01_k».proof.Proof.Gen.Reference3Ideal
public import proofs.«01_k».proof.Proof.Gen.Reference3Ideal.Run
public import proofs.«01_k».proof.Proof.Kernel3Ideal.Value
public import proofs.«01_k».proof.Proof.Reference3Ideal.Stages

@[expose] public section

noncomputable section

namespace Cert.Proof

open Idealize.ShloMosaic Idealize.SL.Sem

section

variable (m : (ℓ : Loc Cert.Kernel3Ideal.nD Cert.Kernel3Ideal.τ Cert.Kernel3Ideal.sig) → Buf (Elt Ideal) ℓ)
  (m' : (ℓ : Loc Cert.Reference3Ideal.nD Cert.Reference3Ideal.τ Cert.Reference3Ideal.sig) → Buf (Elt Ideal) ℓ) (c : Dev Cert.Kernel3Ideal.nD)
  (h0 : m' ((c.tc : Thread _ Cert.Reference3Ideal.τ).loc Cert.Reference3Ideal.main_arg0) = m ((c.tc : Thread _ Cert.Kernel3Ideal.τ).loc Cert.Kernel3Ideal.main_arg0))
  (h1 : m' ((c.tc : Thread _ Cert.Reference3Ideal.τ).loc Cert.Reference3Ideal.main_arg1) = m ((c.tc : Thread _ Cert.Kernel3Ideal.τ).loc Cert.Kernel3Ideal.main_arg1))
  (h2 : m' ((c.tc : Thread _ Cert.Reference3Ideal.τ).loc Cert.Reference3Ideal.main_arg2) = m ((c.tc : Thread _ Cert.Kernel3Ideal.τ).loc Cert.Kernel3Ideal.main_arg2))
  (h3 : m' ((c.tc : Thread _ Cert.Reference3Ideal.τ).loc Cert.Reference3Ideal.main_arg3) = m ((c.tc : Thread _ Cert.Kernel3Ideal.τ).loc Cert.Kernel3Ideal.main_arg3))
  (h4 : m' ((c.tc : Thread _ Cert.Reference3Ideal.τ).loc Cert.Reference3Ideal.main_arg4) = m ((c.tc : Thread _ Cert.Kernel3Ideal.τ).loc Cert.Kernel3Ideal.main_arg4))
  (h5 : m' ((c.tc : Thread _ Cert.Reference3Ideal.τ).loc Cert.Reference3Ideal.main_arg5) = m ((c.tc : Thread _ Cert.Kernel3Ideal.τ).loc Cert.Kernel3Ideal.main_arg5))
  (h6 : m' ((c.tc : Thread _ Cert.Reference3Ideal.τ).loc Cert.Reference3Ideal.main_arg6) = m ((c.tc : Thread _ Cert.Kernel3Ideal.τ).loc Cert.Kernel3Ideal.main_arg6))
  (h7 : m' ((c.tc : Thread _ Cert.Reference3Ideal.τ).loc Cert.Reference3Ideal.main_arg7) = m ((c.tc : Thread _ Cert.Kernel3Ideal.τ).loc Cert.Kernel3Ideal.main_arg7))
  (h8 : m' ((c.tc : Thread _ Cert.Reference3Ideal.τ).loc Cert.Reference3Ideal.main_arg8) = m ((c.tc : Thread _ Cert.Kernel3Ideal.τ).loc Cert.Kernel3Ideal.main_arg8))

include h0 h1 h2 h3 h4 h5 h6 h7 h8 in
/-- The reference's first result, on the kernel's arguments, is the mixed row. -/
theorem mixed_reference (r : Fin 65536) (d : Fin 1024) :
    (Cert.Reference3Ideal.Stages.fromMemory (F := Ideal) m' c (ix2 r d) : EReal) = Cert.Kernel3Ideal.Body.mixedOf m c r d := by
  unfold Cert.Reference3Ideal.Stages.fromMemory
  rw [h0, h1, h2, h3, h4, h5, h6, h7, h8]
  have e : r = ⟨(⟨r / 4096, by omega⟩ : Fin 16) * 4096 + (⟨r % 4096, by omega⟩ : Fin 4096), by simp only []; omega⟩ := Fin.ext (by simp only []; omega)
  refine (congrArg (fun r => (Cert.Reference3Ideal.Stages.result (F := Ideal) _ _ _ _ _ _ _ _ _ (ix2 r d) : EReal)) e).trans ?_
  exact Cert.Reference3Ideal.Stages.result_apply _ _ _ _ _ _ _ _ _ _ _ d

end

theorem algebraic3 : Cert.algebraic_Kernel3Ideal_Reference3Ideal := by
  intro m ρ m' ρ' _ hag
  refine ⟨fun c => Cert.Kernel3Ideal.Body.result0 m c, fun c => Cert.Kernel3Ideal.Body.result1 m c, fun c => Cert.Kernel3Ideal.Body.result2 m c,
    Cert.Kernel3Ideal.Body.run_result m ρ, ?_⟩
  refine (θ_run Cert.Reference3Ideal.defs _ _).mono (fun r h c => ?_) (Cert.Reference3Ideal.Value.run (F := Ideal) m' ρ')
  obtain ⟨h0, h1, h2, h3, h4, h5, h6, h7, h8, h9⟩ := hag c
  have hm := mixed_reference m m' c h0 h1 h2 h3 h4 h5 h6 h7 h8
  refine ⟨(h c).1.trans ?_, (h c).2.1.trans ?_, (h c).2.2.1.trans ?_, (h c).2.2.2⟩
  · refine (Cert.Reference3Ideal.Stages.res0_eq m' c).trans (funext fun i => ?_)
    obtain ⟨r, d, rfl⟩ : ∃ (r : Fin 65536) (d : Fin 1024), i = ix2 r d := ⟨i 0, i 1, eq_ix2 i⟩
    exact hm r d
  · refine (Cert.Reference3Ideal.Stages.res1_eq m' c).trans (funext fun i => ?_)
    obtain ⟨r, d, rfl⟩ : ∃ (r : Fin 65536) (d : Fin 1024), i = ix2 r d := ⟨i 0, i 1, eq_ix2 i⟩
    exact hm r d
  · refine (Cert.Reference3Ideal.Stages.res2_eq m' c).trans (funext fun i => ?_)
    obtain ⟨e, r, rfl⟩ : ∃ (e : Fin 1024) (r : Fin 65536), i = ix2 e r := ⟨i 0, i 1, eq_ix2 i⟩
    refine (Cert.Reference3Ideal.Stages.asked_apply _ _ e r).trans ?_
    rw [h9]
    exact Finset.sum_congr rfl fun d _ => congrArg (fun z => z * (m ((c.tc : Thread _ Cert.Kernel3Ideal.τ).loc Cert.Kernel3Ideal.main_arg9) : Vec Ideal Cert.Kernel3Ideal.S1x1024x1024 .f32) (ix3 0 d e)) (hm r d)

end Cert.Proof

end
-- ==== Proof.Projections.lean ====
module

public import proofs.«01_k».proof.Proof.Rows
public import Idealize.ShloMosaic.Lib.Pointwise

@[expose] public section

noncomputable section

namespace Cert.Projections

open Idealize.ShloMosaic Cert.Rows

/-- The rotary angle of a position and a frequency. -/
def angle (i : Fin 4096) (f : Fin 16) : EReal :=
  FloatOps.sitofp (F := Ideal) FTy.f32 (BitVec.ofNat 32 i.val) * Ideal.div 1 (Ideal.pow (Ideal.ofBits FTy.f32 0x461C4000#32)
    (Ideal.div (Ideal.ofBits FTy.f32 0x40000000#32 * FloatOps.sitofp (F := Ideal) FTy.f32 (BitVec.ofNat 32 f.val)) (Ideal.ofBits FTy.f32 0x42000000#32)))

/-- The rotary cosine of a position and a frequency. -/
def cosine (i : Fin 4096) (f : Fin 16) : EReal := Ideal.cos (angle i f)

/-- The rotary sine of a position and a frequency. -/
def sine (i : Fin 4096) (f : Fin 16) : EReal := Ideal.sin (angle i f)

/-- The integer zero as a float. -/
theorem sitofp_zero : (FloatOps.sitofp (F := Ideal) FTy.f32 (0#32) : EReal) = 0 := by
  show (((0#32 : BitVec 32).toInt : ℝ) : EReal) = 0
  simp

/-- What multiplies the queries: the scores' scale times the logarithm of e to the base 2. -/
def scale : EReal := Ideal.ofBits FTy.f32 0x3E16C740#32

/-- A head's query in its slot: the first columns scaled, the next ones rotated and scaled, zeros after them. -/
def querySlot (q : Fin 96 → EReal) (cs sn : Fin 16 → EReal) (e : Fin 128) : EReal :=
  if h : e.val < 64 then q ⟨e, by omega⟩ * scale
  else if h' : e.val < 80 then (q ⟨e, by omega⟩ * cs ⟨e - 64, by omega⟩ - q ⟨e + 16, by omega⟩ * sn ⟨e - 64, by omega⟩) * scale
  else if h'' : e.val < 96 then (q ⟨e - 16, by omega⟩ * sn ⟨e - 80, by omega⟩ + q ⟨e, by omega⟩ * cs ⟨e - 80, by omega⟩) * scale
  else 0

/-- A head's key in its slot: its own columns, the shared columns rotated, zeros after them. -/
def keySlot (n : Fin 64 → EReal) (k : Fin 32 → EReal) (cs sn : Fin 16 → EReal) (e : Fin 128) : EReal :=
  if h : e.val < 64 then n ⟨e, h⟩
  else if h' : e.val < 80 then k ⟨e - 64, by omega⟩ * cs ⟨e - 64, by omega⟩ - k ⟨e - 48, by omega⟩ * sn ⟨e - 64, by omega⟩
  else if h'' : e.val < 96 then k ⟨e - 80, by omega⟩ * sn ⟨e - 80, by omega⟩ + k ⟨e - 64, by omega⟩ * cs ⟨e - 80, by omega⟩
  else 0

/-- The short filter of one column over a sequence: the offset, then the position before, the position and the one after,
    with zeros beyond either end. -/
def taps (b : EReal) (w : Fin 3 → EReal) (u : Fin 4096 → EReal) (i : Fin 4096) : EReal :=
  b + (if h : 0 < i.val then u ⟨i - 1, by omega⟩ else 0) * w 0 + u i * w 1 + (if h : i.val + 1 < 4096 then u ⟨i + 1, h⟩ else 0) * w 2

/-! ## One row of a table of the rotation: a number in a head's own columns, then two halves, then zeros -/

/-- Such a row. -/
def lanes (n : EReal) (p s : Fin 16 → EReal) (e : Fin 128) : EReal :=
  if e.val < 64 then n
  else if _h : e.val - 64 < 32 then if h' : e.val - 64 < 16 then p ⟨e - 64, h'⟩ else s ⟨e - 64 - 16, by omega⟩
  else 0

theorem lanes_own (n : EReal) (p s : Fin 16 → EReal) (e : Fin 128) (h : e.val < 64) : lanes n p s e = n := by
  unfold lanes
  rw [if_pos h]

theorem lanes_first (n : EReal) (p s : Fin 16 → EReal) (e : Fin 128) (h : 64 ≤ e.val) (h' : e.val < 80) : lanes n p s e = p ⟨e - 64, by omega⟩ := by
  unfold lanes
  rw [if_neg (by omega), dif_pos (by omega), dif_pos (by omega)]

theorem lanes_second (n : EReal) (p s : Fin 16 → EReal) (e : Fin 128) (h : 80 ≤ e.val) (h' : e.val < 96) : lanes n p s e = s ⟨e - 80, by omega⟩ := by
  unfold lanes
  rw [if_neg (by omega), dif_pos (by omega), dif_neg (by omega)]
  exact congrArg s (Fin.ext (by simp only []; omega))

theorem lanes_none (n : EReal) (p s : Fin 16 → EReal) (e : Fin 128) (h : 96 ≤ e.val) : lanes n p s e = 0 := by
  unfold lanes
  rw [if_neg (by omega), dif_neg (by omega)]

end Cert.Projections

end
-- ==== Proof.Kernel2Ideal.Inputs.lean ====
/- The arguments of the projecting call at coordinates, and the operands that are arguments in another shape. -/
module

public import proofs.«01_k».proof.Proof.Kernel2Ideal.Frame
public import proofs.«01_k».proof.Proof.Projections
public import Idealize.ShloMosaic.Lib.Pipeline.ValueKit
public import Idealize.ShloMosaic.Lib.StableHlo.ReadAt

@[expose] public section

set_option maxRecDepth 16384

noncomputable section

namespace Cert.Kernel2Ideal.Body

open Cert.Kernel2Ideal Cert.Kernel2Ideal.Gen
open Idealize.ShloMosaic Idealize.ShloMosaic.TcCoe Idealize.ShloMosaic.Tactic Idealize.SL.Sem

open Cert.Rows Cert.Projections

variable (m : (ℓ : Loc nD τ sig) → Buf (Elt Ideal) ℓ) (c : Dev nD)

/-! ## The arguments at coordinates -/

def inputs (b : Fin 16) (i : Fin 4096) (d : Fin 1024) : EReal := (m ((c : Thread nD τ).loc main_arg0) : Vec Ideal S16x4096x1024 .f32) (ix3 b i d)
def embGain (d : Fin 1024) : EReal := (m ((c : Thread nD τ).loc main_arg1) : Vec Ideal S1024 .f32) (ix1 d)
def embOffset (d : Fin 1024) : EReal := (m ((c : Thread nD τ).loc main_arg2) : Vec Ideal S1024 .f32) (ix1 d)
def inWeight (d : Fin 1024) (k : Fin 1952) : EReal := (m ((c : Thread nD τ).loc main_arg3) : Vec Ideal S1x1024x1952 .f32) (ix3 0 d k)
def queryGain (k : Fin 256) : EReal := (m ((c : Thread nD τ).loc main_arg4) : Vec Ideal S1x256 .f32) (ix2 0 k)
def queryWeight (k : Fin 256) (e : Fin 768) : EReal := (m ((c : Thread nD τ).loc main_arg5) : Vec Ideal S1x256x768 .f32) (ix3 0 k e)
def keyGain (k : Fin 128) : EReal := (m ((c : Thread nD τ).loc main_arg6) : Vec Ideal S1x128 .f32) (ix2 0 k)
def keyWeight (k : Fin 128) (e : Fin 1024) : EReal := (m ((c : Thread nD τ).loc main_arg7) : Vec Ideal S1x128x1024 .f32) (ix3 0 k e)
def tapWeight (t : Fin 3) (k : Fin 1536) : EReal := (m ((c : Thread nD τ).loc main_arg8) : Vec Ideal S1x3x1536 .f32) (ix3 0 t k)
def tapOffset (k : Fin 1536) : EReal := (m ((c : Thread nD τ).loc main_arg9) : Vec Ideal S1x1536 .f32) (ix2 0 k)

/-! ## The operands that are arguments in another shape -/

theorem op_x (n : Fin 65536) (d : Fin 1024) : ((V m c main_v0 : Vec Ideal S65536x1024 .f32) (ix2 n d) : EReal)
    = inputs m c ⟨n / 4096, by omega⟩ ⟨n % 4096, by omega⟩ d := by
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_reads_at
  rfl

theorem op_lg (d : Fin 1024) : ((V m c main_v1 : Vec Ideal S1x1024 .f32) (ix2 0 d) : EReal) = embGain m c d := by
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_reads_at
  rfl

theorem op_lb (d : Fin 1024) : ((V m c main_v2 : Vec Ideal S1x1024 .f32) (ix2 0 d) : EReal) = embOffset m c d := by
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_reads_at
  rfl

theorem op_gq (k : Fin 256) : ((V m c main_v75 : Vec Ideal S1x256 .f32) (ix2 0 k) : EReal) = queryGain m c k := by
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_reads_at
  rfl

theorem op_gkv (k : Fin 128) : ((V m c main_v77 : Vec Ideal S1x128 .f32) (ix2 0 k) : EReal) = keyGain m c k := by
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_reads_at
  rfl

theorem op_cw (t : Fin 3) (k : Fin 1536) : ((V m c main_v78 : Vec Ideal S3x1536 .f32) (ix2 t k) : EReal) = tapWeight m c t k := by
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_reads_at
  rfl

theorem op_cb (k : Fin 1536) : ((V m c main_v80 : Vec Ideal S1x1536 .f32) (ix2 0 k) : EReal) = tapOffset m c k := by
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_reads_at
  rfl

end Cert.Kernel2Ideal.Body

end
-- ==== Proof.Kernel2Ideal.Operands.lean ====
/- The operands that the host leaves for the projection call, at coordinates. -/
module

public import proofs.«01_k».proof.Proof.Kernel2Ideal.Inputs

@[expose] public section

set_option maxRecDepth 16384

noncomputable section

namespace Cert.Kernel2Ideal.Body

open Cert.Kernel2Ideal Cert.Kernel2Ideal.Gen
open Idealize.ShloMosaic Idealize.ShloMosaic.TcCoe Idealize.ShloMosaic.Tactic Idealize.SL.Sem

open Cert.Rows Cert.Projections

variable (m : (ℓ : Loc nD τ sig) → Buf (Elt Ideal) ℓ) (c : Dev nD)

/-! ## The operands at coordinates -/

set_option maxHeartbeats 1000000 in -- the line of host operations is long
/-- A column of the first projection's weights, the shared columns once as they are and once with their halves exchanged. -/
theorem op_wall (d : Fin 1024) (k : Fin 2176) : ((V m c main_v13 : Vec Ideal S1024x2176 .bf16) (ix2 d k) : EReal)
    = if h : k.val < 384 then inWeight m c d ⟨k, by omega⟩
      else if _h : k.val - 384 < 128 then
        if h : 64 ≤ k.val - 384 ∧ k.val - 384 - 64 < 32 then inWeight m c d ⟨384 + (k - 384 - 64), by omega⟩ else 0
      else if _h : k.val - 384 - 128 < 128 then
        if h : 64 ≤ k.val - 384 - 128 ∧ k.val - 384 - 128 - 64 < 32 then
          if h' : k.val - 384 - 128 - 64 < 16 then inWeight m c d ⟨384 + (16 + (k - 384 - 128 - 64)), by omega⟩
          else inWeight m c d ⟨384 + (k - 384 - 128 - 64 - 16), by omega⟩
        else 0
      else inWeight m c d ⟨416 + (k - 384 - 128 - 128), by omega⟩ := by
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_reads_at
  after_reads_at
  after_reads_at
  unfold inWeight
  split_ifs <;> first | with_reducible exact sitofp_zero | rfl

theorem op_wq (k : Fin 256) (h : Fin 8) (e : Fin 128) (he : e.val < 96) : ((V m c main_v18 : Vec Ideal S256x1024 .bf16) (ix2 k ⟨h * 128 + e, by omega⟩) : EReal)
    = queryWeight m c k ⟨h * 96 + e, by omega⟩ := by
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_reads_at
  unfold queryWeight
  split_ifs <;> first
    | (exfalso; omega)
    | exact congrArg (fun j => (m ((c : Thread nD τ).loc main_arg5) : Vec Ideal S1x256x768 .f32) (ix3 0 k j)) (Fin.ext (by first | (simp only []; omega) | omega))

/-- A column of a head's slot, read through the slices and the padding that leave it with the halves exchanged. -/
theorem turned_column (f : Fin 768 → EReal) (z : EReal) (h : Fin 8) (e : Fin 128) (he : 64 ≤ e.val ∧ e.val < 96) :
    (if h1 : (h.val * 128 + e.val) / 128 < 8 ∧ 64 ≤ (h.val * 128 + e.val) % 128 ∧ (h.val * 128 + e.val) % 128 - 64 < 32 then
        if h2 : (h.val * 128 + e.val) % 128 - 64 < 16 then f ⟨(h.val * 128 + e.val) / 128 * 96 + (64 + (16 + ((h.val * 128 + e.val) % 128 - 64))), by omega⟩
        else f ⟨(h.val * 128 + e.val) / 128 * 96 + (64 + ((h.val * 128 + e.val) % 128 - 64 - 16)), by omega⟩
      else z) = if h' : e.val < 80 then f ⟨h * 96 + e + 16, by omega⟩ else f ⟨h * 96 + e - 16, by omega⟩ := by
  rw [dif_pos (show (h.val * 128 + e.val) / 128 < 8 ∧ 64 ≤ (h.val * 128 + e.val) % 128 ∧ (h.val * 128 + e.val) % 128 - 64 < 32 by omega)]
  by_cases h' : e.val < 80
  · rw [dif_pos (show (h.val * 128 + e.val) % 128 - 64 < 16 by omega), dif_pos h']
    exact congrArg f (Fin.ext (by simp only []; omega))
  · rw [dif_neg (show ¬(h.val * 128 + e.val) % 128 - 64 < 16 by omega), dif_neg h']
    exact congrArg f (Fin.ext (by simp only []; omega))

set_option maxHeartbeats 1000000 in -- the line of host operations is long
theorem op_wqs (k : Fin 256) (h : Fin 8) (e : Fin 128) (he : 64 ≤ e.val ∧ e.val < 96) : ((V m c main_v25 : Vec Ideal S256x1024 .bf16) (ix2 k ⟨h * 128 + e, by omega⟩) : EReal)
    = if h' : e.val < 80 then queryWeight m c k ⟨h * 96 + e + 16, by omega⟩ else queryWeight m c k ⟨h * 96 + e - 16, by omega⟩ := by
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_reads_at
  after_reads_at
  exact turned_column (queryWeight m c k) _ h e he

theorem op_wk (k : Fin 128) (h : Fin 8) (e : Fin 128) : ((V m c main_v31 : Vec Ideal S128x1024 .bf16) (ix2 k ⟨h * 128 + e, by omega⟩) : EReal)
    = if h' : e.val < 64 then keyWeight m c k ⟨h * 128 + e, by omega⟩ else 0 := by
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_reads_at
  unfold keyWeight
  split_ifs <;> first
    | (exfalso; omega)
    | exact congrArg (fun j => (m ((c : Thread nD τ).loc main_arg7) : Vec Ideal S1x128x1024 .f32) (ix3 0 k j)) (Fin.ext (by first | (simp only []; omega) | omega))
    | with_reducible exact sitofp_zero

theorem op_wv (k : Fin 128) (h : Fin 8) (e : Fin 64) : ((V m c main_v35 : Vec Ideal S512x128 .bf16) (ix2 ⟨h * 64 + e, by omega⟩ k) : EReal)
    = keyWeight m c k ⟨h * 128 + (64 + e), by omega⟩ := by
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_reads_at
  unfold keyWeight
  exact congrArg (fun j => (m ((c : Thread nD τ).loc main_arg7) : Vec Ideal S1x128x1024 .f32) (ix3 0 k j)) (Fin.ext (by first | (simp only []; omega) | omega))

set_option maxHeartbeats 1000000 in -- the line of host operations is long
theorem op_cq (i : Fin 4096) (e : Fin 128) : ((V m c main_v62 : Vec Ideal S4096x128 .f32) (ix2 i e) : EReal)
    = lanes scale (fun f => scale * cosine i f) (fun f => scale * cosine i f) e := by
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_reads_at
  after_reads_at
  after_reads_at
  unfold lanes scale cosine angle
  split_ifs <;> rfl

set_option maxHeartbeats 1000000 in -- the line of host operations is long
theorem op_sq (i : Fin 4096) (e : Fin 128) : ((V m c main_v67 : Vec Ideal S4096x128 .f32) (ix2 i e) : EReal)
    = lanes 0 (fun f => scale * (-sine i f)) (fun f => scale * sine i f) e := by
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_reads_at
  after_reads_at
  after_reads_at
  unfold lanes
  split_ifs <;> rfl

theorem op_ck (i : Fin 4096) (e : Fin 128) : ((V m c main_v70 : Vec Ideal S4096x128 .f32) (ix2 i e) : EReal)
    = lanes 0 (fun f => cosine i f) (fun f => cosine i f) e := by
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_reads_at
  after_reads_at
  unfold lanes
  split_ifs <;> rfl

theorem op_sk (i : Fin 4096) (e : Fin 128) : ((V m c main_v73 : Vec Ideal S4096x128 .f32) (ix2 i e) : EReal)
    = lanes 0 (fun f => -sine i f) (fun f => sine i f) e := by
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_reads_at
  after_reads_at
  unfold lanes
  split_ifs <;> rfl

end Cert.Kernel2Ideal.Body

end
-- ==== Proof.Kernel2Ideal.Geometry.lean ====
/- Which block each window of the projection call holds at each point, and that the results' blocks cover the results. -/
module

public import proofs.«01_k».proof.Proof.Kernel2Ideal.Frame
public import Idealize.ShloMosaic.Lib.Pipeline.ValueKit.Geometry

@[expose] public section

set_option maxRecDepth 16384

noncomputable section

namespace Cert.Kernel2Ideal.Body

open Cert.Kernel2Ideal Cert.Kernel2Ideal.Gen
open Idealize.ShloMosaic Idealize.ShloMosaic.TcCoe Idealize.ShloMosaic.Tactic Idealize.SL.Sem

theorem index_x : ∀ t : Fin grid0.N, win0_0.index t 0 = t.val ∧ win0_0.index t 1 = 0 := by decide +kernel
theorem index_before : ∀ t : Fin grid0.N, win0_1.index t 0 = t.val * 32 - 1 ∧ win0_1.index t 1 = 0 := by decide +kernel
theorem index_after : ∀ t : Fin grid0.N, win0_2.index t 0 = min (t.val * 32 + 32) 8191 ∧ win0_2.index t 1 = 0 := by decide +kernel
theorem index_lg : ∀ t : Fin grid0.N, win0_3.index t 0 = 0 ∧ win0_3.index t 1 = 0 := by decide +kernel
theorem index_lb : ∀ t : Fin grid0.N, win0_4.index t 0 = 0 ∧ win0_4.index t 1 = 0 := by decide +kernel
theorem index_wall : ∀ t : Fin grid0.N, win0_5.index t 0 = 0 ∧ win0_5.index t 1 = 0 := by decide +kernel
theorem index_gq : ∀ t : Fin grid0.N, win0_6.index t 0 = 0 ∧ win0_6.index t 1 = 0 := by decide +kernel
theorem index_wq : ∀ t : Fin grid0.N, win0_7.index t 0 = 0 ∧ win0_7.index t 1 = 0 := by decide +kernel
theorem index_wqs : ∀ t : Fin grid0.N, win0_8.index t 0 = 0 ∧ win0_8.index t 1 = 0 := by decide +kernel
theorem index_gkv : ∀ t : Fin grid0.N, win0_9.index t 0 = 0 ∧ win0_9.index t 1 = 0 := by decide +kernel
theorem index_wk : ∀ t : Fin grid0.N, win0_10.index t 0 = 0 ∧ win0_10.index t 1 = 0 := by decide +kernel
theorem index_wv : ∀ t : Fin grid0.N, win0_11.index t 0 = 0 ∧ win0_11.index t 1 = 0 := by decide +kernel
theorem index_cw : ∀ t : Fin grid0.N, win0_12.index t 0 = 0 ∧ win0_12.index t 1 = 0 := by decide +kernel
theorem index_cb : ∀ t : Fin grid0.N, win0_13.index t 0 = 0 ∧ win0_13.index t 1 = 0 := by decide +kernel
theorem index_cq : ∀ t : Fin grid0.N, win0_14.index t 0 = t.val % 16 ∧ win0_14.index t 1 = 0 := by decide +kernel
theorem index_sq : ∀ t : Fin grid0.N, win0_15.index t 0 = t.val % 16 ∧ win0_15.index t 1 = 0 := by decide +kernel
theorem index_ck : ∀ t : Fin grid0.N, win0_16.index t 0 = t.val % 16 ∧ win0_16.index t 1 = 0 := by decide +kernel
theorem index_sk : ∀ t : Fin grid0.N, win0_17.index t 0 = t.val % 16 ∧ win0_17.index t 1 = 0 := by decide +kernel
theorem index_o0 : ∀ t : Fin grid0.N, win0_18.index t 0 = t.val ∧ win0_18.index t 1 = 0 := by decide +kernel
theorem index_o1 : ∀ t : Fin grid0.N, win0_19.index t 0 = t.val ∧ win0_19.index t 1 = 0 := by decide +kernel
theorem index_o2 : ∀ t : Fin grid0.N, win0_20.index t 0 = 0 ∧ win0_20.index t 1 = t.val := by decide +kernel
theorem index_o3 : ∀ t : Fin grid0.N, win0_21.index t 0 = 0 ∧ win0_21.index t 1 = t.val % 16 * 16 + t.val / 16 := by decide +kernel
theorem covers_o0 : win0_18.Covers := by decide +kernel
theorem covers_o1 : win0_19.Covers := by decide +kernel
theorem covers_o2 : win0_20.Covers := by decide +kernel
theorem covers_o3 : win0_21.Covers := by decide +kernel

end Cert.Kernel2Ideal.Body

end
-- ==== Proof.Kernel2Ideal.Blocks.lean ====
/- The blocks that the windows of the projecting call hold at a step, at coordinates. -/
module

public import proofs.«01_k».proof.Proof.Kernel2Ideal.Operands
public import proofs.«01_k».proof.Proof.Kernel2Ideal.Geometry

@[expose] public section

set_option maxRecDepth 16384

noncomputable section

namespace Cert.Kernel2Ideal.Body

open Cert.Kernel2Ideal Cert.Kernel2Ideal.Gen
open Idealize.ShloMosaic Idealize.ShloMosaic.TcCoe Idealize.ShloMosaic.Tactic Idealize.SL.Sem

open Cert.Rows Cert.Projections

variable (m : (ℓ : Loc nD τ sig) → Buf (Elt Ideal) ℓ) (c : Dev nD) (n : ℕ)

/-! ## The rows -/

theorem blk_x (hn : n < 256) (h : n < cfg0.N) (r : Fin 256) (d : Fin 1024) :
    ((iblk m c 0 ⟨n, h⟩ : Vec Ideal S256x1024 .f32) (ix2 r d) : EReal) = inputs m c ⟨n / 16, by omega⟩ ⟨n % 16 * 256 + r, by omega⟩ d := by
  have e0 : win0_0.index ⟨n, h⟩ 0 = n := (index_x ⟨n, h⟩).1
  have e1 : win0_0.index ⟨n, h⟩ 1 = 0 := (index_x ⟨n, h⟩).2
  refine (congrArg (V m c main_v0 : Vec Ideal S65536x1024 .f32) (show (win0_0.blk ⟨n, h⟩).view.emb (ix2 r d) = ix2 ⟨n * 256 + r, by omega⟩ d by
    blk_ext [e0, e1])).trans ?_
  rw [op_x]
  exact congrArg₂ (fun b i => inputs m c b i d) (Fin.ext (by simp only []; omega)) (Fin.ext (by simp only []; omega))

theorem blk_before (hn : n < 256) (h : n < cfg0.N) (h0 : 0 < n % 16) (d : Fin 1024) :
    ((iblk m c 1 ⟨n, h⟩ : Vec Ideal S8x1024 .f32) (ix2 7 d) : EReal) = inputs m c ⟨n / 16, by omega⟩ ⟨n % 16 * 256 - 1, by omega⟩ d := by
  have e0 : win0_1.index ⟨n, h⟩ 0 = n * 32 - 1 := (index_before ⟨n, h⟩).1
  have e1 : win0_1.index ⟨n, h⟩ 1 = 0 := (index_before ⟨n, h⟩).2
  refine (congrArg (V m c main_v0 : Vec Ideal S65536x1024 .f32) (show (win0_1.blk ⟨n, h⟩).view.emb (ix2 7 d) = ix2 ⟨(n * 32 - 1) * 8 + (7 : Fin 8), by omega⟩ d by
    blk_ext [e0, e1])).trans ?_
  rw [op_x]
  exact congrArg₂ (fun b i => inputs m c b i d) (Fin.ext (by simp only [Fin.isValue]; omega)) (Fin.ext (by simp only [Fin.isValue]; omega))

theorem blk_after (hn : n < 256) (h : n < cfg0.N) (h0 : n % 16 < 15) (d : Fin 1024) :
    ((iblk m c 2 ⟨n, h⟩ : Vec Ideal S8x1024 .f32) (ix2 0 d) : EReal) = inputs m c ⟨n / 16, by omega⟩ ⟨n % 16 * 256 + 256, by omega⟩ d := by
  have e0 : win0_2.index ⟨n, h⟩ 0 = n * 32 + 32 := (index_after ⟨n, h⟩).1.trans (min_eq_left (by simp only []; omega))
  have e1 : win0_2.index ⟨n, h⟩ 1 = 0 := (index_after ⟨n, h⟩).2
  refine (congrArg (V m c main_v0 : Vec Ideal S65536x1024 .f32) (show (win0_2.blk ⟨n, h⟩).view.emb (ix2 0 d) = ix2 ⟨(n * 32 + 32) * 8, by omega⟩ d by
    blk_ext [e0, e1])).trans ?_
  rw [op_x]
  exact congrArg₂ (fun b i => inputs m c b i d) (Fin.ext (by simp only []; omega)) (Fin.ext (by simp only []; omega))

/-! ## The weights, whole at every step -/

theorem blk_lg (h : n < cfg0.N) (k : Fin 1024) : ((iblk m c 3 ⟨n, h⟩ : Vec Ideal S1x1024 .f32) (ix2 0 k) : EReal) = embGain m c k := by
  have e0 : win0_3.index ⟨n, h⟩ 0 = 0 := (index_lg ⟨n, h⟩).1
  have e1 : win0_3.index ⟨n, h⟩ 1 = 0 := (index_lg ⟨n, h⟩).2
  refine (congrArg (V m c main_v1 : Vec Ideal S1x1024 .f32) (show (win0_3.blk ⟨n, h⟩).view.emb (ix2 0 k) = ix2 0 k by blk_ext [e0, e1])).trans ?_
  exact op_lg m c k

theorem blk_lb (h : n < cfg0.N) (k : Fin 1024) : ((iblk m c 4 ⟨n, h⟩ : Vec Ideal S1x1024 .f32) (ix2 0 k) : EReal) = embOffset m c k := by
  have e0 : win0_4.index ⟨n, h⟩ 0 = 0 := (index_lb ⟨n, h⟩).1
  have e1 : win0_4.index ⟨n, h⟩ 1 = 0 := (index_lb ⟨n, h⟩).2
  refine (congrArg (V m c main_v2 : Vec Ideal S1x1024 .f32) (show (win0_4.blk ⟨n, h⟩).view.emb (ix2 0 k) = ix2 0 k by blk_ext [e0, e1])).trans ?_
  exact op_lb m c k

theorem blk_wall (h : n < cfg0.N) (l : Fin 1024) (k : Fin 2176) :
    ((iblk m c 5 ⟨n, h⟩ : Vec Ideal S1024x2176 .bf16) (ix2 l k) : EReal) = (V m c main_v13 : Vec Ideal S1024x2176 .bf16) (ix2 l k) := by
  have e0 : win0_5.index ⟨n, h⟩ 0 = 0 := (index_wall ⟨n, h⟩).1
  have e1 : win0_5.index ⟨n, h⟩ 1 = 0 := (index_wall ⟨n, h⟩).2
  refine (congrArg (V m c main_v13 : Vec Ideal S1024x2176 .bf16) (show (win0_5.blk ⟨n, h⟩).view.emb (ix2 l k) = ix2 l k by blk_ext [e0, e1])).trans ?_
  rfl

theorem blk_gq (h : n < cfg0.N) (k : Fin 256) : ((iblk m c 6 ⟨n, h⟩ : Vec Ideal S1x256 .f32) (ix2 0 k) : EReal) = queryGain m c k := by
  have e0 : win0_6.index ⟨n, h⟩ 0 = 0 := (index_gq ⟨n, h⟩).1
  have e1 : win0_6.index ⟨n, h⟩ 1 = 0 := (index_gq ⟨n, h⟩).2
  refine (congrArg (V m c main_v75 : Vec Ideal S1x256 .f32) (show (win0_6.blk ⟨n, h⟩).view.emb (ix2 0 k) = ix2 0 k by blk_ext [e0, e1])).trans ?_
  exact op_gq m c k

theorem blk_wq (h : n < cfg0.N) (l : Fin 256) (k : Fin 1024) :
    ((iblk m c 7 ⟨n, h⟩ : Vec Ideal S256x1024 .bf16) (ix2 l k) : EReal) = (V m c main_v18 : Vec Ideal S256x1024 .bf16) (ix2 l k) := by
  have e0 : win0_7.index ⟨n, h⟩ 0 = 0 := (index_wq ⟨n, h⟩).1
  have e1 : win0_7.index ⟨n, h⟩ 1 = 0 := (index_wq ⟨n, h⟩).2
  refine (congrArg (V m c main_v18 : Vec Ideal S256x1024 .bf16) (show (win0_7.blk ⟨n, h⟩).view.emb (ix2 l k) = ix2 l k by blk_ext [e0, e1])).trans ?_
  rfl

theorem blk_wqs (h : n < cfg0.N) (l : Fin 256) (k : Fin 1024) :
    ((iblk m c 8 ⟨n, h⟩ : Vec Ideal S256x1024 .bf16) (ix2 l k) : EReal) = (V m c main_v25 : Vec Ideal S256x1024 .bf16) (ix2 l k) := by
  have e0 : win0_8.index ⟨n, h⟩ 0 = 0 := (index_wqs ⟨n, h⟩).1
  have e1 : win0_8.index ⟨n, h⟩ 1 = 0 := (index_wqs ⟨n, h⟩).2
  refine (congrArg (V m c main_v25 : Vec Ideal S256x1024 .bf16) (show (win0_8.blk ⟨n, h⟩).view.emb (ix2 l k) = ix2 l k by blk_ext [e0, e1])).trans ?_
  rfl

theorem blk_gkv (h : n < cfg0.N) (k : Fin 128) : ((iblk m c 9 ⟨n, h⟩ : Vec Ideal S1x128 .f32) (ix2 0 k) : EReal) = keyGain m c k := by
  have e0 : win0_9.index ⟨n, h⟩ 0 = 0 := (index_gkv ⟨n, h⟩).1
  have e1 : win0_9.index ⟨n, h⟩ 1 = 0 := (index_gkv ⟨n, h⟩).2
  refine (congrArg (V m c main_v77 : Vec Ideal S1x128 .f32) (show (win0_9.blk ⟨n, h⟩).view.emb (ix2 0 k) = ix2 0 k by blk_ext [e0, e1])).trans ?_
  exact op_gkv m c k

theorem blk_wk (h : n < cfg0.N) (l : Fin 128) (k : Fin 1024) :
    ((iblk m c 10 ⟨n, h⟩ : Vec Ideal S128x1024 .bf16) (ix2 l k) : EReal) = (V m c main_v31 : Vec Ideal S128x1024 .bf16) (ix2 l k) := by
  have e0 : win0_10.index ⟨n, h⟩ 0 = 0 := (index_wk ⟨n, h⟩).1
  have e1 : win0_10.index ⟨n, h⟩ 1 = 0 := (index_wk ⟨n, h⟩).2
  refine (congrArg (V m c main_v31 : Vec Ideal S128x1024 .bf16) (show (win0_10.blk ⟨n, h⟩).view.emb (ix2 l k) = ix2 l k by blk_ext [e0, e1])).trans ?_
  rfl

theorem blk_wv (h : n < cfg0.N) (l : Fin 512) (k : Fin 128) :
    ((iblk m c 11 ⟨n, h⟩ : Vec Ideal S512x128 .bf16) (ix2 l k) : EReal) = (V m c main_v35 : Vec Ideal S512x128 .bf16) (ix2 l k) := by
  have e0 : win0_11.index ⟨n, h⟩ 0 = 0 := (index_wv ⟨n, h⟩).1
  have e1 : win0_11.index ⟨n, h⟩ 1 = 0 := (index_wv ⟨n, h⟩).2
  refine (congrArg (V m c main_v35 : Vec Ideal S512x128 .bf16) (show (win0_11.blk ⟨n, h⟩).view.emb (ix2 l k) = ix2 l k by blk_ext [e0, e1])).trans ?_
  rfl

theorem blk_cw (h : n < cfg0.N) (l : Fin 3) (k : Fin 1536) :
    ((iblk m c 12 ⟨n, h⟩ : Vec Ideal S3x1536 .f32) (ix2 l k) : EReal) = (V m c main_v78 : Vec Ideal S3x1536 .f32) (ix2 l k) := by
  have e0 : win0_12.index ⟨n, h⟩ 0 = 0 := (index_cw ⟨n, h⟩).1
  have e1 : win0_12.index ⟨n, h⟩ 1 = 0 := (index_cw ⟨n, h⟩).2
  refine (congrArg (V m c main_v78 : Vec Ideal S3x1536 .f32) (show (win0_12.blk ⟨n, h⟩).view.emb (ix2 l k) = ix2 l k by blk_ext [e0, e1])).trans ?_
  rfl

theorem blk_cb (h : n < cfg0.N) (k : Fin 1536) : ((iblk m c 13 ⟨n, h⟩ : Vec Ideal S1x1536 .f32) (ix2 0 k) : EReal) = tapOffset m c k := by
  have e0 : win0_13.index ⟨n, h⟩ 0 = 0 := (index_cb ⟨n, h⟩).1
  have e1 : win0_13.index ⟨n, h⟩ 1 = 0 := (index_cb ⟨n, h⟩).2
  refine (congrArg (V m c main_v80 : Vec Ideal S1x1536 .f32) (show (win0_13.blk ⟨n, h⟩).view.emb (ix2 0 k) = ix2 0 k by blk_ext [e0, e1])).trans ?_
  exact op_cb m c k

/-! ## The tables of the rotation -/

theorem blk_cq (h : n < cfg0.N) (r : Fin 256) (e : Fin 128) :
    ((iblk m c 14 ⟨n, h⟩ : Vec Ideal S256x128 .f32) (ix2 r e) : EReal) = lanes scale (fun f => scale * cosine ⟨n % 16 * 256 + r, by omega⟩ f) (fun f => scale * cosine ⟨n % 16 * 256 + r, by omega⟩ f) e := by
  have e0 : win0_14.index ⟨n, h⟩ 0 = n % 16 := (index_cq ⟨n, h⟩).1
  have e1 : win0_14.index ⟨n, h⟩ 1 = 0 := (index_cq ⟨n, h⟩).2
  refine (congrArg (V m c main_v62 : Vec Ideal S4096x128 .f32) (show (win0_14.blk ⟨n, h⟩).view.emb (ix2 r e) = ix2 ⟨n % 16 * 256 + r, by omega⟩ e by
    blk_ext [e0, e1])).trans ?_
  exact op_cq m c _ e

theorem blk_sq (h : n < cfg0.N) (r : Fin 256) (e : Fin 128) :
    ((iblk m c 15 ⟨n, h⟩ : Vec Ideal S256x128 .f32) (ix2 r e) : EReal) = lanes 0 (fun f => scale * -sine ⟨n % 16 * 256 + r, by omega⟩ f) (fun f => scale * sine ⟨n % 16 * 256 + r, by omega⟩ f) e := by
  have e0 : win0_15.index ⟨n, h⟩ 0 = n % 16 := (index_sq ⟨n, h⟩).1
  have e1 : win0_15.index ⟨n, h⟩ 1 = 0 := (index_sq ⟨n, h⟩).2
  refine (congrArg (V m c main_v67 : Vec Ideal S4096x128 .f32) (show (win0_15.blk ⟨n, h⟩).view.emb (ix2 r e) = ix2 ⟨n % 16 * 256 + r, by omega⟩ e by
    blk_ext [e0, e1])).trans ?_
  exact op_sq m c _ e

theorem blk_ck (h : n < cfg0.N) (r : Fin 256) (e : Fin 128) :
    ((iblk m c 16 ⟨n, h⟩ : Vec Ideal S256x128 .f32) (ix2 r e) : EReal) = lanes 0 (fun f => cosine ⟨n % 16 * 256 + r, by omega⟩ f) (fun f => cosine ⟨n % 16 * 256 + r, by omega⟩ f) e := by
  have e0 : win0_16.index ⟨n, h⟩ 0 = n % 16 := (index_ck ⟨n, h⟩).1
  have e1 : win0_16.index ⟨n, h⟩ 1 = 0 := (index_ck ⟨n, h⟩).2
  refine (congrArg (V m c main_v70 : Vec Ideal S4096x128 .f32) (show (win0_16.blk ⟨n, h⟩).view.emb (ix2 r e) = ix2 ⟨n % 16 * 256 + r, by omega⟩ e by
    blk_ext [e0, e1])).trans ?_
  exact op_ck m c _ e

theorem blk_sk (h : n < cfg0.N) (r : Fin 256) (e : Fin 128) :
    ((iblk m c 17 ⟨n, h⟩ : Vec Ideal S256x128 .f32) (ix2 r e) : EReal) = lanes 0 (fun f => -sine ⟨n % 16 * 256 + r, by omega⟩ f) (fun f => sine ⟨n % 16 * 256 + r, by omega⟩ f) e := by
  have e0 : win0_17.index ⟨n, h⟩ 0 = n % 16 := (index_sk ⟨n, h⟩).1
  have e1 : win0_17.index ⟨n, h⟩ 1 = 0 := (index_sk ⟨n, h⟩).2
  refine (congrArg (V m c main_v73 : Vec Ideal S4096x128 .f32) (show (win0_17.blk ⟨n, h⟩).view.emb (ix2 r e) = ix2 ⟨n % 16 * 256 + r, by omega⟩ e by
    blk_ext [e0, e1])).trans ?_
  exact op_sk m c _ e

theorem coords_eq : ∀ t : Fin grid0.N, ((grid0.coords t) 0).val = t.val := by decide +kernel

end Cert.Kernel2Ideal.Body

end
-- ==== Proof.Kernel2Ideal.Tile.lean ====
/- What one grid step of the projecting call computes from its blocks: the queries, the keys and the values. -/
module

public import proofs.«01_k».proof.Proof.Kernel2Ideal.Frame
public import proofs.«01_k».proof.Proof.Rows
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel2Ideal.Body

open Cert.Kernel2Ideal Cert.Kernel2Ideal.Gen
open Idealize.ShloMosaic Idealize.ShloMosaic.TcCoe Idealize.ShloMosaic.Tactic Idealize.SL.Sem
open Cert.Rows

variable (i : grid0.Coords) (x0 : Vec Ideal S256x1024 .f32) (x1 : Vec Ideal S8x1024 .f32) (x2 : Vec Ideal S8x1024 .f32) (x3 : Vec Ideal S1x1024 .f32)
  (x4 : Vec Ideal S1x1024 .f32) (x5 : Vec Ideal S1024x2176 .bf16) (x6 : Vec Ideal S1x256 .f32) (x7 : Vec Ideal S256x1024 .bf16)
  (x8 : Vec Ideal S256x1024 .bf16) (x9 : Vec Ideal S1x128 .f32) (x10 : Vec Ideal S128x1024 .bf16) (x11 : Vec Ideal S512x128 .bf16)
  (x12 : Vec Ideal S3x1536 .f32) (x13 : Vec Ideal S1x1536 .f32) (x14 : Vec Ideal S256x128 .f32) (x15 : Vec Ideal S256x128 .f32)
  (x16 : Vec Ideal S256x128 .f32) (x17 : Vec Ideal S256x128 .f32)

/-! ## The rows and their columns -/

/-- A row after the layer norm. -/
def normRow {n : ℕ} (x : Fin n → Fin 1024 → EReal) (g b : Fin 1024 → EReal) (r : Fin n) : Fin 1024 → EReal :=
  layerNorm (x r) g b

/-- One column of the joint projection of a row. -/
def column {n w : ℕ} (x : Fin n → Fin 1024 → EReal) (g b : Fin 1024 → EReal) (a : Fin 1024 → Fin w → EReal) (r : Fin n) (k : Fin w) : EReal :=
  ∑ d : Fin 1024, normRow x g b r d * a d k

/-- The columns of a step's own rows. -/
def own (x0 : Vec Ideal S256x1024 .f32) (x3 x4 : Vec Ideal S1x1024 .f32) (x5 : Vec Ideal S1024x2176 .bf16) (r : Fin 256) (k : Fin 2176) : EReal :=
  column (fun r d => x0 (ix2 r d)) (fun d => x3 (ix2 0 d)) (fun d => x4 (ix2 0 d)) (fun d k => x5 (ix2 d k)) r k

/-- The latent row that the queries come from. -/
def queryRow (x0 : Vec Ideal S256x1024 .f32) (x3 x4 : Vec Ideal S1x1024 .f32) (x5 : Vec Ideal S1024x2176 .bf16) (x6 : Vec Ideal S1x256 .f32)
    (r : Fin 256) : Fin 256 → EReal :=
  rmsNorm (Ideal.ofBits FTy.f32 0x43800000#32) (fun l => own x0 x3 x4 x5 r ⟨l.val, by omega⟩) (fun l => x6 (ix2 0 l))

/-- The latent row that the keys and the values come from. -/
def keyRow (x0 : Vec Ideal S256x1024 .f32) (x3 x4 : Vec Ideal S1x1024 .f32) (x5 : Vec Ideal S1024x2176 .bf16) (x9 : Vec Ideal S1x128 .f32)
    (r : Fin 256) : Fin 128 → EReal :=
  rmsNorm (Ideal.ofBits FTy.f32 0x43000000#32) (fun l => own x0 x3 x4 x5 r ⟨256 + l.val, by omega⟩) (fun l => x9 (ix2 0 l))

theorem normed_apply (r : Fin 256) (d : Fin 1024) :
    (k0_pay39 (F := Ideal) i x0 x1 x2 x3 x4 x5 x6 x7 x8 x9 x10 x11 x12 x13 x14 x15 x16 x17 (ix2 r d) : EReal) = normRow (fun r d => x0 (ix2 r d)) (fun d => x3 (ix2 0 d)) (fun d => x4 (ix2 0 d)) r d := by
  pointwise [k0_pay39, k0_pay2, normRow, layerNorm, mean]

theorem joint_apply (r : Fin 256) (k : Fin 2176) :
    (k0_pay4 (F := Ideal) (k0_pay39 i x0 x1 x2 x3 x4 x5 x6 x7 x8 x9 x10 x11 x12 x13 x14 x15 x16 x17) (k0_pay40 i x0 x1 x2 x3 x4 x5 x6 x7 x8 x9 x10 x11 x12 x13 x14 x15 x16 x17) (k0_pay38 i x0 x1 x2 x3 x4 x5 x6 x7 x8 x9 x10 x11 x12 x13 x14 x15 x16 x17) (ix2 r k) : EReal) = own x0 x3 x4 x5 r k := by
  have h : (k0_pay4 (F := Ideal) (k0_pay39 i x0 x1 x2 x3 x4 x5 x6 x7 x8 x9 x10 x11 x12 x13 x14 x15 x16 x17) (k0_pay40 i x0 x1 x2 x3 x4 x5 x6 x7 x8 x9 x10 x11 x12 x13 x14 x15 x16 x17) (k0_pay38 i x0 x1 x2 x3 x4 x5 x6 x7 x8 x9 x10 x11 x12 x13 x14 x15 x16 x17) (ix2 r k) : EReal)
      = ∑ d : Fin 1024, (k0_pay39 (F := Ideal) i x0 x1 x2 x3 x4 x5 x6 x7 x8 x9 x10 x11 x12 x13 x14 x15 x16 x17 (ix2 r d) : EReal) * x5 (ix2 d k) := by
    pointwise [k0_pay4, k0_pay40, k0_pay38, k0_pay3]
  rw [h]
  simp only [normed_apply]
  rfl

theorem latentQuery_apply (u : FVec Ideal S256x1024 .bf16) (w : FVec Ideal S1024x2176 .bf16) (z : FVec Ideal S256x2176 .f32) (g : FVec Ideal S1x256 .f32)
    (r : Fin 256) (l : Fin 256) :
    (k0_pay8 (F := Ideal) u w z g (ix2 r l) : EReal) = rmsNorm (Ideal.ofBits FTy.f32 0x43800000#32)
      (fun l : Fin 256 => k0_pay4 (F := Ideal) u w z (ix2 r ⟨l.val, by omega⟩)) (fun l => g (ix2 0 l)) l := by
  pointwise [k0_pay8, rmsNorm]

theorem latentKey_apply (u : FVec Ideal S256x1024 .bf16) (w : FVec Ideal S1024x2176 .bf16) (z : FVec Ideal S256x2176 .f32) (g : FVec Ideal S1x128 .f32)
    (r : Fin 256) (l : Fin 128) :
    (k0_pay11 (F := Ideal) u w z g (ix2 r l) : EReal) = rmsNorm (Ideal.ofBits FTy.f32 0x43000000#32)
      (fun l : Fin 128 => k0_pay4 (F := Ideal) u w z (ix2 r ⟨256 + l.val, by omega⟩)) (fun l => g (ix2 0 l)) l := by
  pointwise [k0_pay11, rmsNorm]

theorem queryRow_apply (r : Fin 256) (l : Fin 256) :
    (k0_pay8 (F := Ideal) (k0_pay39 i x0 x1 x2 x3 x4 x5 x6 x7 x8 x9 x10 x11 x12 x13 x14 x15 x16 x17) (k0_pay40 i x0 x1 x2 x3 x4 x5 x6 x7 x8 x9 x10 x11 x12 x13 x14 x15 x16 x17) (k0_pay38 i x0 x1 x2 x3 x4 x5 x6 x7 x8 x9 x10 x11 x12 x13 x14 x15 x16 x17) (View.ld x6 r0_3) (ix2 r l) : EReal) = queryRow x0 x3 x4 x5 x6 r l := by
  rw [latentQuery_apply]
  simp only [joint_apply]
  unfold queryRow
  pointwise [rmsNorm]

theorem keyRow_apply (r : Fin 256) (l : Fin 128) : (k0_pay46 (F := Ideal) i x0 x1 x2 x3 x4 x5 x6 x7 x8 x9 x10 x11 x12 x13 x14 x15 x16 x17 (ix2 r l) : EReal) = keyRow x0 x3 x4 x5 x9 r l := by
  have h : (k0_pay46 (F := Ideal) i x0 x1 x2 x3 x4 x5 x6 x7 x8 x9 x10 x11 x12 x13 x14 x15 x16 x17 (ix2 r l) : EReal)
      = k0_pay11 (F := Ideal) (k0_pay39 i x0 x1 x2 x3 x4 x5 x6 x7 x8 x9 x10 x11 x12 x13 x14 x15 x16 x17) (k0_pay40 i x0 x1 x2 x3 x4 x5 x6 x7 x8 x9 x10 x11 x12 x13 x14 x15 x16 x17) (k0_pay38 i x0 x1 x2 x3 x4 x5 x6 x7 x8 x9 x10 x11 x12 x13 x14 x15 x16 x17) (View.ld x9 r0_4) (ix2 r l) := rfl
  rw [h, latentKey_apply]
  simp only [joint_apply]
  unfold keyRow
  pointwise [rmsNorm]

/-! ## The queries -/

theorem straight_apply (r : Fin 256) (k : Fin 1024) :
    (k0_pay44 (F := Ideal) i x0 x1 x2 x3 x4 x5 x6 x7 x8 x9 x10 x11 x12 x13 x14 x15 x16 x17 (ix2 r k) : EReal) = ∑ l : Fin 256, queryRow x0 x3 x4 x5 x6 r l * x7 (ix2 l k) := by
  simp only [← queryRow_apply i x0 x1 x2 x3 x4 x5 x6 x7 x8 x9 x10 x11 x12 x13 x14 x15 x16 x17]
  pointwise [k0_pay44, k0_pay9]

theorem turned_apply (r : Fin 256) (k : Fin 1024) :
    (k0_pay45 (F := Ideal) i x0 x1 x2 x3 x4 x5 x6 x7 x8 x9 x10 x11 x12 x13 x14 x15 x16 x17 (ix2 r k) : EReal) = ∑ l : Fin 256, queryRow x0 x3 x4 x5 x6 r l * x8 (ix2 l k) := by
  simp only [← queryRow_apply i x0 x1 x2 x3 x4 x5 x6 x7 x8 x9 x10 x11 x12 x13 x14 x15 x16 x17]
  pointwise [k0_pay45, k0_pay10]

/-- The queries of a step. -/
theorem queries_tile (r : Fin 256) (k : Fin 1024) :
    (out0_18 (F := Ideal) i x0 x1 x2 x3 x4 x5 x6 x7 x8 x9 x10 x11 x12 x13 x14 x15 x16 x17 (ix2 r k) : EReal)
      = (∑ l : Fin 256, queryRow x0 x3 x4 x5 x6 r l * x7 (ix2 l k)) * x14 (ix2 r ⟨k.val % 128, by omega⟩)
        + (∑ l : Fin 256, queryRow x0 x3 x4 x5 x6 r l * x8 (ix2 l k)) * x15 (ix2 r ⟨k.val % 128, by omega⟩) := by
  simp only [← straight_apply i x0 x1 x2 x3 x4 x5 x6 x7 x8 x9 x10 x11 x12 x13 x14 x15 x16 x17, ← turned_apply i x0 x1 x2 x3 x4 x5 x6 x7 x8 x9 x10 x11 x12 x13 x14 x15 x16 x17]
  unfold out0_18
  canon_tiles x h using (View.cover_of_tiledBy _ ![256, 128] (by sl_kernel_rfl) _)
  all_goals
    obtain ⟨p, e, rfl⟩ : ∃ p e, x = ix2 p e := ⟨_, _, eq_ix2 x⟩
    obtain rfl : r = p := Fin.ext h0
    have hk : k.val = _ := h1
    simp only [ix2_1] at hk
    have he : (⟨k.val % 128, by omega⟩ : Fin 128) = e := Fin.ext (by have hb : e.val < 128 := e.isLt; simp only []; omega)
    rw [he]
  case piece0 => rw [show k = ⟨896 + e.val, by omega⟩ from Fin.ext (by simp only []; omega)]; pointwise [k0_pay32, k0_pay49, k0_pay50, k0_pay15, k0_pay16]
  case piece1 => rw [show k = ⟨768 + e.val, by omega⟩ from Fin.ext (by simp only []; omega)]; pointwise [k0_pay30, k0_pay49, k0_pay50, k0_pay15, k0_pay16]
  case piece2 => rw [show k = ⟨640 + e.val, by omega⟩ from Fin.ext (by simp only []; omega)]; pointwise [k0_pay28, k0_pay27, k0_pay49, k0_pay50, k0_pay15, k0_pay16]
  case piece3 => rw [show k = ⟨512 + e.val, by omega⟩ from Fin.ext (by simp only []; omega)]; pointwise [k0_pay25, k0_pay49, k0_pay50, k0_pay15, k0_pay16]
  case piece4 => rw [show k = ⟨384 + e.val, by omega⟩ from Fin.ext (by simp only []; omega)]; pointwise [k0_pay23, k0_pay49, k0_pay50, k0_pay15, k0_pay16]
  case piece5 => rw [show k = ⟨256 + e.val, by omega⟩ from Fin.ext (by simp only []; omega)]; pointwise [k0_pay21, k0_pay49, k0_pay50, k0_pay15, k0_pay16]
  case piece6 => rw [show k = ⟨128 + e.val, by omega⟩ from Fin.ext (by simp only []; omega)]; pointwise [k0_pay19, k0_pay49, k0_pay50, k0_pay15, k0_pay16]
  case piece7 => rw [show k = ⟨e.val, by omega⟩ from Fin.ext (by simp only []; omega)]; pointwise [k0_pay17, k0_pay49, k0_pay50, k0_pay15, k0_pay16]

/-! ## The keys -/

theorem unturned_apply (r : Fin 256) (k : Fin 1024) :
    (k0_pay47 (F := Ideal) i x0 x1 x2 x3 x4 x5 x6 x7 x8 x9 x10 x11 x12 x13 x14 x15 x16 x17 (ix2 r k) : EReal) = ∑ l : Fin 128, keyRow x0 x3 x4 x5 x9 r l * x10 (ix2 l k) := by
  simp only [← keyRow_apply i x0 x1 x2 x3 x4 x5 x6 x7 x8 x9 x10 x11 x12 x13 x14 x15 x16 x17]
  pointwise [k0_pay47, k0_pay12]

theorem rope_apply (r : Fin 256) (e : Fin 128) :
    (k0_pay48 (F := Ideal) i x0 x1 x2 x3 x4 x5 x6 x7 x8 x9 x10 x11 x12 x13 x14 x15 x16 x17 (ix2 r e) : EReal) = own x0 x3 x4 x5 r ⟨384 + e.val, by omega⟩ * x16 (ix2 r e)
      + own x0 x3 x4 x5 r ⟨512 + e.val, by omega⟩ * x17 (ix2 r e) := by
  simp only [← joint_apply i x0 x1 x2 x3 x4 x5 x6 x7 x8 x9 x10 x11 x12 x13 x14 x15 x16 x17]
  pointwise [k0_pay48, k0_pay14, k0_pay41, k0_pay42, k0_pay5, k0_pay6]

/-- The keys of a step. -/
theorem keys_tile (r : Fin 256) (k : Fin 1024) :
    (out0_19 (F := Ideal) i x0 x1 x2 x3 x4 x5 x6 x7 x8 x9 x10 x11 x12 x13 x14 x15 x16 x17 (ix2 r k) : EReal)
      = (∑ l : Fin 128, keyRow x0 x3 x4 x5 x9 r l * x10 (ix2 l k))
        + (own x0 x3 x4 x5 r ⟨384 + k.val % 128, by omega⟩ * x16 (ix2 r ⟨k.val % 128, by omega⟩)
          + own x0 x3 x4 x5 r ⟨512 + k.val % 128, by omega⟩ * x17 (ix2 r ⟨k.val % 128, by omega⟩)) := by
  refine Eq.trans ?_ (congrArg₂ (· + ·) (unturned_apply i x0 x1 x2 x3 x4 x5 x6 x7 x8 x9 x10 x11 x12 x13 x14 x15 x16 x17 r k) (rope_apply i x0 x1 x2 x3 x4 x5 x6 x7 x8 x9 x10 x11 x12 x13 x14 x15 x16 x17 r ⟨k.val % 128, by omega⟩))
  unfold out0_19
  canon_tiles x h using (View.cover_of_tiledBy _ ![256, 128] (by sl_kernel_rfl) _)
  all_goals
    obtain ⟨p, e, rfl⟩ : ∃ p e, x = ix2 p e := ⟨_, _, eq_ix2 x⟩
    obtain rfl : r = p := Fin.ext h0
    have hk : k.val = _ := h1
    simp only [ix2_1] at hk
    have he : (⟨k.val % 128, by omega⟩ : Fin 128) = e := Fin.ext (by have hb : e.val < 128 := e.isLt; simp only []; omega)
    rw [he]
  case piece0 => rw [show k = ⟨896 + e.val, by omega⟩ from Fin.ext (by simp only []; omega)]; pointwise [k0_pay33]
  case piece1 => rw [show k = ⟨768 + e.val, by omega⟩ from Fin.ext (by simp only []; omega)]; pointwise [k0_pay31]
  case piece2 => rw [show k = ⟨640 + e.val, by omega⟩ from Fin.ext (by simp only []; omega)]; pointwise [k0_pay29]
  case piece3 => rw [show k = ⟨512 + e.val, by omega⟩ from Fin.ext (by simp only []; omega)]; pointwise [k0_pay26]
  case piece4 => rw [show k = ⟨384 + e.val, by omega⟩ from Fin.ext (by simp only []; omega)]; pointwise [k0_pay24]
  case piece5 => rw [show k = ⟨256 + e.val, by omega⟩ from Fin.ext (by simp only []; omega)]; pointwise [k0_pay22]
  case piece6 => rw [show k = ⟨128 + e.val, by omega⟩ from Fin.ext (by simp only []; omega)]; pointwise [k0_pay20]
  case piece7 => rw [show k = ⟨e.val, by omega⟩ from Fin.ext (by simp only []; omega)]; pointwise [k0_pay18, k0_pay47, k0_pay48]

/-! ## The values -/

/-- The values of a step. -/
theorem values_tile (a : Fin 512) (r : Fin 256) :
    (out0_20 (F := Ideal) i x0 x1 x2 x3 x4 x5 x6 x7 x8 x9 x10 x11 x12 x13 x14 x15 x16 x17 (ix2 a r) : EReal) = ∑ l : Fin 128, x11 (ix2 a l) * keyRow x0 x3 x4 x5 x9 r l := by
  simp only [← keyRow_apply i x0 x1 x2 x3 x4 x5 x6 x7 x8 x9 x10 x11 x12 x13 x14 x15 x16 x17]
  unfold out0_20
  simp (disch := decide) only [View.canon_cons_unit_lit', View.ld_unit_lit']
  pointwise [k0_pay13]

end Cert.Kernel2Ideal.Body
-- ==== Proof.Kernel2Ideal.Filter.lean ====
/- What one grid step of the projecting call computes from its blocks: the filtered channels. -/
module

public import proofs.«01_k».proof.Proof.Kernel2Ideal.Tile
public import proofs.«01_k».proof.Proof.Rows
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel2Ideal.Body

open Cert.Kernel2Ideal Cert.Kernel2Ideal.Gen
open Idealize.ShloMosaic Idealize.ShloMosaic.TcCoe Idealize.ShloMosaic.Tactic Idealize.SL.Sem
open Cert.Rows

variable (i : grid0.Coords) (x0 : Vec Ideal S256x1024 .f32) (x1 : Vec Ideal S8x1024 .f32) (x2 : Vec Ideal S8x1024 .f32) (x3 : Vec Ideal S1x1024 .f32)
  (x4 : Vec Ideal S1x1024 .f32) (x5 : Vec Ideal S1024x2176 .bf16) (x6 : Vec Ideal S1x256 .f32) (x7 : Vec Ideal S256x1024 .bf16)
  (x8 : Vec Ideal S256x1024 .bf16) (x9 : Vec Ideal S1x128 .f32) (x10 : Vec Ideal S128x1024 .bf16) (x11 : Vec Ideal S512x128 .bf16)
  (x12 : Vec Ideal S3x1536 .f32) (x13 : Vec Ideal S1x1536 .f32) (x14 : Vec Ideal S256x128 .f32) (x15 : Vec Ideal S256x128 .f32)
  (x16 : Vec Ideal S256x128 .f32) (x17 : Vec Ideal S256x128 .f32)

/-! ## The row before the tile and the row after it -/

/-- The columns of the two blocks of eight rows round a tile, from the offset 640 on. -/
def near (h : FVec Ideal S16x1024 .f32) (g b : FVec Ideal S1x1024 .f32) (w : FVec Ideal S1024x1536 .bf16) (p : Fin 16) (k : Fin 1536) : EReal :=
  column (fun p d => h (ix2 p d)) (fun d => g (ix2 0 d)) (fun d => b (ix2 0 d)) (fun d k => w (ix2 d k)) p k

theorem near_apply (h : FVec Ideal S16x1024 .f32) (g b : FVec Ideal S1x1024 .f32) (w : FVec Ideal S1024x1536 .bf16) (p : Fin 16) (k : Fin 1536) :
    (k0_pay35 (F := Ideal) h g b w (ix2 p k) : EReal) = near h g b w p k := by
  pointwise [k0_pay35, near, column, normRow, layerNorm, mean]

theorem first_row (r : Fin 256) : (IntOp.cmpi CmpIPredicate.eq (BitVec.ofNat 32 r.val) 0#32 = 1) ↔ r.val = 0 := by
  revert r
  decide

theorem last_row (r : Fin 256) : (IntOp.cmpi CmpIPredicate.eq (BitVec.ofNat 32 r.val) 255#32 = 1) ↔ r.val = 255 := by
  revert r
  decide

theorem after_apply (v : BitVec 32) (h : FVec Ideal S16x1024 .f32) (g b : FVec Ideal S1x1024 .f32) (w : FVec Ideal S1024x1536 .bf16) (k : Fin 1536) :
    (k0_pay36 (F := Ideal) v h g b w (ix2 0 k) : EReal) = if Scalar.cmpi .slt v 15#32 = 1 then near h g b w 8 k else 0 := by
  rw [← near_apply]
  pointwise [k0_pay36]
  rfl

theorem before_apply (v : BitVec 32) (z : FVec Ideal S256x1536 .f32) (h : FVec Ideal S16x1024 .f32) (g b : FVec Ideal S1x1024 .f32)
    (w : FVec Ideal S1024x1536 .bf16) (r : Fin 256) (k : Fin 1536) :
    (k0_pay37 (F := Ideal) v z h g b w (ix2 r k) : EReal) = if r.val = 0 then (if Scalar.cmpi .sgt v 0#32 = 1 then near h g b w 7 k else 0)
      else z (ix2 ⟨r.val - 1, by omega⟩ k) := by
  rw [← near_apply]
  pointwise [k0_pay37]
  unfold Scalar.select
  rw [show (⟨(r.val + 256 - 1) % 256, by omega⟩ : Fin 256) = if r.val = 0 then ⟨255, by omega⟩ else ⟨r.val - 1, by omega⟩ from by
    split <;> exact Fin.ext (by simp only []; omega)]
  by_cases hr : r.val = 0
  · rw [if_pos ((first_row r).mpr hr), if_pos hr]
  · rw [if_neg (fun h => hr ((first_row r).mp h)), if_neg hr, if_neg hr]

theorem filter_apply (z : FVec Ideal S256x1536 .f32) (u : FVec Ideal S1x1536 .f32) (x : FVec Ideal S256x1536 .f32) (o w0 w1 w2 : FVec Ideal S1x1536 .f32)
    (k : Fin 1536) (r : Fin 256) :
    (k0_pay1 (F := Ideal) z u (iota .tc S256x1536 32 [0] iota_S256x1536_d0_w32) x o w0 w1 w2 (ix2 k r) : EReal)
      = o (ix2 0 k) + x (ix2 r k) * w0 (ix2 0 k) + z (ix2 r k) * w1 (ix2 0 k)
        + (if r.val = 255 then u (ix2 0 k) else z (ix2 ⟨(r.val + 1) % 256, by omega⟩ k)) * w2 (ix2 0 k) := by
  pointwise [k0_pay1]
  unfold Scalar.select
  rw [show (⟨(r.val + 256 - 255) % 256, by omega⟩ : Fin 256) = ⟨(r.val + 1) % 256, by omega⟩ from Fin.ext (by simp only []; omega)]
  simp only [last_row]

/-- The place of a step in its batch, as the launch computes it. -/
def place (v : BitVec 32) : BitVec 32 :=
  Scalar.select (Scalar.andi (Scalar.xori (Scalar.cmpi .slt (Scalar.remsi v (Scalar.select (Scalar.cmpi .eq 16#32 0#32) 1#32 16#32)) 0#32)
    (Scalar.cmpi .slt (Scalar.select (Scalar.cmpi .eq 16#32 0#32) 1#32 16#32) 0#32)) (Scalar.cmpi .ne (Scalar.remsi v
    (Scalar.select (Scalar.cmpi .eq 16#32 0#32) 1#32 16#32)) 0#32)) (Scalar.addi (Scalar.remsi v (Scalar.select (Scalar.cmpi .eq 16#32 0#32) 1#32 16#32))
    (Scalar.select (Scalar.cmpi .eq 16#32 0#32) 1#32 16#32)) (Scalar.remsi v (Scalar.select (Scalar.cmpi .eq 16#32 0#32) 1#32 16#32))

theorem place_first (n : Fin 256) : (Scalar.cmpi .sgt (place (BitVec.ofNat 32 n.val)) 0#32 = 1) ↔ 0 < n.val % 16 := by
  revert n
  decide

theorem place_last (n : Fin 256) : (Scalar.cmpi .slt (place (BitVec.ofNat 32 n.val)) 15#32 = 1) ↔ n.val % 16 < 15 := by
  revert n
  decide

theorem own_apply (r : Fin 256) (k : Fin 1536) : (k0_pay43 (F := Ideal) i x0 x1 x2 x3 x4 x5 x6 x7 x8 x9 x10 x11 x12 x13 x14 x15 x16 x17 (ix2 r k) : EReal) = own x0 x3 x4 x5 r ⟨640 + k.val, by omega⟩ := by
  rw [← joint_apply i x0 x1 x2 x3 x4 x5 x6 x7 x8 x9 x10 x11 x12 x13 x14 x15 x16 x17]
  pointwise [k0_pay43, k0_pay7]

/-- The two rows next to a tile. -/
def beside (x : Vec Ideal S8x1024 .f32) (x3 x4 : Vec Ideal S1x1024 .f32) (x5 : Vec Ideal S1024x2176 .bf16) (p : Fin 8) (k : Fin 1536) : EReal :=
  column (fun p d => x (ix2 p d)) (fun d => x3 (ix2 0 d)) (fun d => x4 (ix2 0 d)) (fun d k => x5 (ix2 d k)) p (⟨640 + k.val, by omega⟩ : Fin 2176)

theorem near_before (k : Fin 1536) :
    near (k0_pay51 (F := Ideal) i x0 x1 x2 x3 x4 x5 x6 x7 x8 x9 x10 x11 x12 x13 x14 x15 x16 x17) (View.ld x3 r0_1) (View.ld x4 r0_1) (View.ld x5 r0_18) 7 k = beside x1 x3 x4 x5 7 k := by
  have h : ∀ d : Fin 1024, (k0_pay51 (F := Ideal) i x0 x1 x2 x3 x4 x5 x6 x7 x8 x9 x10 x11 x12 x13 x14 x15 x16 x17 (ix2 7 d) : EReal) = x1 (ix2 7 d) := fun d => by pointwise [k0_pay51, k0_pay34]
  unfold near beside column normRow
  simp only [h]
  pointwise [layerNorm, mean]

theorem near_after (k : Fin 1536) :
    near (k0_pay51 (F := Ideal) i x0 x1 x2 x3 x4 x5 x6 x7 x8 x9 x10 x11 x12 x13 x14 x15 x16 x17) (View.ld x3 r0_1) (View.ld x4 r0_1) (View.ld x5 r0_18) 8 k = beside x2 x3 x4 x5 0 k := by
  have h : ∀ d : Fin 1024, (k0_pay51 (F := Ideal) i x0 x1 x2 x3 x4 x5 x6 x7 x8 x9 x10 x11 x12 x13 x14 x15 x16 x17 (ix2 8 d) : EReal) = x2 (ix2 0 d) := fun d => by pointwise [k0_pay51, k0_pay34]
  unfold near beside column normRow
  simp only [h]
  pointwise [layerNorm, mean]

/-- The filtered channels of a step. -/
theorem filtered_tile (n : Fin 256) (hn : (i 0).val = n.val) (k : Fin 1536) (r : Fin 256) :
    (out0_21 (F := Ideal) i x0 x1 x2 x3 x4 x5 x6 x7 x8 x9 x10 x11 x12 x13 x14 x15 x16 x17 (ix2 k r) : EReal)
      = x13 (ix2 0 k)
        + (if r.val = 0 then (if 0 < n.val % 16 then beside x1 x3 x4 x5 7 k else 0)
            else own x0 x3 x4 x5 ⟨r.val - 1, by omega⟩ ⟨640 + k.val, by omega⟩) * x12 (ix2 0 k)
        + own x0 x3 x4 x5 r ⟨640 + k.val, by omega⟩ * x12 (ix2 1 k)
        + (if r.val = 255 then (if n.val % 16 < 15 then beside x2 x3 x4 x5 0 k else 0)
            else own x0 x3 x4 x5 ⟨(r.val + 1) % 256, by omega⟩ ⟨640 + k.val, by omega⟩) * x12 (ix2 2 k) := by
  unfold out0_21
  simp (disch := decide) only [View.canon_cons_unit_lit']
  have h := filter_apply (k0_pay43 (F := Ideal) i x0 x1 x2 x3 x4 x5 x6 x7 x8 x9 x10 x11 x12 x13 x14 x15 x16 x17) (k0_pay36 (F := Ideal) (place (BitVec.ofNat 32 (i 0).val)) (k0_pay51 i x0 x1 x2 x3 x4 x5 x6 x7 x8 x9 x10 x11 x12 x13 x14 x15 x16 x17) (View.ld x3 r0_1)
    (View.ld x4 r0_1) (View.ld x5 r0_18)) (k0_pay37 (F := Ideal) (place (BitVec.ofNat 32 (i 0).val)) (k0_pay43 i x0 x1 x2 x3 x4 x5 x6 x7 x8 x9 x10 x11 x12 x13 x14 x15 x16 x17) (k0_pay51 i x0 x1 x2 x3 x4 x5 x6 x7 x8 x9 x10 x11 x12 x13 x14 x15 x16 x17)
    (View.ld x3 r0_1) (View.ld x4 r0_1) (View.ld x5 r0_18)) (View.ld x13 r0_19) (View.ld x12 r0_20) (View.ld x12 r0_21) (View.ld x12 r0_22) k r
  refine h.trans ?_
  rw [before_apply, after_apply, near_before, near_after, hn]
  simp only [place_first, place_last, own_apply]
  pointwise []

end Cert.Kernel2Ideal.Body
-- ==== Proof.Rotations.lean ====
/- A slot of the queries or of the keys, and the short filter, as sums over the lanes of a row. -/
module

public import proofs.«01_k».proof.Proof.Projections

@[expose] public section

noncomputable section

namespace Cert.Projections

open Idealize.ShloMosaic Cert.Rows

theorem scale_real : ∃ s : ℝ, 0 ≤ s ∧ scale = (s : EReal) := by
  refine ⟨9881408 * (2 ^ 26)⁻¹, by positivity, ?_⟩
  unfold scale
  simp [Ideal.ofBits, Ideal.ieee]

theorem scale_nonneg : 0 ≤ scale := by
  obtain ⟨s, hs, h⟩ := scale_real
  rw [h]
  exact_mod_cast hs

theorem scale_ne_top : scale ≠ ⊤ := by
  obtain ⟨s, -, h⟩ := scale_real
  rw [h]
  exact EReal.coe_ne_top s

/-- A query's slot from the product at a lane and the one at the lane of the other half. -/
theorem querySlot_lanes (q : Fin 96 → EReal) (cs sn : Fin 16 → EReal) (e : Fin 128) (A B : EReal)
    (hA : ∀ h : e.val < 96, A = q ⟨e, h⟩)
    (hB : ∀ (_h : 64 ≤ e.val) (h' : e.val < 80), B = q ⟨e + 16, by omega⟩)
    (hC : ∀ (_h : 80 ≤ e.val) (h' : e.val < 96), B = q ⟨e - 16, by omega⟩) :
    A * lanes scale (fun f => scale * cs f) (fun f => scale * cs f) e + B * lanes 0 (fun f => scale * -sn f) (fun f => scale * sn f) e
      = querySlot q cs sn e := by
  have move : ∀ a b : EReal, a * (scale * b) = a * b * scale := fun a b => by rw [mul_comm scale b, mul_assoc]
  unfold querySlot
  by_cases h1 : e.val < 64
  · rw [lanes_own _ _ _ _ h1, lanes_own _ _ _ _ h1, dif_pos h1, hA (by omega), mul_zero, add_zero]
  by_cases h2 : e.val < 80
  · rw [lanes_first _ _ _ _ (by omega) h2, lanes_first _ _ _ _ (by omega) h2, dif_neg h1, dif_pos h2, hA (by omega), hB (by omega) h2,
      move, move, mul_neg, ← EReal.right_distrib_of_nonneg_of_ne_top scale_nonneg scale_ne_top, ← sub_eq_add_neg]
  by_cases h3 : e.val < 96
  · rw [lanes_second _ _ _ _ (by omega) h3, lanes_second _ _ _ _ (by omega) h3, dif_neg h1, dif_neg h2, dif_pos h3, hA h3, hC (by omega) h3,
      move, move, ← EReal.right_distrib_of_nonneg_of_ne_top scale_nonneg scale_ne_top, add_comm]
  · rw [lanes_none _ _ _ _ (by omega), lanes_none _ _ _ _ (by omega), dif_neg h1, dif_neg h2, dif_neg h3, mul_zero, mul_zero, add_zero]

/-- A key's slot from a head's own columns and the shared columns, as they are and with their halves exchanged. -/
theorem keySlot_lanes (n : Fin 64 → EReal) (k : Fin 32 → EReal) (cs sn : Fin 16 → EReal) (e : Fin 128) (A B C : EReal)
    (hA : A = if h : e.val < 64 then n ⟨e, h⟩ else 0)
    (hB : ∀ (_h : 64 ≤ e.val) (h' : e.val < 96), B = k ⟨e - 64, by omega⟩)
    (hC : ∀ (_h : 64 ≤ e.val) (h' : e.val < 80), C = k ⟨e - 48, by omega⟩)
    (hD : ∀ (_h : 80 ≤ e.val) (h' : e.val < 96), C = k ⟨e - 80, by omega⟩) :
    A + (B * lanes 0 (fun f => cs f) (fun f => cs f) e + C * lanes 0 (fun f => -sn f) (fun f => sn f) e) = keySlot n k cs sn e := by
  rw [hA]
  unfold keySlot
  by_cases h1 : e.val < 64
  · rw [lanes_own _ _ _ _ h1, lanes_own _ _ _ _ h1, dif_pos h1, dif_pos h1, mul_zero, mul_zero, add_zero, add_zero]
  by_cases h2 : e.val < 80
  · rw [lanes_first _ _ _ _ (by omega) h2, lanes_first _ _ _ _ (by omega) h2, dif_neg h1, dif_neg h1, dif_pos h2, hB (by omega) (by omega),
      hC (by omega) h2, zero_add, mul_neg, ← sub_eq_add_neg]
  by_cases h3 : e.val < 96
  · rw [lanes_second _ _ _ _ (by omega) h3, lanes_second _ _ _ _ (by omega) h3, dif_neg h1, dif_neg h1, dif_neg h2, dif_pos h3, hB (by omega) h3,
      hD (by omega) h3, zero_add, add_comm]
  · rw [lanes_none _ _ _ _ (by omega), lanes_none _ _ _ _ (by omega), dif_neg h1, dif_neg h1, dif_neg h2, dif_neg h3, mul_zero, mul_zero, add_zero, add_zero]

/-- The short filter on a tile of 256 positions, from the tile's own columns and the two beside it. -/
theorem taps_tile (b : EReal) (w : Fin 3 → EReal) (u : Fin 4096 → EReal) (j : ℕ) (hj : j < 16) (r : Fin 256) (own : Fin 256 → EReal) (before after : EReal)
    (hO : ∀ r : Fin 256, own r = u ⟨j * 256 + r, by omega⟩)
    (hB : ∀ h : 0 < j, before = u ⟨j * 256 - 1, by omega⟩)
    (hA : ∀ h : j < 15, after = u ⟨j * 256 + 256, by omega⟩) :
    b + (if r.val = 0 then (if 0 < j then before else 0) else own ⟨r.val - 1, by omega⟩) * w 0 + own r * w 1
        + (if r.val = 255 then (if j < 15 then after else 0) else own ⟨(r.val + 1) % 256, by omega⟩) * w 2
      = taps b w u ⟨j * 256 + r, by omega⟩ := by
  have first : (if r.val = 0 then (if 0 < j then before else 0) else own ⟨r.val - 1, by omega⟩)
      = if h : 0 < j * 256 + r.val then u ⟨j * 256 + r.val - 1, by omega⟩ else 0 := by
    by_cases h0 : r.val = 0
    · by_cases h1 : 0 < j
      · rw [if_pos h0, if_pos h1, dif_pos (by omega), hB h1]
        exact congrArg u (Fin.ext (by simp only []; omega))
      · rw [if_pos h0, if_neg h1, dif_neg (by omega)]
    · rw [if_neg h0, dif_pos (by omega), hO]
      exact congrArg u (Fin.ext (by simp only []; omega))
  have last : (if r.val = 255 then (if j < 15 then after else 0) else own ⟨(r.val + 1) % 256, by omega⟩)
      = if h : j * 256 + r.val + 1 < 4096 then u ⟨j * 256 + r.val + 1, h⟩ else 0 := by
    by_cases h0 : r.val = 255
    · by_cases h1 : j < 15
      · rw [if_pos h0, if_pos h1, dif_pos (by omega), hA h1]
        exact congrArg u (Fin.ext (by simp only []; omega))
      · rw [if_pos h0, if_neg h1, dif_neg (by omega)]
    · rw [if_neg h0, dif_pos (by omega), hO]
      exact congrArg u (Fin.ext (by simp only []; omega))
  rw [first, last, hO]
  rfl

end Cert.Projections

end
-- ==== Proof.Projected.lean ====
/- The four results of the projections, as the arguments give them at one position. -/
module

public import proofs.«01_k».proof.Proof.Rotations

@[expose] public section

noncomputable section

namespace Cert.Projections

open Idealize.ShloMosaic Cert.Rows

variable (x : Fin 16 → Fin 4096 → Fin 1024 → EReal) (g o : Fin 1024 → EReal) (w : Fin 1024 → Fin 1952 → EReal)

/-- A column of the input projection. -/
def joined (b : Fin 16) (i : Fin 4096) (k : Fin 1952) : EReal := ∑ d : Fin 1024, layerNorm (x b i) g o d * w d k

/-- A head's query before the rotation. -/
def queryHead (gq : Fin 256 → EReal) (wq : Fin 256 → Fin 768 → EReal) (b : Fin 16) (i : Fin 4096) (h : Fin 8) (e : Fin 96) : EReal :=
  ∑ k : Fin 256, rmsNorm (Ideal.ofBits FTy.f32 0x43800000#32) (fun k : Fin 256 => joined x g o w b i ⟨k, by omega⟩) gq k * wq k ⟨h * 96 + e, by omega⟩

/-- A head's key and value. -/
def keyHead (gk : Fin 128 → EReal) (wk : Fin 128 → Fin 1024 → EReal) (b : Fin 16) (i : Fin 4096) (h : Fin 8) (e : Fin 128) : EReal :=
  ∑ k : Fin 128, rmsNorm (Ideal.ofBits FTy.f32 0x43000000#32) (fun k : Fin 128 => joined x g o w b i ⟨256 + k, by omega⟩) gk k * wk k ⟨h * 128 + e, by omega⟩

/-- The queries in their slots. -/
def queryAt (gq : Fin 256 → EReal) (wq : Fin 256 → Fin 768 → EReal) (b : Fin 16) (i : Fin 4096) (h : Fin 8) (e : Fin 128) : EReal :=
  querySlot (queryHead x g o w gq wq b i h) (cosine i) (sine i) e

/-- The keys in their slots. -/
def keyAt (gk : Fin 128 → EReal) (wk : Fin 128 → Fin 1024 → EReal) (b : Fin 16) (i : Fin 4096) (h : Fin 8) (e : Fin 128) : EReal :=
  keySlot (fun e => keyHead x g o w gk wk b i h ⟨e, by omega⟩) (fun e => joined x g o w b i ⟨384 + e, by omega⟩) (cosine i) (sine i) e

/-- The values. -/
def valueAt (gk : Fin 128 → EReal) (wk : Fin 128 → Fin 1024 → EReal) (b : Fin 16) (i : Fin 4096) (h : Fin 8) (e : Fin 64) : EReal :=
  keyHead x g o w gk wk b i h ⟨64 + e, by omega⟩

/-- The filtered columns. -/
def filteredAt (cw : Fin 3 → Fin 1536 → EReal) (cb : Fin 1536 → EReal) (b : Fin 16) (i : Fin 4096) (k : Fin 1536) : EReal :=
  taps (cb k) (fun t => cw t k) (fun i => joined x g o w b i ⟨416 + k, by omega⟩) i

end Cert.Projections

end
-- ==== Proof.Kernel2Ideal.Steps.lean ====
/- What one step of the projecting call leaves for each result, as the arguments give it. -/
module

public import proofs.«01_k».proof.Proof.Kernel2Ideal.Blocks
public import proofs.«01_k».proof.Proof.Kernel2Ideal.Filter
public import proofs.«01_k».proof.Proof.Projected

@[expose] public section

set_option maxRecDepth 16384

noncomputable section

namespace Cert.Kernel2Ideal.Body

open Cert.Kernel2Ideal Cert.Kernel2Ideal.Gen
open Idealize.ShloMosaic Idealize.ShloMosaic.TcCoe Idealize.ShloMosaic.Tactic Idealize.SL.Sem

open Cert.Rows Cert.Projections

variable (m : (ℓ : Loc nD τ sig) → Buf (Elt Ideal) ℓ) (c : Dev nD) (n : ℕ)

/-! ## The columns of the first weights -/

theorem wall_latent (h : n < cfg0.N) (d : Fin 1024) (k : Fin 2176) (hk : k.val < 384) :
    ((iblk m c 5 ⟨n, h⟩ : Vec Ideal S1024x2176 .bf16) (ix2 d k) : EReal) = inWeight m c d ⟨k, by omega⟩ := by
  refine (blk_wall m c n h d k).trans ((op_wall m c d k).trans ?_)
  rw [dif_pos hk]

theorem wall_shared (h : n < cfg0.N) (d : Fin 1024) (k : Fin 2176) (e : Fin 128) (hk : k.val = 384 + e.val) (he : 64 ≤ e.val) (he' : e.val < 96) :
    ((iblk m c 5 ⟨n, h⟩ : Vec Ideal S1024x2176 .bf16) (ix2 d k) : EReal) = inWeight m c d ⟨384 + (e - 64), by omega⟩ := by
  refine (blk_wall m c n h d k).trans ((op_wall m c d k).trans ?_)
  rw [dif_neg (show ¬k.val < 384 by omega), dif_pos (show k.val - 384 < 128 by omega), dif_pos (show 64 ≤ k.val - 384 ∧ k.val - 384 - 64 < 32 by omega)]
  exact congrArg (inWeight m c d) (Fin.ext (by simp only []; omega))

theorem wall_first (h : n < cfg0.N) (d : Fin 1024) (k : Fin 2176) (e : Fin 128) (hk : k.val = 512 + e.val) (he : 64 ≤ e.val) (he' : e.val < 80) :
    ((iblk m c 5 ⟨n, h⟩ : Vec Ideal S1024x2176 .bf16) (ix2 d k) : EReal) = inWeight m c d ⟨384 + (e - 48), by omega⟩ := by
  refine (blk_wall m c n h d k).trans ((op_wall m c d k).trans ?_)
  rw [dif_neg (show ¬k.val < 384 by omega), dif_neg (show ¬k.val - 384 < 128 by omega), dif_pos (show k.val - 384 - 128 < 128 by omega),
    dif_pos (show 64 ≤ k.val - 384 - 128 ∧ k.val - 384 - 128 - 64 < 32 by omega), dif_pos (show k.val - 384 - 128 - 64 < 16 by omega)]
  exact congrArg (inWeight m c d) (Fin.ext (by simp only []; omega))

theorem wall_second (h : n < cfg0.N) (d : Fin 1024) (k : Fin 2176) (e : Fin 128) (hk : k.val = 512 + e.val) (he : 80 ≤ e.val) (he' : e.val < 96) :
    ((iblk m c 5 ⟨n, h⟩ : Vec Ideal S1024x2176 .bf16) (ix2 d k) : EReal) = inWeight m c d ⟨384 + (e - 80), by omega⟩ := by
  refine (blk_wall m c n h d k).trans ((op_wall m c d k).trans ?_)
  rw [dif_neg (show ¬k.val < 384 by omega), dif_neg (show ¬k.val - 384 < 128 by omega), dif_pos (show k.val - 384 - 128 < 128 by omega),
    dif_pos (show 64 ≤ k.val - 384 - 128 ∧ k.val - 384 - 128 - 64 < 32 by omega), dif_neg (show ¬k.val - 384 - 128 - 64 < 16 by omega)]
  exact congrArg (inWeight m c d) (Fin.ext (by simp only []; omega))

theorem wall_hyena (h : n < cfg0.N) (d : Fin 1024) (k : Fin 2176) (j : Fin 1536) (hk : k.val = 640 + j.val) :
    ((iblk m c 5 ⟨n, h⟩ : Vec Ideal S1024x2176 .bf16) (ix2 d k) : EReal) = inWeight m c d ⟨416 + j, by omega⟩ := by
  refine (blk_wall m c n h d k).trans ((op_wall m c d k).trans ?_)
  rw [dif_neg (show ¬k.val < 384 by omega), dif_neg (show ¬k.val - 384 < 128 by omega), dif_neg (show ¬k.val - 384 - 128 < 128 by omega)]
  exact congrArg (inWeight m c d) (Fin.ext (by simp only []; omega))

/-! ## The rows of a step -/

/-- The columns of the input projection, from a device's memory. -/
def joinedOf (b : Fin 16) (i : Fin 4096) (k : Fin 1952) : EReal := joined (inputs m c) (embGain m c) (embOffset m c) (inWeight m c) b i k

theorem own_of (hn : n < 256) (h : n < cfg0.N) (r : Fin 256) (k : Fin 2176) (j : Fin 1952)
    (hk : ∀ d : Fin 1024, ((iblk m c 5 ⟨n, h⟩ : Vec Ideal S1024x2176 .bf16) (ix2 d k) : EReal) = inWeight m c d j) :
    own (iblk m c 0 ⟨n, h⟩) (iblk m c 3 ⟨n, h⟩) (iblk m c 4 ⟨n, h⟩) (iblk m c 5 ⟨n, h⟩) r k = joinedOf m c ⟨n / 16, by omega⟩ ⟨n % 16 * 256 + r, by omega⟩ j := by
  unfold own column normRow joinedOf joined
  simp only [hk, blk_x m c n hn h, blk_lg m c n h, blk_lb m c n h]

theorem beside_before (hn : n < 256) (h : n < cfg0.N) (h0 : 0 < n % 16) (k : Fin 1536) :
    beside (iblk m c 1 ⟨n, h⟩) (iblk m c 3 ⟨n, h⟩) (iblk m c 4 ⟨n, h⟩) (iblk m c 5 ⟨n, h⟩) 7 k
      = joinedOf m c ⟨n / 16, by omega⟩ ⟨n % 16 * 256 - 1, by omega⟩ ⟨416 + k, by omega⟩ := by
  unfold beside column normRow joinedOf joined
  simp only [fun d => wall_hyena m c n h d ⟨640 + k.val, by omega⟩ k rfl, blk_before m c n hn h h0, blk_lg m c n h, blk_lb m c n h]

theorem beside_after (hn : n < 256) (h : n < cfg0.N) (h0 : n % 16 < 15) (k : Fin 1536) :
    beside (iblk m c 2 ⟨n, h⟩) (iblk m c 3 ⟨n, h⟩) (iblk m c 4 ⟨n, h⟩) (iblk m c 5 ⟨n, h⟩) 0 k
      = joinedOf m c ⟨n / 16, by omega⟩ ⟨n % 16 * 256 + 256, by omega⟩ ⟨416 + k, by omega⟩ := by
  unfold beside column normRow joinedOf joined
  simp only [fun d => wall_hyena m c n h d ⟨640 + k.val, by omega⟩ k rfl, blk_after m c n hn h h0, blk_lg m c n h, blk_lb m c n h]

theorem queryRow_of (hn : n < 256) (h : n < cfg0.N) (r : Fin 256) (l : Fin 256) :
    queryRow (iblk m c 0 ⟨n, h⟩) (iblk m c 3 ⟨n, h⟩) (iblk m c 4 ⟨n, h⟩) (iblk m c 5 ⟨n, h⟩) (iblk m c 6 ⟨n, h⟩) r l
      = rmsNorm (Ideal.ofBits FTy.f32 0x43800000#32) (fun l : Fin 256 => joinedOf m c ⟨n / 16, by omega⟩ ⟨n % 16 * 256 + r, by omega⟩ ⟨l, by omega⟩) (queryGain m c) l := by
  have e : ∀ l : Fin 256, own (iblk m c 0 ⟨n, h⟩) (iblk m c 3 ⟨n, h⟩) (iblk m c 4 ⟨n, h⟩) (iblk m c 5 ⟨n, h⟩) r ⟨l.val, by omega⟩ = joinedOf m c ⟨n / 16, by omega⟩ ⟨n % 16 * 256 + r, by omega⟩ ⟨l, by omega⟩ :=
    fun l => own_of m c n hn h r _ _ fun d => wall_latent m c n h d _ (by simp only []; omega)
  unfold queryRow
  simp only [e, blk_gq m c n h]

theorem keyRow_of (hn : n < 256) (h : n < cfg0.N) (r : Fin 256) (l : Fin 128) :
    keyRow (iblk m c 0 ⟨n, h⟩) (iblk m c 3 ⟨n, h⟩) (iblk m c 4 ⟨n, h⟩) (iblk m c 5 ⟨n, h⟩) (iblk m c 9 ⟨n, h⟩) r l
      = rmsNorm (Ideal.ofBits FTy.f32 0x43000000#32) (fun l : Fin 128 => joinedOf m c ⟨n / 16, by omega⟩ ⟨n % 16 * 256 + r, by omega⟩ ⟨256 + l, by omega⟩) (keyGain m c) l := by
  have e : ∀ l : Fin 128, own (iblk m c 0 ⟨n, h⟩) (iblk m c 3 ⟨n, h⟩) (iblk m c 4 ⟨n, h⟩) (iblk m c 5 ⟨n, h⟩) r ⟨256 + l.val, by omega⟩ = joinedOf m c ⟨n / 16, by omega⟩ ⟨n % 16 * 256 + r, by omega⟩ ⟨256 + l, by omega⟩ :=
    fun l => own_of m c n hn h r _ _ fun d => wall_latent m c n h d _ (by simp only []; omega)
  unfold keyRow
  simp only [e, blk_gkv m c n h]

/-! ## The results of a step -/

theorem queries_step (hn : n < 256) (h : n < cfg0.N) (r : Fin 256) (j : Fin 8) (e : Fin 128) :
    (out0_18 (F := Ideal) (grid0.coords ⟨n, h⟩) (iblk m c 0 ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩) (iblk m c 7 ⟨n, h⟩) (iblk m c 8 ⟨n, h⟩) (iblk m c 9 ⟨n, h⟩) (iblk m c 10 ⟨n, h⟩) (iblk m c 11 ⟨n, h⟩) (iblk m c 12 ⟨n, h⟩) (iblk m c 13 ⟨n, h⟩) (iblk m c 14 ⟨n, h⟩) (iblk m c 15 ⟨n, h⟩) (iblk m c 16 ⟨n, h⟩) (iblk m c 17 ⟨n, h⟩) (ix2 r ⟨j * 128 + e, by omega⟩) : EReal)
      = queryAt (inputs m c) (embGain m c) (embOffset m c) (inWeight m c) (queryGain m c) (queryWeight m c) ⟨n / 16, by omega⟩ ⟨n % 16 * 256 + r, by omega⟩ j e := by
  rw [queries_tile]
  unfold queryAt queryHead
  have hm : ∀ p : (⟨j.val * 128 + e.val, by omega⟩ : Fin 1024).val % 128 < 128, (⟨(⟨j.val * 128 + e.val, by omega⟩ : Fin 1024).val % 128, p⟩ : Fin 128) = e := fun _ => Fin.ext (by simp only []; omega)
  rw [hm, blk_cq m c n h, blk_sq m c n h]
  refine querySlot_lanes _ _ _ e _ _ (fun he => ?_) (fun he he' => ?_) (fun he he' => ?_)
  · refine Finset.sum_congr rfl fun l _ => ?_
    rw [queryRow_of m c n hn h, blk_wq m c n h, op_wq m c l j e he]
    rfl
  · refine Finset.sum_congr rfl fun l _ => ?_
    rw [queryRow_of m c n hn h, blk_wqs m c n h, op_wqs m c l j e ⟨he, by omega⟩, dif_pos he']
    rfl
  · refine Finset.sum_congr rfl fun l _ => ?_
    rw [queryRow_of m c n hn h, blk_wqs m c n h, op_wqs m c l j e ⟨by omega, he'⟩, dif_neg (by omega)]
    exact congrArg (fun z => rmsNorm (Ideal.ofBits FTy.f32 0x43800000#32) (fun l : Fin 256 => joinedOf m c ⟨n / 16, by omega⟩ ⟨n % 16 * 256 + r, by omega⟩ ⟨l, by omega⟩) (queryGain m c) l
      * queryWeight m c l z) (Fin.ext (by simp only []; omega))

theorem keys_step (hn : n < 256) (h : n < cfg0.N) (r : Fin 256) (j : Fin 8) (e : Fin 128) :
    (out0_19 (F := Ideal) (grid0.coords ⟨n, h⟩) (iblk m c 0 ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩) (iblk m c 7 ⟨n, h⟩) (iblk m c 8 ⟨n, h⟩) (iblk m c 9 ⟨n, h⟩) (iblk m c 10 ⟨n, h⟩) (iblk m c 11 ⟨n, h⟩) (iblk m c 12 ⟨n, h⟩) (iblk m c 13 ⟨n, h⟩) (iblk m c 14 ⟨n, h⟩) (iblk m c 15 ⟨n, h⟩) (iblk m c 16 ⟨n, h⟩) (iblk m c 17 ⟨n, h⟩) (ix2 r ⟨j * 128 + e, by omega⟩) : EReal)
      = keyAt (inputs m c) (embGain m c) (embOffset m c) (inWeight m c) (keyGain m c) (keyWeight m c) ⟨n / 16, by omega⟩ ⟨n % 16 * 256 + r, by omega⟩ j e := by
  rw [keys_tile]
  unfold keyAt keyHead
  have hv : (⟨j.val * 128 + e.val, by omega⟩ : Fin 1024).val % 128 = e.val := by simp only []; omega
  have hm : ∀ p : (⟨j.val * 128 + e.val, by omega⟩ : Fin 1024).val % 128 < 128, (⟨(⟨j.val * 128 + e.val, by omega⟩ : Fin 1024).val % 128, p⟩ : Fin 128) = e := fun _ => Fin.ext hv
  have h1 : ∀ p : 384 + (⟨j.val * 128 + e.val, by omega⟩ : Fin 1024).val % 128 < 2176, (⟨384 + (⟨j.val * 128 + e.val, by omega⟩ : Fin 1024).val % 128, p⟩ : Fin 2176) = ⟨384 + e.val, by omega⟩ := fun _ => Fin.ext (by simp only []; omega)
  have h2 : ∀ p : 512 + (⟨j.val * 128 + e.val, by omega⟩ : Fin 1024).val % 128 < 2176, (⟨512 + (⟨j.val * 128 + e.val, by omega⟩ : Fin 1024).val % 128, p⟩ : Fin 2176) = ⟨512 + e.val, by omega⟩ := fun _ => Fin.ext (by simp only []; omega)
  rw [hm, h1, h2, blk_ck m c n h, blk_sk m c n h]
  refine keySlot_lanes _ _ _ _ e _ _ _ ?_ (fun he he' => ?_) (fun he he' => ?_) (fun he he' => ?_)
  · by_cases he : e.val < 64
    · rw [dif_pos he]
      refine Finset.sum_congr rfl fun l _ => ?_
      rw [keyRow_of m c n hn h, blk_wk m c n h, op_wk m c l j e, dif_pos he]
      rfl
    · rw [dif_neg he]
      refine Finset.sum_eq_zero fun l _ => ?_
      rw [blk_wk m c n h, op_wk m c l j e, dif_neg he, mul_zero]
  · exact own_of m c n hn h r _ _ fun d => wall_shared m c n h d _ e rfl he he'
  · exact own_of m c n hn h r _ _ fun d => wall_first m c n h d _ e rfl he he'
  · exact own_of m c n hn h r _ _ fun d => wall_second m c n h d _ e rfl he he'

theorem values_step (hn : n < 256) (h : n < cfg0.N) (j : Fin 8) (e : Fin 64) (r : Fin 256) :
    (out0_20 (F := Ideal) (grid0.coords ⟨n, h⟩) (iblk m c 0 ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩) (iblk m c 7 ⟨n, h⟩) (iblk m c 8 ⟨n, h⟩) (iblk m c 9 ⟨n, h⟩) (iblk m c 10 ⟨n, h⟩) (iblk m c 11 ⟨n, h⟩) (iblk m c 12 ⟨n, h⟩) (iblk m c 13 ⟨n, h⟩) (iblk m c 14 ⟨n, h⟩) (iblk m c 15 ⟨n, h⟩) (iblk m c 16 ⟨n, h⟩) (iblk m c 17 ⟨n, h⟩) (ix2 ⟨j * 64 + e, by omega⟩ r) : EReal)
      = valueAt (inputs m c) (embGain m c) (embOffset m c) (inWeight m c) (keyGain m c) (keyWeight m c) ⟨n / 16, by omega⟩ ⟨n % 16 * 256 + r, by omega⟩ j e := by
  rw [values_tile]
  unfold valueAt keyHead
  refine Finset.sum_congr rfl fun l _ => ?_
  rw [keyRow_of m c n hn h, blk_wv m c n h, op_wv m c l j e, mul_comm]
  rfl

theorem filtered_step (hn : n < 256) (h : n < cfg0.N) (k : Fin 1536) (r : Fin 256) :
    (out0_21 (F := Ideal) (grid0.coords ⟨n, h⟩) (iblk m c 0 ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩) (iblk m c 7 ⟨n, h⟩) (iblk m c 8 ⟨n, h⟩) (iblk m c 9 ⟨n, h⟩) (iblk m c 10 ⟨n, h⟩) (iblk m c 11 ⟨n, h⟩) (iblk m c 12 ⟨n, h⟩) (iblk m c 13 ⟨n, h⟩) (iblk m c 14 ⟨n, h⟩) (iblk m c 15 ⟨n, h⟩) (iblk m c 16 ⟨n, h⟩) (iblk m c 17 ⟨n, h⟩) (ix2 k r) : EReal)
      = filteredAt (inputs m c) (embGain m c) (embOffset m c) (inWeight m c) (tapWeight m c) (tapOffset m c) ⟨n / 16, by omega⟩ ⟨n % 16 * 256 + r, by omega⟩ k := by
  rw [filtered_tile (grid0.coords ⟨n, h⟩) (iblk m c 0 ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩) (iblk m c 7 ⟨n, h⟩) (iblk m c 8 ⟨n, h⟩) (iblk m c 9 ⟨n, h⟩) (iblk m c 10 ⟨n, h⟩) (iblk m c 11 ⟨n, h⟩) (iblk m c 12 ⟨n, h⟩) (iblk m c 13 ⟨n, h⟩) (iblk m c 14 ⟨n, h⟩) (iblk m c 15 ⟨n, h⟩) (iblk m c 16 ⟨n, h⟩) (iblk m c 17 ⟨n, h⟩) ⟨n, hn⟩ (coords_eq ⟨n, h⟩), blk_cb m c n h, blk_cw m c n h, blk_cw m c n h, blk_cw m c n h, op_cw, op_cw, op_cw]
  exact taps_tile (tapOffset m c k) (fun t => tapWeight m c t k) (fun i => joinedOf m c ⟨n / 16, by omega⟩ i ⟨416 + k, by omega⟩) (n % 16) (by omega) r
    (fun r => own (iblk m c 0 ⟨n, h⟩) (iblk m c 3 ⟨n, h⟩) (iblk m c 4 ⟨n, h⟩) (iblk m c 5 ⟨n, h⟩) r ⟨640 + k.val, by omega⟩) _ _
    (fun r => own_of m c n hn h r _ _ fun d => wall_hyena m c n h d _ k rfl)
    (fun h0 => beside_before m c n hn h h0 k) (fun h0 => beside_after m c n hn h h0 k)

end Cert.Kernel2Ideal.Body

end
-- ==== Proof.Kernel2Ideal.Value.lean ====
/- The projecting call's results after the run: queries and keys in their slots, the values and the filtered columns. -/
module

public import proofs.«01_k».proof.Proof.Kernel2Ideal.Steps
public import Idealize.ShloMosaic.Lib.Pipeline.ValueKit

@[expose] public section

set_option maxRecDepth 16384

noncomputable section

namespace Cert.Kernel2Ideal.Body

open Cert.Kernel2Ideal Cert.Kernel2Ideal.Gen
open Idealize.ShloMosaic Idealize.ShloMosaic.TcCoe Idealize.ShloMosaic.Tactic Idealize.SL.Sem
open Cert.Rows Cert.Projections

variable (m : (ℓ : Loc nD τ sig) → Buf (Elt Ideal) ℓ) (ρ : Dev nD → PrngReg)

/-! ## The results at the coordinates of the arrays -/

/-- The queries at a row and a lane of all heads. -/
def queriesOf (c : Dev nD) (R : Fin 65536) (K : Fin 1024) : EReal :=
  queryAt (inputs m c) (embGain m c) (embOffset m c) (inWeight m c) (queryGain m c) (queryWeight m c) ⟨R / 4096, by omega⟩ ⟨R % 4096, by omega⟩ ⟨K / 128, by omega⟩ ⟨K % 128, by omega⟩

/-- The keys at a row and a lane of all heads. -/
def keysOf (c : Dev nD) (R : Fin 65536) (K : Fin 1024) : EReal :=
  keyAt (inputs m c) (embGain m c) (embOffset m c) (inWeight m c) (keyGain m c) (keyWeight m c) ⟨R / 4096, by omega⟩ ⟨R % 4096, by omega⟩ ⟨K / 128, by omega⟩ ⟨K % 128, by omega⟩

/-- The values at a channel of all heads and a row. -/
def valuesOf (c : Dev nD) (K : Fin 512) (R : Fin 65536) : EReal :=
  valueAt (inputs m c) (embGain m c) (embOffset m c) (inWeight m c) (keyGain m c) (keyWeight m c) ⟨R / 4096, by omega⟩ ⟨R % 4096, by omega⟩ ⟨K / 64, by omega⟩ ⟨K % 64, by omega⟩

/-- The filtered columns at a channel and a column of the array, which runs over position blocks, sequences and positions in the block. -/
def filteredOf (c : Dev nD) (K : Fin 1536) (R : Fin 65536) : EReal :=
  filteredAt (inputs m c) (embGain m c) (embOffset m c) (inWeight m c) (tapWeight m c) (tapOffset m c) ⟨R / 256 % 16, by omega⟩ ⟨R / 4096 * 256 + R % 256, by omega⟩ K

def result0 (c : Dev nD) : Buf (Elt Ideal) ((c : Thread nD τ).loc main_v81_0) :=
  (fun i : S65536x1024.Idx => (queriesOf m c (i 0) (i 1) : EReal) : Vec Ideal S65536x1024 .bf16)

def result1 (c : Dev nD) : Buf (Elt Ideal) ((c : Thread nD τ).loc main_v81_1) :=
  (fun i : S65536x1024.Idx => (keysOf m c (i 0) (i 1) : EReal) : Vec Ideal S65536x1024 .bf16)

def result2 (c : Dev nD) : Buf (Elt Ideal) ((c : Thread nD τ).loc main_v81_2) :=
  (fun i : S512x65536.Idx => (valuesOf m c (i 0) (i 1) : EReal) : Vec Ideal S512x65536 .bf16)

def result3 (c : Dev nD) : Buf (Elt Ideal) ((c : Thread nD τ).loc main_v81_3) :=
  (fun i : S1536x65536.Idx => (filteredOf m c (i 0) (i 1) : EReal) : Vec Ideal S1536x65536 .bf16)

/-! ## The arrays after the run -/

theorem queriesOf_at (c : Dev nD) (n : ℕ) (hn : n < 256) (r : Fin 256) (j : Fin 8) (e : Fin 128) :
    queriesOf m c ⟨n * 256 + r, by omega⟩ ⟨j * 128 + e, by omega⟩ = queryAt (inputs m c) (embGain m c) (embOffset m c) (inWeight m c) (queryGain m c) (queryWeight m c) ⟨n / 16, by omega⟩ ⟨n % 16 * 256 + r, by omega⟩ j e := by
  have e1 : (n * 256 + r.val) / 4096 = n / 16 := by omega
  have e2 : (n * 256 + r.val) % 4096 = n % 16 * 256 + r.val := by omega
  have e3 : (j.val * 128 + e.val) / 128 = j.val := by omega
  have e4 : (j.val * 128 + e.val) % 128 = e.val := by omega
  unfold queriesOf
  simp only [e1, e2, e3, e4, Fin.eta]

theorem keysOf_at (c : Dev nD) (n : ℕ) (hn : n < 256) (r : Fin 256) (j : Fin 8) (e : Fin 128) :
    keysOf m c ⟨n * 256 + r, by omega⟩ ⟨j * 128 + e, by omega⟩ = keyAt (inputs m c) (embGain m c) (embOffset m c) (inWeight m c) (keyGain m c) (keyWeight m c) ⟨n / 16, by omega⟩ ⟨n % 16 * 256 + r, by omega⟩ j e := by
  have e1 : (n * 256 + r.val) / 4096 = n / 16 := by omega
  have e2 : (n * 256 + r.val) % 4096 = n % 16 * 256 + r.val := by omega
  have e3 : (j.val * 128 + e.val) / 128 = j.val := by omega
  have e4 : (j.val * 128 + e.val) % 128 = e.val := by omega
  unfold keysOf
  simp only [e1, e2, e3, e4, Fin.eta]

theorem valuesOf_at (c : Dev nD) (n : ℕ) (hn : n < 256) (r : Fin 256) (j : Fin 8) (e : Fin 64) :
    valuesOf m c ⟨j * 64 + e, by omega⟩ ⟨n * 256 + r, by omega⟩ = valueAt (inputs m c) (embGain m c) (embOffset m c) (inWeight m c) (keyGain m c) (keyWeight m c) ⟨n / 16, by omega⟩ ⟨n % 16 * 256 + r, by omega⟩ j e := by
  have e1 : (n * 256 + r.val) / 4096 = n / 16 := by omega
  have e2 : (n * 256 + r.val) % 4096 = n % 16 * 256 + r.val := by omega
  have e3 : (j.val * 64 + e.val) / 64 = j.val := by omega
  have e4 : (j.val * 64 + e.val) % 64 = e.val := by omega
  unfold valuesOf
  simp only [e1, e2, e3, e4, Fin.eta]

theorem filteredOf_at (c : Dev nD) (n : ℕ) (hn : n < 256) (r : Fin 256) (K : Fin 1536) :
    filteredOf m c K ⟨(n % 16 * 16 + n / 16) * 256 + r, by omega⟩
      = filteredAt (inputs m c) (embGain m c) (embOffset m c) (inWeight m c) (tapWeight m c) (tapOffset m c) ⟨n / 16, by omega⟩ ⟨n % 16 * 256 + r, by omega⟩ K := by
  have e1 : ((n % 16 * 16 + n / 16) * 256 + r.val) / 256 % 16 = n / 16 := by omega
  have e2 : ((n % 16 * 16 + n / 16) * 256 + r.val) / 4096 * 256 + ((n % 16 * 16 + n / 16) * 256 + r.val) % 256 = n % 16 * 256 + r.val := by omega
  unfold filteredOf
  simp only [e1, e2]

theorem arr0_eq (c : Dev nD) : (dats m 0 c).arrAt 18 cfg0.N = result0 m c := by
  refine (dats m 0 c).arrAt_eq_of_covers 18 _ covers_o0 fun t hf y => ?_
  obtain ⟨n, ht⟩ := t
  have hn : n < 256 := lt_of_lt_of_eq ht N_0
  have e0 : win0_18.index ⟨n, ht⟩ 0 = n := (index_o0 ⟨n, ht⟩).1
  have e1 : win0_18.index ⟨n, ht⟩ 1 = 0 := (index_o0 ⟨n, ht⟩).2
  blk_simp
  rw [after0_18]
  obtain ⟨r, x, rfl⟩ : ∃ (r : Fin 256) (x : Fin 1024), y = ix2 r x := ⟨y 0, y 1, eq_ix2 y⟩
  obtain ⟨j, e, rfl⟩ : ∃ (j : Fin 8) (e : Fin 128), x = ⟨j * 128 + e, by omega⟩ :=
    ⟨⟨x / 128, by omega⟩, ⟨x % 128, by omega⟩, Fin.ext (by simp only []; omega)⟩
  refine (queries_step m c n hn ht r j e).trans ((queriesOf_at m c n hn r j e).symm.trans ?_)
  unfold result0
  refine congrArg₂ (queriesOf m c) (Fin.ext ?_) (Fin.ext ?_)
  · blk_simp [e0]
  · blk_simp [e1]

theorem arr1_eq (c : Dev nD) : (dats m 0 c).arrAt 19 cfg0.N = result1 m c := by
  refine (dats m 0 c).arrAt_eq_of_covers 19 _ covers_o1 fun t hf y => ?_
  obtain ⟨n, ht⟩ := t
  have hn : n < 256 := lt_of_lt_of_eq ht N_0
  have e0 : win0_19.index ⟨n, ht⟩ 0 = n := (index_o1 ⟨n, ht⟩).1
  have e1 : win0_19.index ⟨n, ht⟩ 1 = 0 := (index_o1 ⟨n, ht⟩).2
  blk_simp
  rw [after0_19]
  obtain ⟨r, x, rfl⟩ : ∃ (r : Fin 256) (x : Fin 1024), y = ix2 r x := ⟨y 0, y 1, eq_ix2 y⟩
  obtain ⟨j, e, rfl⟩ : ∃ (j : Fin 8) (e : Fin 128), x = ⟨j * 128 + e, by omega⟩ :=
    ⟨⟨x / 128, by omega⟩, ⟨x % 128, by omega⟩, Fin.ext (by simp only []; omega)⟩
  refine (keys_step m c n hn ht r j e).trans ((keysOf_at m c n hn r j e).symm.trans ?_)
  unfold result1
  refine congrArg₂ (keysOf m c) (Fin.ext ?_) (Fin.ext ?_)
  · blk_simp [e0]
  · blk_simp [e1]

theorem arr2_eq (c : Dev nD) : (dats m 0 c).arrAt 20 cfg0.N = result2 m c := by
  refine (dats m 0 c).arrAt_eq_of_covers 20 _ covers_o2 fun t hf y => ?_
  obtain ⟨n, ht⟩ := t
  have hn : n < 256 := lt_of_lt_of_eq ht N_0
  have e0 : win0_20.index ⟨n, ht⟩ 0 = 0 := (index_o2 ⟨n, ht⟩).1
  have e1 : win0_20.index ⟨n, ht⟩ 1 = n := (index_o2 ⟨n, ht⟩).2
  blk_simp
  rw [after0_20]
  obtain ⟨x, r, rfl⟩ : ∃ (x : Fin 512) (r : Fin 256), y = ix2 x r := ⟨y 0, y 1, eq_ix2 y⟩
  obtain ⟨j, e, rfl⟩ : ∃ (j : Fin 8) (e : Fin 64), x = ⟨j * 64 + e, by omega⟩ :=
    ⟨⟨x / 64, by omega⟩, ⟨x % 64, by omega⟩, Fin.ext (by simp only []; omega)⟩
  refine (values_step m c n hn ht j e r).trans ((valuesOf_at m c n hn r j e).symm.trans ?_)
  unfold result2
  refine congrArg₂ (valuesOf m c) (Fin.ext ?_) (Fin.ext ?_)
  · blk_simp [e0]
  · blk_simp [e1]

theorem arr3_eq (c : Dev nD) : (dats m 0 c).arrAt 21 cfg0.N = result3 m c := by
  refine (dats m 0 c).arrAt_eq_of_covers 21 _ covers_o3 fun t hf y => ?_
  obtain ⟨n, ht⟩ := t
  have hn : n < 256 := lt_of_lt_of_eq ht N_0
  have e0 : win0_21.index ⟨n, ht⟩ 0 = 0 := (index_o3 ⟨n, ht⟩).1
  have e1 : win0_21.index ⟨n, ht⟩ 1 = n % 16 * 16 + n / 16 := (index_o3 ⟨n, ht⟩).2
  blk_simp
  rw [after0_21]
  obtain ⟨x, r, rfl⟩ : ∃ (x : Fin 1536) (r : Fin 256), y = ix2 x r := ⟨y 0, y 1, eq_ix2 y⟩
  refine (filtered_step m c n hn ht x r).trans ((filteredOf_at m c n hn r x).symm.trans ?_)
  unfold result3
  refine congrArg₂ (filteredOf m c) (Fin.ext ?_) (Fin.ext ?_)
  · blk_simp [e0]
  · blk_simp [e1]

theorem run_result : θ_run defs (onTc (τ := τ) (main (F := Ideal))) ⟨m, fun _ => 0, ρ⟩ fun r => ∀ c : Dev nD,
      r.2.mem ((c.tc : Thread nD τ).loc main_v81_0) = result0 m c
      ∧ r.2.mem ((c.tc : Thread nD τ).loc main_v81_1) = result1 m c
      ∧ r.2.mem ((c.tc : Thread nD τ).loc main_v81_2) = result2 m c
      ∧ r.2.mem ((c.tc : Thread nD τ).loc main_v81_3) = result3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.1.trans (arr0_eq m c), (h c).1.2.1.trans (arr1_eq m c), (h c).1.2.2.1.trans (arr2_eq m c),
      (h c).1.2.2.2.trans (arr3_eq m c), (h c).2⟩)
    (Cert.Kernel2Ideal.Body.run_blocks m ρ)

end Cert.Kernel2Ideal.Body

end
-- ==== Proof.Reference2Ideal.Stages.lean ====
/- The reference of the input norm and projections read element by element: its printed terms cut in stages, each read at an index. -/
module

public import proofs.«01_k».proof.Proof.Gen.Reference2Ideal.Run
public import proofs.«01_k».proof.Proof.Projections
public import Idealize.ShloMosaic.Lib.Pointwise

@[expose] public section

set_option maxRecDepth 16384

noncomputable section

namespace Cert.Reference2Ideal.Stages

open Cert.Reference2Ideal Cert.Reference2Ideal.Gen
open Idealize.ShloMosaic Idealize.ShloMosaic.TcCoe Idealize.ShloMosaic.Tactic
open Cert.Rows Cert.Projections

variable {F : FTy → Type} [FloatOps F]

/-- The mean of every position's row. -/
def means (x : FVec F S16x4096x1024 .f32) : FVec F S16x4096x1 .f32 :=
  Host.divf (broadcastInDim S16x4096x1 ![0, 1] bcast_S16x4096_S16x4096x1_0_1
    (Host.reduceAdd x (constant S_ .f32 0x00000000#32) reducesTo_S16x4096x1024_S16x4096_d2 h_S_))
    (broadcastInDim S16x4096x1 ![] bcast_S_S16x4096x1 (constant S_ .f32 0x44800000#32))

/-- Every row less its mean. -/
def centred (x : FVec F S16x4096x1024 .f32) : FVec F S16x4096x1024 .f32 :=
  subf x (broadcastInDim S16x4096x1024 ![0, 1, 2] bcast_S16x4096x1_S16x4096x1024_0_1_2 (means x))

/-- The layer norm of every position's row. -/
def layer (x : FVec F S16x4096x1024 .f32) (g b : FVec F S1024 .f32) : FVec F S16x4096x1024 .f32 :=
  addf (mulf (mulf (centred x) (broadcastInDim S16x4096x1024 ![0, 1, 2] bcast_S16x4096x1_S16x4096x1024_0_1_2
      (Host.rsqrt (addf (means (mulf (centred x) (centred x)))
        (broadcastInDim S16x4096x1 ![] bcast_S_S16x4096x1 (constant S_ .f32 0x3727C5AC#32))))))
    (broadcastInDim S16x4096x1024 ![0, 1, 2] bcast_S1x1x1024_S16x4096x1024_0_1_2 (broadcastInDim S1x1x1024 ![2] bcast_S1024_S1x1x1024_2 g)))
    (broadcastInDim S16x4096x1024 ![0, 1, 2] bcast_S1x1x1024_S16x4096x1024_0_1_2 (broadcastInDim S1x1x1024 ![2] bcast_S1024_S1x1x1024_2 b))

/-- The input projection. -/
def projected (h : FVec F S16x4096x1024 .f32) (w : FVec F S1x1024x1952 .f32) : FVec F S16x4096x1952 .f32 :=
  Host.dotGeneral dot_S16x4096x1024_S1024x1952_S16x4096x1952_2_0_01_1_n_n none h (shapeCast _ w shapeCasts_S1x1024x1952_S1024x1952)

/-- The columns of the queries' latent. -/
def queryLatent (p : FVec F S16x4096x1952 .f32) : FVec F S16x4096x256 .f32 :=
  extractStridedSlice S16x4096x256 ![0, 0, 0] p slices_S16x4096x1952_S16x4096x256_0_0_0

/-- The columns of the latent of keys and values. -/
def keyLatent (p : FVec F S16x4096x1952 .f32) : FVec F S16x4096x128 .f32 :=
  extractStridedSlice S16x4096x128 ![0, 0, 256] p slices_S16x4096x1952_S16x4096x128_0_0_256

/-- The columns that the keys of all heads share, before the rotation. -/
def shared (p : FVec F S16x4096x1952 .f32) : FVec F S16x4096x32 .f32 :=
  extractStridedSlice S16x4096x32 ![0, 0, 384] p slices_S16x4096x1952_S16x4096x32_0_0_384

/-- The queries of every head, from their latent. -/
def queries (y : FVec F S16x4096x256 .f32) (g : FVec F S1x256 .f32) (w : FVec F S1x256x768 .f32) : FVec F S16x4096x8x96 .f32 :=
  shapeCast _ (Host.dotGeneral dot_S16x4096x256_S256x768_S16x4096x768_2_0_01_1_n_n none
    (mulf (mulf y (broadcastInDim S16x4096x256 ![0, 1, 2] bcast_S16x4096x1_S16x4096x256_0_1_2
      (Host.rsqrt (addf (Host.divf (broadcastInDim S16x4096x1 ![0, 1] bcast_S16x4096_S16x4096x1_0_1
          (Host.reduceAdd (mulf y y) (constant S_ .f32 0x00000000#32) reducesTo_S16x4096x256_S16x4096_d2 h_S_))
        (broadcastInDim S16x4096x1 ![] bcast_S_S16x4096x1 (constant S_ .f32 0x43800000#32)))
        (broadcastInDim S16x4096x1 ![] bcast_S_S16x4096x1 (constant S_ .f32 0x358637BD#32))))))
    (broadcastInDim S16x4096x256 ![0, 1, 2] bcast_S1x1x256_S16x4096x256_0_1_2
      (broadcastInDim S1x1x256 ![2] bcast_S256_S1x1x256_2 (shapeCast _ g shapeCasts_S1x256_S256))))
    (shapeCast _ w shapeCasts_S1x256x768_S256x768)) shapeCasts_S16x4096x768_S16x4096x8x96

/-- The keys and values of every head, from their latent. -/
def keysValues (y : FVec F S16x4096x128 .f32) (g : FVec F S1x128 .f32) (w : FVec F S1x128x1024 .f32) : FVec F S16x4096x8x128 .f32 :=
  shapeCast _ (Host.dotGeneral dot_S16x4096x128_S128x1024_S16x4096x1024_2_0_01_1_n_n none
    (mulf (mulf y (broadcastInDim S16x4096x128 ![0, 1, 2] bcast_S16x4096x1_S16x4096x128_0_1_2
      (Host.rsqrt (addf (Host.divf (broadcastInDim S16x4096x1 ![0, 1] bcast_S16x4096_S16x4096x1_0_1
          (Host.reduceAdd (mulf y y) (constant S_ .f32 0x00000000#32) reducesTo_S16x4096x128_S16x4096_d2 h_S_))
        (broadcastInDim S16x4096x1 ![] bcast_S_S16x4096x1 (constant S_ .f32 0x43000000#32)))
        (broadcastInDim S16x4096x1 ![] bcast_S_S16x4096x1 (constant S_ .f32 0x358637BD#32))))))
    (broadcastInDim S16x4096x128 ![0, 1, 2] bcast_S1x1x128_S16x4096x128_0_1_2
      (broadcastInDim S1x1x128 ![2] bcast_S128_S1x1x128_2 (shapeCast _ g shapeCasts_S1x128_S128))))
    (shapeCast _ w shapeCasts_S1x128x1024_S128x1024)) shapeCasts_S16x4096x1024_S16x4096x8x128

/-- The angle of every position and frequency. -/
def angles : FVec F S4096x16 .f32 :=
  mulf (broadcastInDim S4096x16 ![0, 1] bcast_S4096x1_S4096x16_0_1 (broadcastInDim S4096x1 ![0] bcast_S4096_S4096x1_0
      (sitofp .f32 (iotaInDim S4096 32 0))))
    (broadcastInDim S4096x16 ![0, 1] bcast_S1x16_S4096x16_0_1 (broadcastInDim S1x16 ![1] bcast_S16_S1x16_1
      (Host.divf (broadcastInDim S16 ![] bcast_S_S16 (constant S_ .f32 0x3F800000#32))
        (Host.powf (broadcastInDim S16 ![] bcast_S_S16 (constant S_ .f32 0x461C4000#32))
          (Host.divf (addf (broadcastInDim S16 ![] bcast_S_S16 (constant S_ .f32 0x00000000#32))
              (mulf (broadcastInDim S16 ![] bcast_S_S16 (constant S_ .f32 0x40000000#32)) (sitofp .f32 (iotaInDim S16 32 0))))
            (broadcastInDim S16 ![] bcast_S_S16 (constant S_ .f32 0x42000000#32)))))))

/-- A table of angles for every head. -/
def perHead (t : FVec F S4096x16 .f32) : FVec F S16x4096x8x16 .f32 :=
  broadcastInDim S16x4096x8x16 ![0, 1, 2, 3] bcast_S1x4096x1x16_S16x4096x8x16_0_1_2_3
    (broadcastInDim S1x4096x1x16 ![1, 2, 3] bcast_S4096x1x16_S1x4096x1x16_1_2_3 (broadcastInDim S4096x1x16 ![0, 2] bcast_S4096x16_S4096x1x16_0_2 t))

/-- A table of angles for the shared columns. -/
def perBatch (t : FVec F S4096x16 .f32) : FVec F S16x4096x16 .f32 :=
  broadcastInDim S16x4096x16 ![0, 1, 2] bcast_S1x4096x16_S16x4096x16_0_1_2 (broadcastInDim S1x4096x16 ![1, 2] bcast_S4096x16_S1x4096x16_1_2 t)

/-- The rotation of the last columns of the queries. -/
def rotatedHeads (q : FVec F S16x4096x8x32 .f32) (cs sn : FVec F S4096x16 .f32) : FVec F S16x4096x8x32 .f32 :=
  concatenate S16x4096x8x32 3 [⟨S16x4096x8x16, (subf
      (mulf (extractStridedSlice S16x4096x8x16 ![0, 0, 0, 0] q slices_S16x4096x8x32_S16x4096x8x16_0_0_0_0) (perHead cs))
      (mulf (extractStridedSlice S16x4096x8x16 ![0, 0, 0, 16] q slices_S16x4096x8x32_S16x4096x8x16_0_0_0_16) (perHead sn)))⟩,
    ⟨S16x4096x8x16, (addf
      (mulf (extractStridedSlice S16x4096x8x16 ![0, 0, 0, 0] q slices_S16x4096x8x32_S16x4096x8x16_0_0_0_0) (perHead sn))
      (mulf (extractStridedSlice S16x4096x8x16 ![0, 0, 0, 16] q slices_S16x4096x8x32_S16x4096x8x16_0_0_0_16) (perHead cs)))⟩]
    concatenates_S16x4096x8x16_S16x4096x8x16_S16x4096x8x32_d3

/-- The rotation of the shared columns. -/
def rotatedShared (k : FVec F S16x4096x32 .f32) (cs sn : FVec F S4096x16 .f32) : FVec F S16x4096x32 .f32 :=
  concatenate S16x4096x32 2 [⟨S16x4096x16, (subf
      (mulf (extractStridedSlice S16x4096x16 ![0, 0, 0] k slices_S16x4096x32_S16x4096x16_0_0_0) (perBatch cs))
      (mulf (extractStridedSlice S16x4096x16 ![0, 0, 16] k slices_S16x4096x32_S16x4096x16_0_0_16) (perBatch sn)))⟩,
    ⟨S16x4096x16, (addf
      (mulf (extractStridedSlice S16x4096x16 ![0, 0, 0] k slices_S16x4096x32_S16x4096x16_0_0_0) (perBatch sn))
      (mulf (extractStridedSlice S16x4096x16 ![0, 0, 16] k slices_S16x4096x32_S16x4096x16_0_0_16) (perBatch cs)))⟩]
    concatenates_S16x4096x16_S16x4096x16_S16x4096x32_d2

/-- The first result: the scaled queries in their slots. -/
def querySlots (q : FVec F S16x4096x8x96 .f32) (cs sn : FVec F S4096x16 .f32) : FVec F S65536x1024 .bf16 :=
  truncf .bf16 (shapeCast _ (pad S16x4096x8x128 ![0, 0, 0, 0] ![0, 0, 0, 32] ![0, 0, 0, 0] (mulf
    (concatenate S16x4096x8x96 3 [⟨S16x4096x8x64, (extractStridedSlice S16x4096x8x64 ![0, 0, 0, 0] q slices_S16x4096x8x96_S16x4096x8x64_0_0_0_0)⟩,
      ⟨S16x4096x8x32, (rotatedHeads (extractStridedSlice S16x4096x8x32 ![0, 0, 0, 64] q slices_S16x4096x8x96_S16x4096x8x32_0_0_0_64) cs sn)⟩]
      concatenates_S16x4096x8x64_S16x4096x8x32_S16x4096x8x96_d3)
    (broadcastInDim S16x4096x8x96 ![] bcast_S_S16x4096x8x96 (constant S_ .f32 0x3E16C740#32))) (sitofp .f32 (constantI S_ 32 0#32))
    pads_S16x4096x8x96_S16x4096x8x128_000_000_000_0320 h_S_) shapeCasts_S16x4096x8x128_S65536x1024) bitsLt_bf16_f32

/-- The second result: the keys in their slots. -/
def keySlots (kv : FVec F S16x4096x8x128 .f32) (r : FVec F S16x4096x32 .f32) : FVec F S65536x1024 .bf16 :=
  truncf .bf16 (shapeCast _ (pad S16x4096x8x128 ![0, 0, 0, 0] ![0, 0, 0, 32] ![0, 0, 0, 0]
    (concatenate S16x4096x8x96 3 [⟨S16x4096x8x64, (extractStridedSlice S16x4096x8x64 ![0, 0, 0, 0] kv slices_S16x4096x8x128_S16x4096x8x64_0_0_0_0)⟩,
      ⟨S16x4096x8x32, (broadcastInDim S16x4096x8x32 ![0, 1, 2, 3] bcast_S16x4096x1x32_S16x4096x8x32_0_1_2_3
        (broadcastInDim S16x4096x1x32 ![0, 1, 3] bcast_S16x4096x32_S16x4096x1x32_0_1_3 r))⟩]
      concatenates_S16x4096x8x64_S16x4096x8x32_S16x4096x8x96_d3) (sitofp .f32 (constantI S_ 32 0#32))
    pads_S16x4096x8x96_S16x4096x8x128_000_000_000_0320 h_S_) shapeCasts_S16x4096x8x128_S65536x1024) bitsLt_bf16_f32

/-- The third result: the values by channel. -/
def valueChannels (kv : FVec F S16x4096x8x128 .f32) : FVec F S512x65536 .bf16 :=
  truncf .bf16 (transpose S512x65536 [1, 0] (shapeCast _ (extractStridedSlice S16x4096x8x64 ![0, 0, 0, 64] kv
    slices_S16x4096x8x128_S16x4096x8x64_0_0_0_64) shapeCasts_S16x4096x8x64_S65536x512) transposes_S65536x512_S512x65536_1_0) bitsLt_bf16_f32

/-- The Hyena columns with a row of zeros before and after every sequence. -/
def padded (p : FVec F S16x4096x1952 .f32) : FVec F S16x4098x1536 .f32 :=
  pad S16x4098x1536 ![0, 1, 0] ![0, 1, 0] ![0, 0, 0] (extractStridedSlice S16x4096x1536 ![0, 0, 416] p slices_S16x4096x1952_S16x4096x1536_0_0_416)
    (sitofp .f32 (constantI S_ 32 0#32)) pads_S16x4096x1536_S16x4098x1536_000_110_000 h_S_

/-- A row of numbers at every position. -/
def everywhere (v : FVec F S1536 .f32) : FVec F S16x4096x1536 .f32 :=
  broadcastInDim S16x4096x1536 ![0, 1, 2] bcast_S1x1x1536_S16x4096x1536_0_1_2 (broadcastInDim S1x1x1536 ![2] bcast_S1536_S1x1x1536_2 v)

/-- The short filter over every sequence. -/
def filtered (u : FVec F S16x4098x1536 .f32) (w : FVec F S1x3x1536 .f32) (b : FVec F S1x1536 .f32) : FVec F S16x4096x1536 .f32 :=
  addf (addf (addf (everywhere (shapeCast _ b shapeCasts_S1x1536_S1536))
    (mulf (extractStridedSlice S16x4096x1536 ![0, 0, 0] u slices_S16x4098x1536_S16x4096x1536_0_0_0)
      (everywhere (shapeCast _ (extractStridedSlice S1x1x1536 ![0, 0, 0] w slices_S1x3x1536_S1x1x1536_0_0_0) shapeCasts_S1x1x1536_S1536))))
    (mulf (extractStridedSlice S16x4096x1536 ![0, 1, 0] u slices_S16x4098x1536_S16x4096x1536_0_1_0)
      (everywhere (shapeCast _ (extractStridedSlice S1x1x1536 ![0, 1, 0] w slices_S1x3x1536_S1x1x1536_0_1_0) shapeCasts_S1x1x1536_S1536))))
    (mulf (extractStridedSlice S16x4096x1536 ![0, 2, 0] u slices_S16x4098x1536_S16x4096x1536_0_2_0)
      (everywhere (shapeCast _ (extractStridedSlice S1x1x1536 ![0, 2, 0] w slices_S1x3x1536_S1x1x1536_0_2_0) shapeCasts_S1x1x1536_S1536)))

/-- The fourth result: the filtered columns by channel, in blocks of 256 positions. -/
def filteredChannels (u : FVec F S16x4096x1536 .f32) : FVec F S1536x65536 .bf16 :=
  truncf .bf16 (shapeCast _ (transpose S1536x16x16x256 [3, 1, 0, 2] (shapeCast _ u shapeCasts_S16x4096x1536_S16x16x256x1536)
    transposes_S16x16x256x1536_S1536x16x16x256_3_1_0_2) shapeCasts_S1536x16x16x256_S1536x65536) bitsLt_bf16_f32

section Printed

variable (m : (ℓ : Loc nD τ sig) → Buf (Elt F) ℓ) (c : Dev nD)

/-- The projected columns from a device's memory. -/
def proj : FVec F S16x4096x1952 .f32 :=
  projected (layer (m ((c.tc : Thread nD τ).loc main_arg0)) (m ((c.tc : Thread nD τ).loc main_arg1)) (m ((c.tc : Thread nD τ).loc main_arg2)))
    (m ((c.tc : Thread nD τ).loc main_arg3))

/-- The keys and values from a device's memory. -/
def kv : FVec F S16x4096x8x128 .f32 :=
  keysValues (keyLatent (proj m c)) (m ((c.tc : Thread nD τ).loc main_arg6)) (m ((c.tc : Thread nD τ).loc main_arg7))

/-- The first result from a device's memory. -/
def result0 : FVec F S65536x1024 .bf16 :=
  querySlots (queries (queryLatent (proj m c)) (m ((c.tc : Thread nD τ).loc main_arg4)) (m ((c.tc : Thread nD τ).loc main_arg5)))
    (Host.cos angles) (Host.sin angles)

/-- The second result from a device's memory. -/
def result1 : FVec F S65536x1024 .bf16 := keySlots (kv m c) (rotatedShared (shared (proj m c)) (Host.cos angles) (Host.sin angles))

/-- The third result from a device's memory. -/
def result2 : FVec F S512x65536 .bf16 := valueChannels (kv m c)

/-- The fourth result from a device's memory. -/
def result3 : FVec F S1536x65536 .bf16 :=
  filteredChannels (filtered (padded (proj m c)) (m ((c.tc : Thread nD τ).loc main_arg8)) (m ((c.tc : Thread nD τ).loc main_arg9)))

/-- Every run of the reference ends with these results, its arguments as launched. -/
theorem run_result (ρ : Dev nD → PrngReg) : θ_run defs (onTc (τ := τ) (main (F := F))) ⟨m, fun _ => 0, ρ⟩ fun r => ∀ c : Dev nD,
    (r.2.mem ((c.tc : Thread nD τ).loc main_v163) = result0 m c
    ∧ r.2.mem ((c.tc : Thread nD τ).loc main_v164) = result1 m c
    ∧ r.2.mem ((c.tc : Thread nD τ).loc main_v165) = result2 m c
    ∧ r.2.mem ((c.tc : Thread nD τ).loc main_v166) = result3 m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9) :=
  (θ_run defs _ _).mono (fun _ h c => ⟨⟨(h c).1, (h c).2.1, (h c).2.2.1, (h c).2.2.2.1⟩, (h c).2.2.2.2⟩)
    (Cert.Reference2Ideal.Value.run (F := F) m ρ)

end Printed

theorem means_apply (x : FVec Ideal S16x4096x1024 .f32) (b : Fin 16) (i : Fin 4096) :
    (means x (ix3 b i 0) : EReal) = mean fun d => x (ix3 b i d) := by
  pointwise [means, mean]

theorem centred_apply (x : FVec Ideal S16x4096x1024 .f32) (b : Fin 16) (i : Fin 4096) (d : Fin 1024) :
    (centred x (ix3 b i d) : EReal) = x (ix3 b i d) - mean fun d => x (ix3 b i d) := by
  rw [← means_apply]
  pointwise [centred]

theorem layer_apply (x : FVec Ideal S16x4096x1024 .f32) (g o : FVec Ideal S1024 .f32) (b : Fin 16) (i : Fin 4096) (d : Fin 1024) :
    (layer x g o (ix3 b i d) : EReal) = layerNorm (fun d => x (ix3 b i d)) (fun d => g (ix1 d)) (fun d => o (ix1 d)) d := by
  have h : (layer x g o (ix3 b i d) : EReal) = centred x (ix3 b i d)
      * Ideal.rsqrt (means (mulf (centred x) (centred x)) (ix3 b i 0) + Ideal.ofBits FTy.f32 0x3727C5AC#32 : EReal) * g (ix1 d) + o (ix1 d) := by
    pointwise [layer]
  have hm : ∀ d, ((mulf (centred x) (centred x)) (ix3 b i d) : EReal) = centred x (ix3 b i d) * centred x (ix3 b i d) := fun _ => rfl
  rw [h, means_apply]
  simp only [hm, centred_apply]
  rfl

theorem projected_apply (h : FVec Ideal S16x4096x1024 .f32) (w : FVec Ideal S1x1024x1952 .f32) (b : Fin 16) (i : Fin 4096) (k : Fin 1952) :
    (projected h w (ix3 b i k) : EReal) = ∑ d : Fin 1024, h (ix3 b i d) * w (ix3 0 d k) := by
  pointwise [projected]

theorem queries_apply (y : FVec Ideal S16x4096x256 .f32) (g : FVec Ideal S1x256 .f32) (w : FVec Ideal S1x256x768 .f32)
    (b : Fin 16) (i : Fin 4096) (h : Fin 8) (e : Fin 96) :
    (queries y g w (ix4 b i h e) : EReal) = ∑ k : Fin 256,
      rmsNorm (Ideal.ofBits FTy.f32 0x43800000#32) (fun k => y (ix3 b i k)) (fun k => g (ix2 0 k)) k * w (ix3 0 k ⟨h * 96 + e, by omega⟩) := by
  pointwise [queries, rmsNorm]

theorem keysValues_apply (y : FVec Ideal S16x4096x128 .f32) (g : FVec Ideal S1x128 .f32) (w : FVec Ideal S1x128x1024 .f32)
    (b : Fin 16) (i : Fin 4096) (h : Fin 8) (e : Fin 128) :
    (keysValues y g w (ix4 b i h e) : EReal) = ∑ k : Fin 128,
      rmsNorm (Ideal.ofBits FTy.f32 0x43000000#32) (fun k => y (ix3 b i k)) (fun k => g (ix2 0 k)) k * w (ix3 0 k ⟨h * 128 + e, by omega⟩) := by
  pointwise [keysValues, rmsNorm]

theorem angles_apply (i : Fin 4096) (f : Fin 16) : ((angles : FVec Ideal S4096x16 .f32) (ix2 i f) : EReal) = angle i f := by
  pointwise [angles, angle]

theorem valueChannels_apply (kv : FVec Ideal S16x4096x8x128 .f32) (b : Fin 16) (i : Fin 4096) (h : Fin 8) (e : Fin 64) :
    (valueChannels kv (ix2 ⟨h * 64 + e, by omega⟩ ⟨b * 4096 + i, by omega⟩) : EReal) = kv (ix4 b i h ⟨64 + e, by omega⟩) := by
  pointwise [valueChannels]

end Cert.Reference2Ideal.Stages

end
-- ==== Proof.Reference2Ideal.Slots.lean ====
/- The results of the reference of the input norm and projections element by element: the slots of queries and keys, the filtered columns. -/
module

public import proofs.«01_k».proof.Proof.Reference2Ideal.Stages
public import Idealize.ShloMosaic.Lib.Pointwise

@[expose] public section

set_option maxRecDepth 16384

noncomputable section

namespace Cert.Reference2Ideal.Stages

open Cert.Reference2Ideal Cert.Reference2Ideal.Gen
open Idealize.ShloMosaic Idealize.ShloMosaic.TcCoe Idealize.ShloMosaic.Tactic
open Cert.Rows Cert.Projections

theorem querySlots_apply (q : FVec Ideal S16x4096x8x96 .f32) (cs sn : FVec Ideal S4096x16 .f32) (b : Fin 16) (i : Fin 4096) (h : Fin 8) (e : Fin 128) :
    (querySlots q cs sn (ix2 ⟨b * 4096 + i, by omega⟩ ⟨h * 128 + e, by omega⟩) : EReal)
      = querySlot (fun e => q (ix4 b i h e)) (fun f => cs (ix2 i f)) (fun f => sn (ix2 i f)) e := by
  pointwise [querySlots, rotatedHeads, perHead, querySlot]
  by_cases h1 : e.val < 64
  · simp only [dif_pos h1, dif_pos (show e.val < 96 by omega)]
    rfl
  by_cases h2 : e.val < 80
  · simp only [dif_neg h1, dif_pos h2, dif_pos (show e.val < 96 by omega), dif_pos (show e.val - 64 < 16 by omega),
      show 64 + (e.val - 64) = e.val by omega, show 64 + (16 + (e.val - 64)) = e.val + 16 by omega]
    rfl
  by_cases h3 : e.val < 96
  · simp only [dif_neg h1, dif_neg h2, dif_pos h3, dif_neg (show ¬e.val - 64 < 16 by omega), show e.val - 64 - 16 = e.val - 80 by omega,
      show 64 + (e.val - 80) = e.val - 16 by omega, show 64 + (16 + (e.val - 80)) = e.val by omega]
    rfl
  · simp only [dif_neg h1, dif_neg h2, dif_neg h3]
    exact sitofp_zero

theorem keySlots_apply (kv : FVec Ideal S16x4096x8x128 .f32) (k : FVec Ideal S16x4096x32 .f32) (cs sn : FVec Ideal S4096x16 .f32)
    (b : Fin 16) (i : Fin 4096) (h : Fin 8) (e : Fin 128) :
    (keySlots kv (rotatedShared k cs sn) (ix2 ⟨b * 4096 + i, by omega⟩ ⟨h * 128 + e, by omega⟩) : EReal)
      = keySlot (fun e => kv (ix4 b i h ⟨e, by omega⟩)) (fun e => k (ix3 b i e)) (fun f => cs (ix2 i f)) (fun f => sn (ix2 i f)) e := by
  pointwise [keySlots, rotatedShared, perBatch, keySlot]
  by_cases h1 : e.val < 64
  · simp only [dif_pos h1, dif_pos (show e.val < 96 by omega)]
  by_cases h2 : e.val < 80
  · simp only [dif_neg h1, dif_pos h2, dif_pos (show e.val < 96 by omega), dif_pos (show e.val - 64 < 16 by omega),
      show 16 + (e.val - 64) = e.val - 48 by omega]
  by_cases h3 : e.val < 96
  · simp only [dif_neg h1, dif_neg h2, dif_pos h3, dif_neg (show ¬e.val - 64 < 16 by omega), show e.val - 64 - 16 = e.val - 80 by omega,
      show 16 + (e.val - 80) = e.val - 64 by omega]
  · simp only [dif_neg h1, dif_neg h2, dif_neg h3]
    exact sitofp_zero

theorem filteredChannels_apply (p : FVec Ideal S16x4096x1952 .f32) (w : FVec Ideal S1x3x1536 .f32) (g : FVec Ideal S1x1536 .f32)
    (k : Fin 1536) (j : Fin 16) (b : Fin 16) (r : Fin 256) :
    (filteredChannels (filtered (padded p) w g) (ix2 k ⟨(j * 16 + b) * 256 + r, by omega⟩) : EReal)
      = taps (g (ix2 0 k)) (fun t => w (ix3 0 t k)) (fun i => p (ix3 b i ⟨416 + k, by omega⟩)) ⟨j * 256 + r, by omega⟩ := by
  pointwise [filteredChannels, filtered, padded, everywhere, taps]
  have hi : j.val * 256 + r.val < 4096 := by omega
  have edge : ∀ (P : Prop) [Decidable P] (a : P → EReal), (if h : P then a h else (FloatOps.sitofp (F := Ideal) FTy.f32 (0#32) : EReal)) = if h : P then a h else 0 := by
    intro P _ a
    split
    · rfl
    · exact sitofp_zero
  have before : (1 ≤ j.val * 256 + r.val ∧ j.val * 256 + r.val - 1 < 4096) = (0 < j.val * 256 + r.val) := by
    apply propext; omega
  have after : (1 ≤ 2 + (j.val * 256 + r.val) ∧ j.val * 256 + r.val + 1 < 4096) = (j.val * 256 + r.val + 1 < 4096) := by
    apply propext; omega
  simp only [dif_pos hi, before, after, show 2 + (j.val * 256 + r.val) - 1 = j.val * 256 + r.val + 1 by omega]
  exact congrArg₂ (· + ·) (congrArg₂ (· + ·) (congrArg (g (ix2 0 k) + · * w (ix3 0 0 k)) (edge _ _)) rfl) (congrArg (· * w (ix3 0 2 k)) (edge _ _))

end Cert.Reference2Ideal.Stages

end
-- ==== Proof.Algebraic2.lean ====
/- The projecting call and its reference, both idealized, return the same arrays. -/
module

public import proofs.«01_k».proof.Defs
public import proofs.«01_k».proof.Proof.Gen.Kernel2Ideal
public import proofs.«01_k».proof.Proof.Gen.Reference2Ideal
public import proofs.«01_k».proof.Proof.Gen.Reference2Ideal.Run
public import proofs.«01_k».proof.Proof.Kernel2Ideal.Value
public import proofs.«01_k».proof.Proof.Reference2Ideal.Slots

@[expose] public section

noncomputable section

namespace Cert.Proof

open Idealize.ShloMosaic Idealize.SL.Sem
open Cert.Rows Cert.Projections Cert.Reference2Ideal.Stages

/-- The reference's table of cosines. -/
theorem cosines_apply (i : Fin 4096) (f : Fin 16) : ((Host.cos angles : FVec Ideal Cert.Reference2Ideal.S4096x16 .f32) (ix2 i f) : EReal) = cosine i f :=
  congrArg Ideal.cos (angles_apply i f)

/-- The reference's table of sines. -/
theorem sines_apply (i : Fin 4096) (f : Fin 16) : ((Host.sin angles : FVec Ideal Cert.Reference2Ideal.S4096x16 .f32) (ix2 i f) : EReal) = sine i f :=
  congrArg Ideal.sin (angles_apply i f)

section

variable (m : (ℓ : Loc Cert.Kernel2Ideal.nD Cert.Kernel2Ideal.τ Cert.Kernel2Ideal.sig) → Buf (Elt Ideal) ℓ)
  (m' : (ℓ : Loc Cert.Reference2Ideal.nD Cert.Reference2Ideal.τ Cert.Reference2Ideal.sig) → Buf (Elt Ideal) ℓ) (c : Dev Cert.Kernel2Ideal.nD)
  (h0 : m' ((c.tc : Thread _ Cert.Reference2Ideal.τ).loc Cert.Reference2Ideal.main_arg0) = m ((c.tc : Thread _ Cert.Kernel2Ideal.τ).loc Cert.Kernel2Ideal.main_arg0))
  (h1 : m' ((c.tc : Thread _ Cert.Reference2Ideal.τ).loc Cert.Reference2Ideal.main_arg1) = m ((c.tc : Thread _ Cert.Kernel2Ideal.τ).loc Cert.Kernel2Ideal.main_arg1))
  (h2 : m' ((c.tc : Thread _ Cert.Reference2Ideal.τ).loc Cert.Reference2Ideal.main_arg2) = m ((c.tc : Thread _ Cert.Kernel2Ideal.τ).loc Cert.Kernel2Ideal.main_arg2))
  (h3 : m' ((c.tc : Thread _ Cert.Reference2Ideal.τ).loc Cert.Reference2Ideal.main_arg3) = m ((c.tc : Thread _ Cert.Kernel2Ideal.τ).loc Cert.Kernel2Ideal.main_arg3))

include h0 h1 h2 h3

/-- The reference's projected columns, on the kernel's arguments. -/
theorem projected_reference (b : Fin 16) (i : Fin 4096) (k : Fin 1952) :
    (proj (F := Ideal) m' c (ix3 b i k) : EReal) = Cert.Kernel2Ideal.Body.joinedOf m c b i k := by
  unfold proj Cert.Kernel2Ideal.Body.joinedOf joined
  rw [h0, h1, h2, h3, projected_apply]
  refine Finset.sum_congr rfl fun d _ => ?_
  rw [layer_apply]
  rfl

theorem queryLatent_reference (b : Fin 16) (i : Fin 4096) (k : Fin 256) :
    (queryLatent (proj (F := Ideal) m' c) (ix3 b i k) : EReal) = Cert.Kernel2Ideal.Body.joinedOf m c b i ⟨k, by omega⟩ := by
  refine Eq.trans ?_ (projected_reference m m' c h0 h1 h2 h3 b i ⟨k, by omega⟩)
  pointwise [queryLatent]

theorem keyLatent_reference (b : Fin 16) (i : Fin 4096) (k : Fin 128) :
    (keyLatent (proj (F := Ideal) m' c) (ix3 b i k) : EReal) = Cert.Kernel2Ideal.Body.joinedOf m c b i ⟨256 + k, by omega⟩ := by
  refine Eq.trans ?_ (projected_reference m m' c h0 h1 h2 h3 b i ⟨256 + k, by omega⟩)
  pointwise [keyLatent]

theorem shared_reference (b : Fin 16) (i : Fin 4096) (k : Fin 32) :
    (shared (proj (F := Ideal) m' c) (ix3 b i k) : EReal) = Cert.Kernel2Ideal.Body.joinedOf m c b i ⟨384 + k, by omega⟩ := by
  refine Eq.trans ?_ (projected_reference m m' c h0 h1 h2 h3 b i ⟨384 + k, by omega⟩)
  pointwise [shared]

/-- The reference's keys and values, on the kernel's arguments. -/
theorem keysValues_reference (h6 : m' ((c.tc : Thread _ Cert.Reference2Ideal.τ).loc Cert.Reference2Ideal.main_arg6) = m ((c.tc : Thread _ Cert.Kernel2Ideal.τ).loc Cert.Kernel2Ideal.main_arg6))
    (h7 : m' ((c.tc : Thread _ Cert.Reference2Ideal.τ).loc Cert.Reference2Ideal.main_arg7) = m ((c.tc : Thread _ Cert.Kernel2Ideal.τ).loc Cert.Kernel2Ideal.main_arg7))
    (b : Fin 16) (i : Fin 4096) (h : Fin 8) (e : Fin 128) :
    (kv (F := Ideal) m' c (ix4 b i h e) : EReal)
      = keyHead (Cert.Kernel2Ideal.Body.inputs m c) (Cert.Kernel2Ideal.Body.embGain m c) (Cert.Kernel2Ideal.Body.embOffset m c) (Cert.Kernel2Ideal.Body.inWeight m c)
          (Cert.Kernel2Ideal.Body.keyGain m c) (Cert.Kernel2Ideal.Body.keyWeight m c) b i h e := by
  unfold kv
  rw [h6, h7, keysValues_apply]
  simp only [keyLatent_reference m m' c h0 h1 h2 h3]
  rfl

theorem queries_reference (h4 : m' ((c.tc : Thread _ Cert.Reference2Ideal.τ).loc Cert.Reference2Ideal.main_arg4) = m ((c.tc : Thread _ Cert.Kernel2Ideal.τ).loc Cert.Kernel2Ideal.main_arg4))
    (h5 : m' ((c.tc : Thread _ Cert.Reference2Ideal.τ).loc Cert.Reference2Ideal.main_arg5) = m ((c.tc : Thread _ Cert.Kernel2Ideal.τ).loc Cert.Kernel2Ideal.main_arg5))
    (r : Fin 65536) (k : Fin 1024) :
    (Cert.Reference2Ideal.Stages.result0 (F := Ideal) m' c (ix2 r k) : EReal) = Cert.Kernel2Ideal.Body.queriesOf m c r k := by
  have er : r = ⟨(⟨r / 4096, by omega⟩ : Fin 16) * 4096 + (⟨r % 4096, by omega⟩ : Fin 4096), by simp only []; omega⟩ := Fin.ext (by simp only []; omega)
  have ek : k = ⟨(⟨k / 128, by omega⟩ : Fin 8) * 128 + (⟨k % 128, by omega⟩ : Fin 128), by simp only []; omega⟩ := Fin.ext (by simp only []; omega)
  refine (congrArg₂ (fun r k => (Cert.Reference2Ideal.Stages.result0 (F := Ideal) m' c (ix2 r k) : EReal)) er ek).trans ?_
  unfold Cert.Reference2Ideal.Stages.result0
  refine (querySlots_apply _ _ _ _ _ _ _).trans ?_
  rw [h4, h5]
  simp only [queries_apply, queryLatent_reference m m' c h0 h1 h2 h3, cosines_apply, sines_apply]
  rfl

theorem keys_reference (h6 : m' ((c.tc : Thread _ Cert.Reference2Ideal.τ).loc Cert.Reference2Ideal.main_arg6) = m ((c.tc : Thread _ Cert.Kernel2Ideal.τ).loc Cert.Kernel2Ideal.main_arg6))
    (h7 : m' ((c.tc : Thread _ Cert.Reference2Ideal.τ).loc Cert.Reference2Ideal.main_arg7) = m ((c.tc : Thread _ Cert.Kernel2Ideal.τ).loc Cert.Kernel2Ideal.main_arg7))
    (r : Fin 65536) (k : Fin 1024) :
    (Cert.Reference2Ideal.Stages.result1 (F := Ideal) m' c (ix2 r k) : EReal) = Cert.Kernel2Ideal.Body.keysOf m c r k := by
  have er : r = ⟨(⟨r / 4096, by omega⟩ : Fin 16) * 4096 + (⟨r % 4096, by omega⟩ : Fin 4096), by simp only []; omega⟩ := Fin.ext (by simp only []; omega)
  have ek : k = ⟨(⟨k / 128, by omega⟩ : Fin 8) * 128 + (⟨k % 128, by omega⟩ : Fin 128), by simp only []; omega⟩ := Fin.ext (by simp only []; omega)
  refine (congrArg₂ (fun r k => (Cert.Reference2Ideal.Stages.result1 (F := Ideal) m' c (ix2 r k) : EReal)) er ek).trans ?_
  unfold Cert.Reference2Ideal.Stages.result1
  refine (keySlots_apply _ _ _ _ _ _ _ _).trans ?_
  simp only [keysValues_reference m m' c h0 h1 h2 h3 h6 h7, shared_reference m m' c h0 h1 h2 h3, cosines_apply, sines_apply]
  rfl

theorem values_reference (h6 : m' ((c.tc : Thread _ Cert.Reference2Ideal.τ).loc Cert.Reference2Ideal.main_arg6) = m ((c.tc : Thread _ Cert.Kernel2Ideal.τ).loc Cert.Kernel2Ideal.main_arg6))
    (h7 : m' ((c.tc : Thread _ Cert.Reference2Ideal.τ).loc Cert.Reference2Ideal.main_arg7) = m ((c.tc : Thread _ Cert.Kernel2Ideal.τ).loc Cert.Kernel2Ideal.main_arg7))
    (k : Fin 512) (r : Fin 65536) :
    (Cert.Reference2Ideal.Stages.result2 (F := Ideal) m' c (ix2 k r) : EReal) = Cert.Kernel2Ideal.Body.valuesOf m c k r := by
  have er : r = ⟨(⟨r / 4096, by omega⟩ : Fin 16) * 4096 + (⟨r % 4096, by omega⟩ : Fin 4096), by simp only []; omega⟩ := Fin.ext (by simp only []; omega)
  have ek : k = ⟨(⟨k / 64, by omega⟩ : Fin 8) * 64 + (⟨k % 64, by omega⟩ : Fin 64), by simp only []; omega⟩ := Fin.ext (by simp only []; omega)
  refine (congrArg₂ (fun k r => (Cert.Reference2Ideal.Stages.result2 (F := Ideal) m' c (ix2 k r) : EReal)) ek er).trans ?_
  unfold Cert.Reference2Ideal.Stages.result2
  refine (valueChannels_apply _ _ _ _ _).trans ?_
  exact keysValues_reference m m' c h0 h1 h2 h3 h6 h7 _ _ _ _

theorem filtered_reference (h8 : m' ((c.tc : Thread _ Cert.Reference2Ideal.τ).loc Cert.Reference2Ideal.main_arg8) = m ((c.tc : Thread _ Cert.Kernel2Ideal.τ).loc Cert.Kernel2Ideal.main_arg8))
    (h9 : m' ((c.tc : Thread _ Cert.Reference2Ideal.τ).loc Cert.Reference2Ideal.main_arg9) = m ((c.tc : Thread _ Cert.Kernel2Ideal.τ).loc Cert.Kernel2Ideal.main_arg9))
    (k : Fin 1536) (r : Fin 65536) :
    (Cert.Reference2Ideal.Stages.result3 (F := Ideal) m' c (ix2 k r) : EReal) = Cert.Kernel2Ideal.Body.filteredOf m c k r := by
  have er : r = ⟨((⟨r / 4096, by omega⟩ : Fin 16) * 16 + (⟨r / 256 % 16, by omega⟩ : Fin 16)) * 256 + (⟨r % 256, by omega⟩ : Fin 256),
      by simp only []; omega⟩ := Fin.ext (by simp only []; omega)
  refine (congrArg (fun r => (Cert.Reference2Ideal.Stages.result3 (F := Ideal) m' c (ix2 k r) : EReal)) er).trans ?_
  unfold Cert.Reference2Ideal.Stages.result3
  refine (filteredChannels_apply _ _ _ _ _ _ _).trans ?_
  rw [h8, h9]
  simp only [projected_reference m m' c h0 h1 h2 h3]
  rfl

end

theorem algebraic2 : Cert.algebraic_Kernel2Ideal_Reference2Ideal := by
  intro m ρ m' ρ' _ hag
  refine ⟨fun c => Cert.Kernel2Ideal.Body.result0 m c, fun c => Cert.Kernel2Ideal.Body.result1 m c, fun c => Cert.Kernel2Ideal.Body.result2 m c, fun c => Cert.Kernel2Ideal.Body.result3 m c,
    Cert.Kernel2Ideal.Body.run_result m ρ, ?_⟩
  refine (θ_run Cert.Reference2Ideal.defs _ _).mono (fun r h c => ?_) (Cert.Reference2Ideal.Stages.run_result (F := Ideal) m' ρ')
  obtain ⟨h0, h1, h2, h3, h4, h5, h6, h7, h8, h9⟩ := hag c
  refine ⟨(h c).1.1.trans (funext fun i => ?_), (h c).1.2.1.trans (funext fun i => ?_), (h c).1.2.2.1.trans (funext fun i => ?_),
    (h c).1.2.2.2.trans (funext fun i => ?_), (h c).2⟩
  · obtain ⟨r, k, rfl⟩ : ∃ (r : Fin 65536) (k : Fin 1024), i = ix2 r k := ⟨i 0, i 1, eq_ix2 i⟩
    exact queries_reference m m' c h0 h1 h2 h3 h4 h5 r k
  · obtain ⟨r, k, rfl⟩ : ∃ (r : Fin 65536) (k : Fin 1024), i = ix2 r k := ⟨i 0, i 1, eq_ix2 i⟩
    exact keys_reference m m' c h0 h1 h2 h3 h6 h7 r k
  · obtain ⟨k, r, rfl⟩ : ∃ (k : Fin 512) (r : Fin 65536), i = ix2 k r := ⟨i 0, i 1, eq_ix2 i⟩
    exact values_reference m m' c h0 h1 h2 h3 h6 h7 k r
  · obtain ⟨k, r, rfl⟩ : ∃ (k : Fin 1536) (r : Fin 65536), i = ix2 k r := ⟨i 0, i 1, eq_ix2 i⟩
    exact filtered_reference m m' c h0 h1 h2 h3 h8 h9 k r

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Kernel3
public import proofs.«01_k».proof.Proof.Gen.Kernel3Ideal
public import proofs.«01_k».proof.Proof.Gen.Reference2Ideal
public import proofs.«01_k».proof.Proof.Gen.Reference3Ideal
public import proofs.«01_k».proof.Proof.Gen.Kernel3Ideal.Value
public import proofs.«01_k».proof.Proof.Gen.Reference2Ideal.Run
public import proofs.«01_k».proof.Proof.Gen.Reference3Ideal.Run
public import proofs.«01_k».proof.Proof.Gen.Kernel3.Frame
public import proofs.«01_k».proof.Proof.Gen.Kernel3Ideal.Frame
public import proofs.«01_k».proof.Proof.Kernel.Frame
public import proofs.«01_k».proof.Proof.KernelIdeal.Frame
public import proofs.«01_k».proof.Proof.Kernel2.Frame
public import proofs.«01_k».proof.Proof.Kernel2Ideal.Frame
public import proofs.«01_k».proof.Proof.Algebraic
public import proofs.«01_k».proof.Proof.Algebraic3
public import proofs.«01_k».proof.Proof.Algebraic2
public import Idealize.ShloMosaic.Adequacy
public import Idealize.ShloMosaic.Init

@[expose] public section

noncomputable section

namespace Cert.Proof

open Idealize.ShloMosaic Idealize.SL.Sem

theorem frame_p : Cert.quiescent_Kernel := fun m ρ _ => Cert.Kernel.Body.framed m ρ
theorem frame_pi : Cert.quiescent_KernelIdeal := fun m ρ _ => Cert.KernelIdeal.Body.framed m ρ
theorem frame_ri : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

theorem frame_p2 : Cert.quiescent_Kernel2 := fun m ρ _ => Cert.Kernel2.Body.frame m ρ
theorem frame_pi2 : Cert.quiescent_Kernel2Ideal := fun m ρ _ => Cert.Kernel2Ideal.Body.frame m ρ
theorem frame_ri2 : Cert.quiescent_Reference2Ideal := fun m ρ _ =>
  (θ_run Cert.Reference2Ideal.defs _ _).mono
    (fun r h => ⟨fun c => (h c).2.2.2.2, sem_eq_zero_of_no_sems (by decide) r.2⟩)
    (Cert.Reference2Ideal.Value.run (F := Ideal) m ρ)
theorem frame_p3 : Cert.quiescent_Kernel3 := fun m ρ _ => Cert.Kernel3.Gen.frame m ρ
theorem frame_pi3 : Cert.quiescent_Kernel3Ideal := fun m ρ _ => Cert.Kernel3Ideal.Gen.frame m ρ
theorem frame_ri3 : Cert.quiescent_Reference3Ideal := fun m ρ _ =>
  (θ_run Cert.Reference3Ideal.defs _ _).mono
    (fun r h => ⟨fun c => (h c).2.2.2, sem_eq_zero_of_no_sems (by decide) r.2⟩)
    (Cert.Reference3Ideal.Value.run (F := Ideal) m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    frame_p, frame_pi, frame_ri, frame_p2, frame_pi2, frame_ri2, frame_p3, frame_pi3, frame_ri3,
    trivial, algebraic, trivial, algebraic2, trivial, algebraic3⟩

end Cert.Proof

end
